-- ==== Defs.lean ====
def Pre_KernelIdeal [hPre_bounded : Cert.Pre_bounded.Facts] (m : (ℓ : Loc Cert.KernelIdeal.nD Cert.KernelIdeal.τ Cert.KernelIdeal.sig) → Buf (Elt Ideal) ℓ) : Prop :=
  ∀ c : Dev Cert.KernelIdeal.nD,
    (Cert.Pre_bounded.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_bounded [hPre_bounded : Cert.Pre_bounded.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_bounded.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_KernelIdeal [hKernelIdeal : Cert.KernelIdeal.Facts] [hPre_bounded : Cert.Pre_bounded.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_bounded [hReferenceIdeal : Cert.ReferenceIdeal.Facts] [hPre_bounded : Cert.Pre_bounded.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_bounded m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def algebraic_KernelIdeal_ReferenceIdeal [hKernelIdeal : Cert.KernelIdeal.Facts] [hReferenceIdeal : Cert.ReferenceIdeal.Facts] [hPre_bounded : Cert.Pre_bounded.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_indices) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernelIdeal : Cert.KernelIdeal.Facts) (hReferenceIdeal : Cert.ReferenceIdeal.Facts) (hPre_bounded : Cert.Pre_bounded.Facts),
    quiescent_KernelIdeal (hKernelIdeal := hKernelIdeal) (hPre_bounded := hPre_bounded)
    ∧ quiescent_ReferenceIdeal (hReferenceIdeal := hReferenceIdeal)
    ∧ quiescent_ReferenceIdeal_pre_bounded (hReferenceIdeal := hReferenceIdeal) (hPre_bounded := hPre_bounded)
    ∧ algebraic_KernelIdeal_ReferenceIdeal (hKernelIdeal := hKernelIdeal) (hReferenceIdeal := hReferenceIdeal) (hPre_bounded := hPre_bounded)
-- ==== Pre_bounded.lean ====
abbrev S1024x16 : Shape := ⟨2, ![1024, 16]⟩
abbrev S100000x16 : Shape := ⟨2, ![100000, 16]⟩
abbrev S16x16 : Shape := ⟨2, ![16, 16]⟩
abbrev S16 : Shape := ⟨1, ![16]⟩
abbrev S_ : Shape := ⟨0, ![]⟩

class Facts : Prop where
  bcast_S_S1024x16 : S_.BroadcastsInDim S1024x16 (![] : Fin 0 → Fin S1024x16.rank)
  reducesTo_S1024x16_S_d0_1 : S1024x16.ReducesTo [0, 1] S_
  h_S_ : 0 < S_.numel
  bcast_S_S100000x16 : S_.BroadcastsInDim S100000x16 (![] : Fin 0 → Fin S100000x16.rank)
  reducesTo_S100000x16_S_d0_1 : S100000x16.ReducesTo [0, 1] S_
  bcast_S_S16x16 : S_.BroadcastsInDim S16x16 (![] : Fin 0 → Fin S16x16.rank)
  reducesTo_S16x16_S_d0_1 : S16x16.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_v13 : IVec S_ 1) (main_v16 : IVec S16 1) : IVec S_ 1 :=
  let main_c_5 : IVec S_ 1 := constantI S_ 1 1#1
  let main_v17 : IVec S_ 1 := (fun x v => Host.reduce IntOp.andi x v reducesTo_S16_S_d0 h_S_) main_v16 main_c_5
  let main_v18 : IVec S_ 1 := andi main_v13 main_v17
  main_v18

def fn {F : FTy → Type} [FloatOps F] (main_arg0 : FVec F S1024x16 .f32) (main_arg1 : FVec F S100000x16 .f32) (main_arg2 : FVec F S16x16 .f32) (main_arg3 : FVec F S16 .f32) : IVec S_ 1 :=
  let main_v0 : FVec F S1024x16 .f32 := Host.absf main_arg0
  let main_cst : FVec F S_ .f32 := constant S_ .f32 0x49742400#32
  let main_v1 : FVec F S1024x16 .f32 := broadcastInDim S1024x16 ![] bcast_S_S1024x16 main_cst
  let main_v2 : IVec S1024x16 1 := cmpf .ole main_v0 main_v1
  let main_c : IVec S_ 1 := constantI S_ 1 1#1
  let main_v3 : IVec S_ 1 := (fun x v => Host.reduce IntOp.andi x v reducesTo_S1024x16_S_d0_1 h_S_) main_v2 main_c
  let main_v4 : FVec F S100000x16 .f32 := Host.absf main_arg1
  let main_cst_0 : FVec F S_ .f32 := constant S_ .f32 0x49742400#32
  let main_v5 : FVec F S100000x16 .f32 := broadcastInDim S100000x16 ![] bcast_S_S100000x16 main_cst_0
  let main_v6 : IVec S100000x16 1 := cmpf .ole main_v4 main_v5
  let main_c_1 : IVec S_ 1 := constantI S_ 1 1#1
  let main_v7 : IVec S_ 1 := (fun x v => Host.reduce IntOp.andi x v reducesTo_S100000x16_S_d0_1 h_S_) main_v6 main_c_1
  let main_v8 : IVec S_ 1 := andi main_v3 main_v7
  let main_v9 : FVec F S16x16 .f32 := Host.absf main_arg2
  let main_cst_2 : FVec F S_ .f32 := constant S_ .f32 0x49742400#32
  let main_v10 : FVec F S16x16 .f32 := broadcastInDim S16x16 ![] bcast_S_S16x16 main_cst_2
  let main_v11 : IVec S16x16 1 := cmpf .ole main_v9 main_v10
  let main_c_3 : IVec S_ 1 := constantI S_ 1 1#1
  let main_v12 : IVec S_ 1 := (fun x v => Host.reduce IntOp.andi x v reducesTo_S16x16_S_d0_1 h_S_) main_v11 main_c_3
  let main_v13 : IVec S_ 1 := andi main_v8 main_v12
  let main_v14 : FVec F S16 .f32 := Host.absf main_arg3
  let main_cst_4 : FVec F S_ .f32 := constant S_ .f32 0x49742400#32
  let main_v15 : FVec F S16 .f32 := broadcastInDim S16 ![] bcast_S_S16 main_cst_4
  let main_v16 : IVec S16 1 := cmpf .ole main_v14 main_v15
  fn_part1 (F := F) main_v13 main_v16
-- ==== KernelIdeal.lean ====
abbrev S1024x16 : Shape := ⟨2, ![1024, 16]⟩
abbrev S100000x16 : Shape := ⟨2, ![100000, 16]⟩
abbrev S16x16 : Shape := ⟨2, ![16, 16]⟩
abbrev S16 : Shape := ⟨1, ![16]⟩
abbrev S_ : Shape := ⟨0, ![]⟩
abbrev S352x16 : Shape := ⟨2, ![352, 16]⟩
abbrev S100352x16 : Shape := ⟨2, ![100352, 16]⟩
abbrev S16x100352 : Shape := ⟨2, ![16, 100352]⟩
abbrev S1x16 : Shape := ⟨2, ![1, 16]⟩
abbrev S1024x64 : Shape := ⟨2, ![1024, 64]⟩
abbrev S64x16 : Shape := ⟨2, ![64, 16]⟩
abbrev S64x64 : Shape := ⟨2, ![64, 64]⟩
abbrev S784x64x128 : Shape := ⟨3, ![784, 64, 128]⟩
abbrev S64x896 : Shape := ⟨2, ![64, 896]⟩
abbrev S64x128 : Shape := ⟨2, ![64, 128]⟩
abbrev S64 : Shape := ⟨1, ![64]⟩
abbrev S64x1 : Shape := ⟨2, ![64, 1]⟩
abbrev S64x112 : Shape := ⟨2, ![64, 112]⟩
abbrev S1x1 : Shape := ⟨2, ![1, 1]⟩
abbrev S16x2048 : Shape := ⟨2, ![16, 2048]⟩
abbrev S2048 : Shape := ⟨1, ![2048]⟩
abbrev S1x2048 : Shape := ⟨2, ![1, 2048]⟩
abbrev S64x2048 : Shape := ⟨2, ![64, 2048]⟩
abbrev S1x64x128 : Shape := ⟨3, ![1, 64, 128]⟩
abbrev S1x1x1 : Shape := ⟨3, ![1, 1, 1]⟩
abbrev S1 : Shape := ⟨1, ![1]⟩
abbrev S1x1x128 : Shape := ⟨3, ![1, 1, 128]⟩
abbrev S1x128 : Shape := ⟨2, ![1, 128]⟩
abbrev S1024x50 : Shape := ⟨2, ![1024, 50]⟩

abbrev nBuf : Space → Nat
  | .hbm => 13
  | .vmem => 13
  | .smem => 0
  | _ => 0

abbrev bufTy : (tb : Table) → Fin (tcTables nBuf tb) → BufTy
  | .hbm, ⟨0, _⟩ => ⟨S1024x16, .f32⟩
  | .hbm, ⟨1, _⟩ => ⟨S100000x16, .f32⟩
  | .hbm, ⟨2, _⟩ => ⟨S16x16, .f32⟩
  | .hbm, ⟨3, _⟩ => ⟨S16, .f32⟩
  | .hbm, ⟨4, _⟩ => ⟨S_, .f32⟩
  | .hbm, ⟨5, _⟩ => ⟨S352x16, .f32⟩
  | .hbm, ⟨6, _⟩ => ⟨S100352x16, .f32⟩
  | .hbm, ⟨7, _⟩ => ⟨S16x100352, .f32⟩
  | .hbm, ⟨8, _⟩ => ⟨S1x16, .f32⟩
  | .hbm, ⟨9, _⟩ => ⟨S1024x64, .f32⟩
  | .hbm, ⟨10, _⟩ => ⟨S1024x64, .i32⟩
  | .hbm, ⟨11, _⟩ => ⟨S1024x50, .f32⟩
  | .hbm, ⟨12, _⟩ => ⟨S1024x50, .i32⟩
  | .local _ .vmem, ⟨0, _⟩ => ⟨S64x16, .f32⟩
  | .local _ .vmem, ⟨1, _⟩ => ⟨S64x16, .f32⟩
  | .local _ .vmem, ⟨2, _⟩ => ⟨S16x100352, .f32⟩
  | .local _ .vmem, ⟨3, _⟩ => ⟨S16x16, .f32⟩
  | .local _ .vmem, ⟨4, _⟩ => ⟨S1x16, .f32⟩
  | .local _ .vmem, ⟨5, _⟩ => ⟨S64x64, .f32⟩
  | .local _ .vmem, ⟨6, _⟩ => ⟨S64x64, .f32⟩
  | .local _ .vmem, ⟨7, _⟩ => ⟨S64x64, .i32⟩
  | .local _ .vmem, ⟨8, _⟩ => ⟨S64x64, .i32⟩
  | .local _ .vmem, ⟨9, _⟩ => ⟨S784x64x128, .f32⟩
  | .local _ .vmem, ⟨10, _⟩ => ⟨S64x896, .f32⟩
  | .local _ .vmem, ⟨11, _⟩ => ⟨S64x128, .f32⟩
  | .local _ .vmem, ⟨12, _⟩ => ⟨S64x128, .f32⟩
  | _, _ => ⟨S1024x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_scratch3 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32_2756 : BitVec 32 := 0#32
  let c25_i32 : BitVec 32 := 25#32
  let v6630 : BitVec 32 := Scalar.addi c0_i32_2756 c25_i32
  let c1_i32 : BitVec 32 := 1#32
  ⟨c0_i32_2756, v6630, c1_i32⟩
def k0_off1 (v6658 : BitVec 32) : Fin 3 → Nat :=
  let v6659 : Index := Scalar.indexCast v6658
  let c0_2769 : Index := 0#32
  let c0_2770 : Index := 0#32
  ![v6659.toNat, 0, 0]

def k0_off2 (v6669 : BitVec 32) : Fin 3 → Nat :=
  let v6670 : Index := Scalar.indexCast v6669
  let c1_2774 : Index := 1#32
  let c0_2775 : Index := 0#32
  ![v6670.toNat, 1, 0]

def k0_off3 (v6680 : BitVec 32) : Fin 3 → Nat :=
  let v6681 : Index := Scalar.indexCast v6680
  let c2_2779 : Index := 2#32
  let c0_2780 : Index := 0#32
  ![v6681.toNat, 2, 0]

def k0_off4 (v6691 : BitVec 32) : Fin 3 → Nat :=
  let v6692 : Index := Scalar.indexCast v6691
  let c3_2784 : Index := 3#32
  let c0_2785 : Index := 0#32
  ![v6692.toNat, 3, 0]

def k0_off5 (v6702 : BitVec 32) : Fin 3 → Nat :=
  let v6703 : Index := Scalar.indexCast v6702
  let c4_2789 : Index := 4#32
  let c0_2790 : Index := 0#32
  ![v6703.toNat, 4, 0]

def k0_off6 (v6713 : BitVec 32) : Fin 3 → Nat :=
  let v6714 : Index := Scalar.indexCast v6713
  let c5_2794 : Index := 5#32
  let c0_2795 : Index := 0#32
  ![v6714.toNat, 5, 0]

def k0_off7 (v6724 : BitVec 32) : Fin 3 → Nat :=
  let v6725 : Index := Scalar.indexCast v6724
  let c6_2799 : Index := 6#32
  let c0_2800 : Index := 0#32
  ![v6725.toNat, 6, 0]

def k0_off8 (v6735 : BitVec 32) : Fin 3 → Nat :=
  let v6736 : Index := Scalar.indexCast v6735
  let c7_2804 : Index := 7#32
  let c0_2805 : Index := 0#32
  ![v6736.toNat, 7, 0]

def k0_off9 (v6746 : BitVec 32) : Fin 3 → Nat :=
  let v6747 : Index := Scalar.indexCast v6746
  let c8_2809 : Index := 8#32
  let c0_2810 : Index := 0#32
  ![v6747.toNat, 8, 0]

def k0_off10 (v6757 : BitVec 32) : Fin 3 → Nat :=
  let v6758 : Index := Scalar.indexCast v6757
  let c9_2814 : Index := 9#32
  let c0_2815 : Index := 0#32
  ![v6758.toNat, 9, 0]

def k0_off11 (v6768 : BitVec 32) : Fin 3 → Nat :=
  let v6769 : Index := Scalar.indexCast v6768
  let c10_2819 : Index := 10#32
  let c0_2820 : Index := 0#32
  ![v6769.toNat, 10, 0]

def k0_off12 (v6779 : BitVec 32) : Fin 3 → Nat :=
  let v6780 : Index := Scalar.indexCast v6779
  let c11_2824 : Index := 11#32
  let c0_2825 : Index := 0#32
  ![v6780.toNat, 11, 0]

def k0_off13 (v6790 : BitVec 32) : Fin 3 → Nat :=
  let v6791 : Index := Scalar.indexCast v6790
  let c12_2829 : Index := 12#32
  let c0_2830 : Index := 0#32
  ![v6791.toNat, 12, 0]

def k0_off14 (v6801 : BitVec 32) : Fin 3 → Nat :=
  let v6802 : Index := Scalar.indexCast v6801
  let c13_2834 : Index := 13#32
  let c0_2835 : Index := 0#32
  ![v6802.toNat, 13, 0]

def k0_off15 (v6812 : BitVec 32) : Fin 3 → Nat :=
  let v6813 : Index := Scalar.indexCast v6812
  let c14_2839 : Index := 14#32
  let c0_2840 : Index := 0#32
  ![v6813.toNat, 14, 0]

def k0_off16 (v6823 : BitVec 32) : Fin 3 → Nat :=
  let v6824 : Index := Scalar.indexCast v6823
  let c15_2844 : Index := 15#32
  let c0_2845 : Index := 0#32
  ![v6824.toNat, 15, 0]

def k0_off17 (v6834 : BitVec 32) : Fin 3 → Nat :=
  let v6835 : Index := Scalar.indexCast v6834
  let c16_2849 : Index := 16#32
  let c0_2850 : Index := 0#32
  ![v6835.toNat, 16, 0]

def k0_off18 (v6845 : BitVec 32) : Fin 3 → Nat :=
  let v6846 : Index := Scalar.indexCast v6845
  let c17_2854 : Index := 17#32
  let c0_2855 : Index := 0#32
  ![v6846.toNat, 17, 0]

def k0_off19 (v6856 : BitVec 32) : Fin 3 → Nat :=
  let v6857 : Index := Scalar.indexCast v6856
  let c18_2859 : Index := 18#32
  let c0_2860 : Index := 0#32
  ![v6857.toNat, 18, 0]

def k0_off20 (v6867 : BitVec 32) : Fin 3 → Nat :=
  let v6868 : Index := Scalar.indexCast v6867
  let c19_2864 : Index := 19#32
  let c0_2865 : Index := 0#32
  ![v6868.toNat, 19, 0]

def k0_off21 (v6878 : BitVec 32) : Fin 3 → Nat :=
  let v6879 : Index := Scalar.indexCast v6878
  let c20_2869 : Index := 20#32
  let c0_2870 : Index := 0#32
  ![v6879.toNat, 20, 0]

def k0_off22 (v6889 : BitVec 32) : Fin 3 → Nat :=
  let v6890 : Index := Scalar.indexCast v6889
  let c21_2874 : Index := 21#32
  let c0_2875 : Index := 0#32
  ![v6890.toNat, 21, 0]

def k0_off23 (v6900 : BitVec 32) : Fin 3 → Nat :=
  let v6901 : Index := Scalar.indexCast v6900
  let c22_2879 : Index := 22#32
  let c0_2880 : Index := 0#32
  ![v6901.toNat, 22, 0]

def k0_off24 (v6911 : BitVec 32) : Fin 3 → Nat :=
  let v6912 : Index := Scalar.indexCast v6911
  let c23_2884 : Index := 23#32
  let c0_2885 : Index := 0#32
  ![v6912.toNat, 23, 0]

def k0_off25 (v6922 : BitVec 32) : Fin 3 → Nat :=
  let v6923 : Index := Scalar.indexCast v6922
  let c24_2889 : Index := 24#32
  let c0_2890 : Index := 0#32
  ![v6923.toNat, 24, 0]

def k0_off26 (v6933 : BitVec 32) : Fin 3 → Nat :=
  let v6934 : Index := Scalar.indexCast v6933
  let c25_2894 : Index := 25#32
  let c0_2895 : Index := 0#32
  ![v6934.toNat, 25, 0]

def k0_off27 (v6944 : BitVec 32) : Fin 3 → Nat :=
  let v6945 : Index := Scalar.indexCast v6944
  let c26_2899 : Index := 26#32
  let c0_2900 : Index := 0#32
  ![v6945.toNat, 26, 0]

def k0_off28 (v6955 : BitVec 32) : Fin 3 → Nat :=
  let v6956 : Index := Scalar.indexCast v6955
  let c27_2904 : Index := 27#32
  let c0_2905 : Index := 0#32
  ![v6956.toNat, 27, 0]

def k0_off29 (v6966 : BitVec 32) : Fin 3 → Nat :=
  let v6967 : Index := Scalar.indexCast v6966
  let c28_2909 : Index := 28#32
  let c0_2910 : Index := 0#32
  ![v6967.toNat, 28, 0]

def k0_off30 (v6977 : BitVec 32) : Fin 3 → Nat :=
  let v6978 : Index := Scalar.indexCast v6977
  let c29_2914 : Index := 29#32
  let c0_2915 : Index := 0#32
  ![v6978.toNat, 29, 0]

def k0_off31 (v6988 : BitVec 32) : Fin 3 → Nat :=
  let v6989 : Index := Scalar.indexCast v6988
  let c30_2919 : Index := 30#32
  let c0_2920 : Index := 0#32
  ![v6989.toNat, 30, 0]

def k0_off32 (v6999 : BitVec 32) : Fin 3 → Nat :=
  let v7000 : Index := Scalar.indexCast v6999
  let c31_2924 : Index := 31#32
  let c0_2925 : Index := 0#32
  ![v7000.toNat, 31, 0]

def k0_off33 (v7010 : BitVec 32) : Fin 3 → Nat :=
  let v7011 : Index := Scalar.indexCast v7010
  let c32_2929 : Index := 32#32
  let c0_2930 : Index := 0#32
  ![v7011.toNat, 32, 0]

def k0_off34 (v7021 : BitVec 32) : Fin 3 → Nat :=
  let v7022 : Index := Scalar.indexCast v7021
  let c33_2934 : Index := 33#32
  let c0_2935 : Index := 0#32
  ![v7022.toNat, 33, 0]

def k0_off35 (v7032 : BitVec 32) : Fin 3 → Nat :=
  let v7033 : Index := Scalar.indexCast v7032
  let c34_2939 : Index := 34#32
  let c0_2940 : Index := 0#32
  ![v7033.toNat, 34, 0]

def k0_off36 (v7043 : BitVec 32) : Fin 3 → Nat :=
  let v7044 : Index := Scalar.indexCast v7043
  let c35_2944 : Index := 35#32
  let c0_2945 : Index := 0#32
  ![v7044.toNat, 35, 0]

def k0_off37 (v7054 : BitVec 32) : Fin 3 → Nat :=
  let v7055 : Index := Scalar.indexCast v7054
  let c36_2949 : Index := 36#32
  let c0_2950 : Index := 0#32
  ![v7055.toNat, 36, 0]

def k0_off38 (v7065 : BitVec 32) : Fin 3 → Nat :=
  let v7066 : Index := Scalar.indexCast v7065
  let c37_2954 : Index := 37#32
  let c0_2955 : Index := 0#32
  ![v7066.toNat, 37, 0]

def k0_off39 (v7076 : BitVec 32) : Fin 3 → Nat :=
  let v7077 : Index := Scalar.indexCast v7076
  let c38_2959 : Index := 38#32
  let c0_2960 : Index := 0#32
  ![v7077.toNat, 38, 0]

def k0_off40 (v7087 : BitVec 32) : Fin 3 → Nat :=
  let v7088 : Index := Scalar.indexCast v7087
  let c39_2964 : Index := 39#32
  let c0_2965 : Index := 0#32
  ![v7088.toNat, 39, 0]

def k0_off41 (v7098 : BitVec 32) : Fin 3 → Nat :=
  let v7099 : Index := Scalar.indexCast v7098
  let c40_2969 : Index := 40#32
  let c0_2970 : Index := 0#32
  ![v7099.toNat, 40, 0]

def k0_off42 (v7109 : BitVec 32) : Fin 3 → Nat :=
  let v7110 : Index := Scalar.indexCast v7109
  let c41_2974 : Index := 41#32
  let c0_2975 : Index := 0#32
  ![v7110.toNat, 41, 0]

def k0_off43 (v7120 : BitVec 32) : Fin 3 → Nat :=
  let v7121 : Index := Scalar.indexCast v7120
  let c42_2979 : Index := 42#32
  let c0_2980 : Index := 0#32
  ![v7121.toNat, 42, 0]

def k0_off44 (v7131 : BitVec 32) : Fin 3 → Nat :=
  let v7132 : Index := Scalar.indexCast v7131
  let c43_2984 : Index := 43#32
  let c0_2985 : Index := 0#32
  ![v7132.toNat, 43, 0]

def k0_off45 (v7142 : BitVec 32) : Fin 3 → Nat :=
  let v7143 : Index := Scalar.indexCast v7142
  let c44_2989 : Index := 44#32
  let c0_2990 : Index := 0#32
  ![v7143.toNat, 44, 0]

def k0_off46 (v7153 : BitVec 32) : Fin 3 → Nat :=
  let v7154 : Index := Scalar.indexCast v7153
  let c45_2994 : Index := 45#32
  let c0_2995 : Index := 0#32
  ![v7154.toNat, 45, 0]

def k0_off47 (v7164 : BitVec 32) : Fin 3 → Nat :=
  let v7165 : Index := Scalar.indexCast v7164
  let c46_2999 : Index := 46#32
  let c0_3000 : Index := 0#32
  ![v7165.toNat, 46, 0]

def k0_off48 (v7175 : BitVec 32) : Fin 3 → Nat :=
  let v7176 : Index := Scalar.indexCast v7175
  let c47_3004 : Index := 47#32
  let c0_3005 : Index := 0#32
  ![v7176.toNat, 47, 0]

def k0_off49 (v7186 : BitVec 32) : Fin 3 → Nat :=
  let v7187 : Index := Scalar.indexCast v7186
  let c48_3009 : Index := 48#32
  let c0_3010 : Index := 0#32
  ![v7187.toNat, 48, 0]

def k0_off50 (v7197 : BitVec 32) : Fin 3 → Nat :=
  let v7198 : Index := Scalar.indexCast v7197
  let c49_3014 : Index := 49#32
  let c0_3015 : Index := 0#32
  ![v7198.toNat, 49, 0]

def k0_off51 (v7208 : BitVec 32) : Fin 3 → Nat :=
  let v7209 : Index := Scalar.indexCast v7208
  let c50_3019 : Index := 50#32
  let c0_3020 : Index := 0#32
  ![v7209.toNat, 50, 0]

def k0_off52 (v7219 : BitVec 32) : Fin 3 → Nat :=
  let v7220 : Index := Scalar.indexCast v7219
  let c51_3024 : Index := 51#32
  let c0_3025 : Index := 0#32
  ![v7220.toNat, 51, 0]

def k0_off53 (v7230 : BitVec 32) : Fin 3 → Nat :=
  let v7231 : Index := Scalar.indexCast v7230
  let c52_3029 : Index := 52#32
  let c0_3030 : Index := 0#32
  ![v7231.toNat, 52, 0]

def k0_off54 (v7241 : BitVec 32) : Fin 3 → Nat :=
  let v7242 : Index := Scalar.indexCast v7241
  let c53_3034 : Index := 53#32
  let c0_3035 : Index := 0#32
  ![v7242.toNat, 53, 0]

def k0_off55 (v7252 : BitVec 32) : Fin 3 → Nat :=
  let v7253 : Index := Scalar.indexCast v7252
  let c54_3039 : Index := 54#32
  let c0_3040 : Index := 0#32
  ![v7253.toNat, 54, 0]

def k0_off56 (v7263 : BitVec 32) : Fin 3 → Nat :=
  let v7264 : Index := Scalar.indexCast v7263
  let c55_3044 : Index := 55#32
  let c0_3045 : Index := 0#32
  ![v7264.toNat, 55, 0]

def k0_off57 (v7274 : BitVec 32) : Fin 3 → Nat :=
  let v7275 : Index := Scalar.indexCast v7274
  let c56_3049 : Index := 56#32
  let c0_3050 : Index := 0#32
  ![v7275.toNat, 56, 0]

def k0_off58 (v7285 : BitVec 32) : Fin 3 → Nat :=
  let v7286 : Index := Scalar.indexCast v7285
  let c57_3054 : Index := 57#32
  let c0_3055 : Index := 0#32
  ![v7286.toNat, 57, 0]

def k0_off59 (v7296 : BitVec 32) : Fin 3 → Nat :=
  let v7297 : Index := Scalar.indexCast v7296
  let c58_3059 : Index := 58#32
  let c0_3060 : Index := 0#32
  ![v7297.toNat, 58, 0]

def k0_off60 (v7307 : BitVec 32) : Fin 3 → Nat :=
  let v7308 : Index := Scalar.indexCast v7307
  let c59_3064 : Index := 59#32
  let c0_3065 : Index := 0#32
  ![v7308.toNat, 59, 0]

def k0_off61 (v7318 : BitVec 32) : Fin 3 → Nat :=
  let v7319 : Index := Scalar.indexCast v7318
  let c60_3069 : Index := 60#32
  let c0_3070 : Index := 0#32
  ![v7319.toNat, 60, 0]

def k0_off62 (v7329 : BitVec 32) : Fin 3 → Nat :=
  let v7330 : Index := Scalar.indexCast v7329
  let c61_3074 : Index := 61#32
  let c0_3075 : Index := 0#32
  ![v7330.toNat, 61, 0]

def k0_off63 (v7340 : BitVec 32) : Fin 3 → Nat :=
  let v7341 : Index := Scalar.indexCast v7340
  let c62_3079 : Index := 62#32
  let c0_3080 : Index := 0#32
  ![v7341.toNat, 62, 0]

def k0_off64 (v7351 : BitVec 32) : Fin 3 → Nat :=
  let v7352 : Index := Scalar.indexCast v7351
  let c63_3084 : Index := 63#32
  let c0_3085 : Index := 0#32
  ![v7352.toNat, 63, 0]

def k0_off65 (v7362 : BitVec 32) : Fin 3 → Nat :=
  let v7363 : Index := Scalar.indexCast v7362
  let c0_3089 : Index := 0#32
  let c0_3090 : Index := 0#32
  ![v7363.toNat, 0, 0]

def k0_off66 (v7373 : BitVec 32) : Fin 3 → Nat :=
  let v7374 : Index := Scalar.indexCast v7373
  let c1_3094 : Index := 1#32
  let c0_3095 : Index := 0#32
  ![v7374.toNat, 1, 0]

def k0_off67 (v7384 : BitVec 32) : Fin 3 → Nat :=
  let v7385 : Index := Scalar.indexCast v7384
  let c2_3099 : Index := 2#32
  let c0_3100 : Index := 0#32
  ![v7385.toNat, 2, 0]

def k0_off68 (v7395 : BitVec 32) : Fin 3 → Nat :=
  let v7396 : Index := Scalar.indexCast v7395
  let c3_3104 : Index := 3#32
  let c0_3105 : Index := 0#32
  ![v7396.toNat, 3, 0]

def k0_off69 (v7406 : BitVec 32) : Fin 3 → Nat :=
  let v7407 : Index := Scalar.indexCast v7406
  let c4_3109 : Index := 4#32
  let c0_3110 : Index := 0#32
  ![v7407.toNat, 4, 0]

def k0_off70 (v7417 : BitVec 32) : Fin 3 → Nat :=
  let v7418 : Index := Scalar.indexCast v7417
  let c5_3114 : Index := 5#32
  let c0_3115 : Index := 0#32
  ![v7418.toNat, 5, 0]

def k0_off71 (v7428 : BitVec 32) : Fin 3 → Nat :=
  let v7429 : Index := Scalar.indexCast v7428
  let c6_3119 : Index := 6#32
  let c0_3120 : Index := 0#32
  ![v7429.toNat, 6, 0]

def k0_off72 (v7439 : BitVec 32) : Fin 3 → Nat :=
  let v7440 : Index := Scalar.indexCast v7439
  let c7_3124 : Index := 7#32
  let c0_3125 : Index := 0#32
  ![v7440.toNat, 7, 0]

def k0_off73 (v7450 : BitVec 32) : Fin 3 → Nat :=
  let v7451 : Index := Scalar.indexCast v7450
  let c8_3129 : Index := 8#32
  let c0_3130 : Index := 0#32
  ![v7451.toNat, 8, 0]

def k0_off74 (v7461 : BitVec 32) : Fin 3 → Nat :=
  let v7462 : Index := Scalar.indexCast v7461
  let c9_3134 : Index := 9#32
  let c0_3135 : Index := 0#32
  ![v7462.toNat, 9, 0]

def k0_off75 (v7472 : BitVec 32) : Fin 3 → Nat :=
  let v7473 : Index := Scalar.indexCast v7472
  let c10_3139 : Index := 10#32
  let c0_3140 : Index := 0#32
  ![v7473.toNat, 10, 0]

def k0_off76 (v7483 : BitVec 32) : Fin 3 → Nat :=
  let v7484 : Index := Scalar.indexCast v7483
  let c11_3144 : Index := 11#32
  let c0_3145 : Index := 0#32
  ![v7484.toNat, 11, 0]

def k0_off77 (v7494 : BitVec 32) : Fin 3 → Nat :=
  let v7495 : Index := Scalar.indexCast v7494
  let c12_3149 : Index := 12#32
  let c0_3150 : Index := 0#32
  ![v7495.toNat, 12, 0]

def k0_off78 (v7505 : BitVec 32) : Fin 3 → Nat :=
  let v7506 : Index := Scalar.indexCast v7505
  let c13_3154 : Index := 13#32
  let c0_3155 : Index := 0#32
  ![v7506.toNat, 13, 0]

def k0_off79 (v7516 : BitVec 32) : Fin 3 → Nat :=
  let v7517 : Index := Scalar.indexCast v7516
  let c14_3159 : Index := 14#32
  let c0_3160 : Index := 0#32
  ![v7517.toNat, 14, 0]

def k0_off80 (v7527 : BitVec 32) : Fin 3 → Nat :=
  let v7528 : Index := Scalar.indexCast v7527
  let c15_3164 : Index := 15#32
  let c0_3165 : Index := 0#32
  ![v7528.toNat, 15, 0]

def k0_off81 (v7538 : BitVec 32) : Fin 3 → Nat :=
  let v7539 : Index := Scalar.indexCast v7538
  let c16_3169 : Index := 16#32
  let c0_3170 : Index := 0#32
  ![v7539.toNat, 16, 0]

def k0_off82 (v7549 : BitVec 32) : Fin 3 → Nat :=
  let v7550 : Index := Scalar.indexCast v7549
  let c17_3174 : Index := 17#32
  let c0_3175 : Index := 0#32
  ![v7550.toNat, 17, 0]

def k0_off83 (v7560 : BitVec 32) : Fin 3 → Nat :=
  let v7561 : Index := Scalar.indexCast v7560
  let c18_3179 : Index := 18#32
  let c0_3180 : Index := 0#32
  ![v7561.toNat, 18, 0]

def k0_off84 (v7571 : BitVec 32) : Fin 3 → Nat :=
  let v7572 : Index := Scalar.indexCast v7571
  let c19_3184 : Index := 19#32
  let c0_3185 : Index := 0#32
  ![v7572.toNat, 19, 0]

def k0_off85 (v7582 : BitVec 32) : Fin 3 → Nat :=
  let v7583 : Index := Scalar.indexCast v7582
  let c20_3189 : Index := 20#32
  let c0_3190 : Index := 0#32
  ![v7583.toNat, 20, 0]

def k0_off86 (v7593 : BitVec 32) : Fin 3 → Nat :=
  let v7594 : Index := Scalar.indexCast v7593
  let c21_3194 : Index := 21#32
  let c0_3195 : Index := 0#32
  ![v7594.toNat, 21, 0]

def k0_off87 (v7604 : BitVec 32) : Fin 3 → Nat :=
  let v7605 : Index := Scalar.indexCast v7604
  let c22_3199 : Index := 22#32
  let c0_3200 : Index := 0#32
  ![v7605.toNat, 22, 0]

def k0_off88 (v7615 : BitVec 32) : Fin 3 → Nat :=
  let v7616 : Index := Scalar.indexCast v7615
  let c23_3204 : Index := 23#32
  let c0_3205 : Index := 0#32
  ![v7616.toNat, 23, 0]

def k0_off89 (v7626 : BitVec 32) : Fin 3 → Nat :=
  let v7627 : Index := Scalar.indexCast v7626
  let c24_3209 : Index := 24#32
  let c0_3210 : Index := 0#32
  ![v7627.toNat, 24, 0]

def k0_off90 (v7637 : BitVec 32) : Fin 3 → Nat :=
  let v7638 : Index := Scalar.indexCast v7637
  let c25_3214 : Index := 25#32
  let c0_3215 : Index := 0#32
  ![v7638.toNat, 25, 0]

def k0_off91 (v7648 : BitVec 32) : Fin 3 → Nat :=
  let v7649 : Index := Scalar.indexCast v7648
  let c26_3219 : Index := 26#32
  let c0_3220 : Index := 0#32
  ![v7649.toNat, 26, 0]

def k0_off92 (v7659 : BitVec 32) : Fin 3 → Nat :=
  let v7660 : Index := Scalar.indexCast v7659
  let c27_3224 : Index := 27#32
  let c0_3225 : Index := 0#32
  ![v7660.toNat, 27, 0]

def k0_off93 (v7670 : BitVec 32) : Fin 3 → Nat :=
  let v7671 : Index := Scalar.indexCast v7670
  let c28_3229 : Index := 28#32
  let c0_3230 : Index := 0#32
  ![v7671.toNat, 28, 0]

def k0_off94 (v7681 : BitVec 32) : Fin 3 → Nat :=
  let v7682 : Index := Scalar.indexCast v7681
  let c29_3234 : Index := 29#32
  let c0_3235 : Index := 0#32
  ![v7682.toNat, 29, 0]

def k0_off95 (v7692 : BitVec 32) : Fin 3 → Nat :=
  let v7693 : Index := Scalar.indexCast v7692
  let c30_3239 : Index := 30#32
  let c0_3240 : Index := 0#32
  ![v7693.toNat, 30, 0]

def k0_off96 (v7703 : BitVec 32) : Fin 3 → Nat :=
  let v7704 : Index := Scalar.indexCast v7703
  let c31_3244 : Index := 31#32
  let c0_3245 : Index := 0#32
  ![v7704.toNat, 31, 0]

def k0_off97 (v7714 : BitVec 32) : Fin 3 → Nat :=
  let v7715 : Index := Scalar.indexCast v7714
  let c32_3249 : Index := 32#32
  let c0_3250 : Index := 0#32
  ![v7715.toNat, 32, 0]

def k0_off98 (v7725 : BitVec 32) : Fin 3 → Nat :=
  let v7726 : Index := Scalar.indexCast v7725
  let c33_3254 : Index := 33#32
  let c0_3255 : Index := 0#32
  ![v7726.toNat, 33, 0]

def k0_off99 (v7736 : BitVec 32) : Fin 3 → Nat :=
  let v7737 : Index := Scalar.indexCast v7736
  let c34_3259 : Index := 34#32
  let c0_3260 : Index := 0#32
  ![v7737.toNat, 34, 0]

def k0_off100 (v7747 : BitVec 32) : Fin 3 → Nat :=
  let v7748 : Index := Scalar.indexCast v7747
  let c35_3264 : Index := 35#32
  let c0_3265 : Index := 0#32
  ![v7748.toNat, 35, 0]

def k0_off101 (v7758 : BitVec 32) : Fin 3 → Nat :=
  let v7759 : Index := Scalar.indexCast v7758
  let c36_3269 : Index := 36#32
  let c0_3270 : Index := 0#32
  ![v7759.toNat, 36, 0]

def k0_off102 (v7769 : BitVec 32) : Fin 3 → Nat :=
  let v7770 : Index := Scalar.indexCast v7769
  let c37_3274 : Index := 37#32
  let c0_3275 : Index := 0#32
  ![v7770.toNat, 37, 0]

def k0_off103 (v7780 : BitVec 32) : Fin 3 → Nat :=
  let v7781 : Index := Scalar.indexCast v7780
  let c38_3279 : Index := 38#32
  let c0_3280 : Index := 0#32
  ![v7781.toNat, 38, 0]

def k0_off104 (v7791 : BitVec 32) : Fin 3 → Nat :=
  let v7792 : Index := Scalar.indexCast v7791
  let c39_3284 : Index := 39#32
  let c0_3285 : Index := 0#32
  ![v7792.toNat, 39, 0]

def k0_off105 (v7802 : BitVec 32) : Fin 3 → Nat :=
  let v7803 : Index := Scalar.indexCast v7802
  let c40_3289 : Index := 40#32
  let c0_3290 : Index := 0#32
  ![v7803.toNat, 40, 0]

def k0_off106 (v7813 : BitVec 32) : Fin 3 → Nat :=
  let v7814 : Index := Scalar.indexCast v7813
  let c41_3294 : Index := 41#32
  let c0_3295 : Index := 0#32
  ![v7814.toNat, 41, 0]

def k0_off107 (v7824 : BitVec 32) : Fin 3 → Nat :=
  let v7825 : Index := Scalar.indexCast v7824
  let c42_3299 : Index := 42#32
  let c0_3300 : Index := 0#32
  ![v7825.toNat, 42, 0]

def k0_off108 (v7835 : BitVec 32) : Fin 3 → Nat :=
  let v7836 : Index := Scalar.indexCast v7835
  let c43_3304 : Index := 43#32
  let c0_3305 : Index := 0#32
  ![v7836.toNat, 43, 0]

def k0_off109 (v7846 : BitVec 32) : Fin 3 → Nat :=
  let v7847 : Index := Scalar.indexCast v7846
  let c44_3309 : Index := 44#32
  let c0_3310 : Index := 0#32
  ![v7847.toNat, 44, 0]

def k0_off110 (v7857 : BitVec 32) : Fin 3 → Nat :=
  let v7858 : Index := Scalar.indexCast v7857
  let c45_3314 : Index := 45#32
  let c0_3315 : Index := 0#32
  ![v7858.toNat, 45, 0]

def k0_off111 (v7868 : BitVec 32) : Fin 3 → Nat :=
  let v7869 : Index := Scalar.indexCast v7868
  let c46_3319 : Index := 46#32
  let c0_3320 : Index := 0#32
  ![v7869.toNat, 46, 0]

def k0_off112 (v7879 : BitVec 32) : Fin 3 → Nat :=
  let v7880 : Index := Scalar.indexCast v7879
  let c47_3324 : Index := 47#32
  let c0_3325 : Index := 0#32
  ![v7880.toNat, 47, 0]

def k0_off113 (v7890 : BitVec 32) : Fin 3 → Nat :=
  let v7891 : Index := Scalar.indexCast v7890
  let c48_3329 : Index := 48#32
  let c0_3330 : Index := 0#32
  ![v7891.toNat, 48, 0]

def k0_off114 (v7901 : BitVec 32) : Fin 3 → Nat :=
  let v7902 : Index := Scalar.indexCast v7901
  let c49_3334 : Index := 49#32
  let c0_3335 : Index := 0#32
  ![v7902.toNat, 49, 0]

def k0_off115 (v7912 : BitVec 32) : Fin 3 → Nat :=
  let v7913 : Index := Scalar.indexCast v7912
  let c50_3339 : Index := 50#32
  let c0_3340 : Index := 0#32
  ![v7913.toNat, 50, 0]

def k0_off116 (v7923 : BitVec 32) : Fin 3 → Nat :=
  let v7924 : Index := Scalar.indexCast v7923
  let c51_3344 : Index := 51#32
  let c0_3345 : Index := 0#32
  ![v7924.toNat, 51, 0]

def k0_off117 (v7934 : BitVec 32) : Fin 3 → Nat :=
  let v7935 : Index := Scalar.indexCast v7934
  let c52_3349 : Index := 52#32
  let c0_3350 : Index := 0#32
  ![v7935.toNat, 52, 0]

def k0_off118 (v7945 : BitVec 32) : Fin 3 → Nat :=
  let v7946 : Index := Scalar.indexCast v7945
  let c53_3354 : Index := 53#32
  let c0_3355 : Index := 0#32
  ![v7946.toNat, 53, 0]

def k0_off119 (v7956 : BitVec 32) : Fin 3 → Nat :=
  let v7957 : Index := Scalar.indexCast v7956
  let c54_3359 : Index := 54#32
  let c0_3360 : Index := 0#32
  ![v7957.toNat, 54, 0]

def k0_off120 (v7967 : BitVec 32) : Fin 3 → Nat :=
  let v7968 : Index := Scalar.indexCast v7967
  let c55_3364 : Index := 55#32
  let c0_3365 : Index := 0#32
  ![v7968.toNat, 55, 0]

def k0_off121 (v7978 : BitVec 32) : Fin 3 → Nat :=
  let v7979 : Index := Scalar.indexCast v7978
  let c56_3369 : Index := 56#32
  let c0_3370 : Index := 0#32
  ![v7979.toNat, 56, 0]

def k0_off122 (v7989 : BitVec 32) : Fin 3 → Nat :=
  let v7990 : Index := Scalar.indexCast v7989
  let c57_3374 : Index := 57#32
  let c0_3375 : Index := 0#32
  ![v7990.toNat, 57, 0]

def k0_off123 (v8000 : BitVec 32) : Fin 3 → Nat :=
  let v8001 : Index := Scalar.indexCast v8000
  let c58_3379 : Index := 58#32
  let c0_3380 : Index := 0#32
  ![v8001.toNat, 58, 0]

def k0_off124 (v8011 : BitVec 32) : Fin 3 → Nat :=
  let v8012 : Index := Scalar.indexCast v8011
  let c59_3384 : Index := 59#32
  let c0_3385 : Index := 0#32
  ![v8012.toNat, 59, 0]

def k0_off125 (v8022 : BitVec 32) : Fin 3 → Nat :=
  let v8023 : Index := Scalar.indexCast v8022
  let c60_3389 : Index := 60#32
  let c0_3390 : Index := 0#32
  ![v8023.toNat, 60, 0]

def k0_off126 (v8033 : BitVec 32) : Fin 3 → Nat :=
  let v8034 : Index := Scalar.indexCast v8033
  let c61_3394 : Index := 61#32
  let c0_3395 : Index := 0#32
  ![v8034.toNat, 61, 0]

def k0_off127 (v8044 : BitVec 32) : Fin 3 → Nat :=
  let v8045 : Index := Scalar.indexCast v8044
  let c62_3399 : Index := 62#32
  let c0_3400 : Index := 0#32
  ![v8045.toNat, 62, 0]

def k0_off128 (v8055 : BitVec 32) : Fin 3 → Nat :=
  let v8056 : Index := Scalar.indexCast v8055
  let c63_3404 : Index := 63#32
  let c0_3405 : Index := 0#32
  ![v8056.toNat, 63, 0]

def k0_chk128 (v8055 : BitVec 32) : Prop :=
  (∀ a, (k0_off128 v8055) a + S1x1x128.size a ≤ S784x64x128.size a)
theorem k0_off128_inb : ∀ (v8055 : BitVec 32) (k0_hw128 : k0_chk128 v8055), ∀ a, (k0_off128 v8055) a + S1x1x128.size a ≤ S784x64x128.size a := fun v8055 k0_hw128 => k0_hw128

def k0_off129 (v6658 : BitVec 32) : Fin 3 → Nat :=
  let v8150 : Index := Scalar.indexCast v6658
  let c0_3436 : Index := 0#32
  let c0_3437 : Index := 0#32
  ![v8150.toNat, 0, 0]

def k0_chk1 (v6658 : BitVec 32) : Prop :=
  (∀ a, (k0_off1 v6658) a + S1x1x128.size a ≤ S784x64x128.size a) ∧
  (∀ a, (k0_off129 v6658) a + S1x1x128.size a ≤ S784x64x128.size a)
theorem k0_off1_inb : ∀ (v6658 : BitVec 32) (k0_hw1 : k0_chk1 v6658), ∀ a, (k0_off1 v6658) a + S1x1x128.size a ≤ S784x64x128.size a := fun v6658 k0_hw1 => k0_hw1.1
theorem k0_off129_inb : ∀ (v6658 : BitVec 32) (k0_hw1 : k0_chk1 v6658), ∀ a, (k0_off129 v6658) a + S1x1x128.size a ≤ S784x64x128.size a := fun v6658 k0_hw1 => k0_hw1.2

def k0_off130 (v6669 : BitVec 32) : Fin 3 → Nat :=
  let v8155 : Index := Scalar.indexCast v6669
  let c1_3440 : Index := 1#32
  let c0_3441 : Index := 0#32
  ![v8155.toNat, 1, 0]

def k0_chk2 (v6669 : BitVec 32) : Prop :=
  (∀ a, (k0_off2 v6669) a + S1x1x128.size a ≤ S784x64x128.size a) ∧
  (∀ a, (k0_off130 v6669) a + S1x1x128.size a ≤ S784x64x128.size a)
theorem k0_off2_inb : ∀ (v6669 : BitVec 32) (k0_hw2 : k0_chk2 v6669), ∀ a, (k0_off2 v6669) a + S1x1x128.size a ≤ S784x64x128.size a := fun v6669 k0_hw2 => k0_hw2.1
theorem k0_off130_inb : ∀ (v6669 : BitVec 32) (k0_hw2 : k0_chk2 v6669), ∀ a, (k0_off130 v6669) a + S1x1x128.size a ≤ S784x64x128.size a := fun v6669 k0_hw2 => k0_hw2.2

def k0_off131 (v6680 : BitVec 32) : Fin 3 → Nat :=
  let v8160 : Index := Scalar.indexCast v6680
  let c2_3444 : Index := 2#32
  let c0_3445 : Index := 0#32
  ![v8160.toNat, 2, 0]

def k0_chk3 (v6680 : BitVec 32) : Prop :=
  (∀ a, (k0_off3 v6680) a + S1x1x128.size a ≤ S784x64x128.size a) ∧
  (∀ a, (k0_off131 v6680) a + S1x1x128.size a ≤ S784x64x128.size a)
theorem k0_off3_inb : ∀ (v6680 : BitVec 32) (k0_hw3 : k0_chk3 v6680), ∀ a, (k0_off3 v6680) a + S1x1x128.size a ≤ S784x64x128.size a := fun v6680 k0_hw3 => k0_hw3.1
theorem k0_off131_inb : ∀ (v6680 : BitVec 32) (k0_hw3 : k0_chk3 v6680), ∀ a, (k0_off131 v6680) a + S1x1x128.size a ≤ S784x64x128.size a := fun v6680 k0_hw3 => k0_hw3.2

def k0_off132 (v6691 : BitVec 32) : Fin 3 → Nat :=
  let v8165 : Index := Scalar.indexCast v6691
  let c3_3448 : Index := 3#32
  let c0_3449 : Index := 0#32
  ![v8165.toNat, 3, 0]

def k0_chk4 (v6691 : BitVec 32) : Prop :=
  (∀ a, (k0_off4 v6691) a + S1x1x128.size a ≤ S784x64x128.size a) ∧
  (∀ a, (k0_off132 v6691) a + S1x1x128.size a ≤ S784x64x128.size a)
theorem k0_off4_inb : ∀ (v6691 : BitVec 32) (k0_hw4 : k0_chk4 v6691), ∀ a, (k0_off4 v6691) a + S1x1x128.size a ≤ S784x64x128.size a := fun v6691 k0_hw4 => k0_hw4.1
theorem k0_off132_inb : ∀ (v6691 : BitVec 32) (k0_hw4 : k0_chk4 v6691), ∀ a, (k0_off132 v6691) a + S1x1x128.size a ≤ S784x64x128.size a := fun v6691 k0_hw4 => k0_hw4.2

def k0_off133 (v6702 : BitVec 32) : Fin 3 → Nat :=
  let v8170 : Index := Scalar.indexCast v6702
  let c4_3452 : Index := 4#32
  let c0_3453 : Index := 0#32
  ![v8170.toNat, 4, 0]

def k0_chk5 (v6702 : BitVec 32) : Prop :=
  (∀ a, (k0_off5 v6702) a + S1x1x128.size a ≤ S784x64x128.size a) ∧
  (∀ a, (k0_off133 v6702) a + S1x1x128.size a ≤ S784x64x128.size a)
theorem k0_off5_inb : ∀ (v6702 : BitVec 32) (k0_hw5 : k0_chk5 v6702), ∀ a, (k0_off5 v6702) a + S1x1x128.size a ≤ S784x64x128.size a := fun v6702 k0_hw5 => k0_hw5.1
theorem k0_off133_inb : ∀ (v6702 : BitVec 32) (k0_hw5 : k0_chk5 v6702), ∀ a, (k0_off133 v6702) a + S1x1x128.size a ≤ S784x64x128.size a := fun v6702 k0_hw5 => k0_hw5.2

def k0_off134 (v6713 : BitVec 32) : Fin 3 → Nat :=
  let v8175 : Index := Scalar.indexCast v6713
  let c5_3456 : Index := 5#32
  let c0_3457 : Index := 0#32
  ![v8175.toNat, 5, 0]

def k0_chk6 (v6713 : BitVec 32) : Prop :=
  (∀ a, (k0_off6 v6713) a + S1x1x128.size a ≤ S784x64x128.size a) ∧
  (∀ a, (k0_off134 v6713) a + S1x1x128.size a ≤ S784x64x128.size a)
theorem k0_off6_inb : ∀ (v6713 : BitVec 32) (k0_hw6 : k0_chk6 v6713), ∀ a, (k0_off6 v6713) a + S1x1x128.size a ≤ S784x64x128.size a := fun v6713 k0_hw6 => k0_hw6.1
theorem k0_off134_inb : ∀ (v6713 : BitVec 32) (k0_hw6 : k0_chk6 v6713), ∀ a, (k0_off134 v6713) a + S1x1x128.size a ≤ S784x64x128.size a := fun v6713 k0_hw6 => k0_hw6.2

def k0_off135 (v6724 : BitVec 32) : Fin 3 → Nat :=
  let v8180 : Index := Scalar.indexCast v6724
  let c6_3460 : Index := 6#32
  let c0_3461 : Index := 0#32
  ![v8180.toNat, 6, 0]

def k0_chk7 (v6724 : BitVec 32) : Prop :=
  (∀ a, (k0_off7 v6724) a + S1x1x128.size a ≤ S784x64x128.size a) ∧
  (∀ a, (k0_off135 v6724) a + S1x1x128.size a ≤ S784x64x128.size a)
theorem k0_off7_inb : ∀ (v6724 : BitVec 32) (k0_hw7 : k0_chk7 v6724), ∀ a, (k0_off7 v6724) a + S1x1x128.size a ≤ S784x64x128.size a := fun v6724 k0_hw7 => k0_hw7.1
theorem k0_off135_inb : ∀ (v6724 : BitVec 32) (k0_hw7 : k0_chk7 v6724), ∀ a, (k0_off135 v6724) a + S1x1x128.size a ≤ S784x64x128.size a := fun v6724 k0_hw7 => k0_hw7.2

def k0_off136 (v6735 : BitVec 32) : Fin 3 → Nat :=
  let v8185 : Index := Scalar.indexCast v6735
  let c7_3464 : Index := 7#32
  let c0_3465 : Index := 0#32
  ![v8185.toNat, 7, 0]

def k0_chk8 (v6735 : BitVec 32) : Prop :=
  (∀ a, (k0_off8 v6735) a + S1x1x128.size a ≤ S784x64x128.size a) ∧
  (∀ a, (k0_off136 v6735) a + S1x1x128.size a ≤ S784x64x128.size a)
theorem k0_off8_inb : ∀ (v6735 : BitVec 32) (k0_hw8 : k0_chk8 v6735), ∀ a, (k0_off8 v6735) a + S1x1x128.size a ≤ S784x64x128.size a := fun v6735 k0_hw8 => k0_hw8.1
theorem k0_off136_inb : ∀ (v6735 : BitVec 32) (k0_hw8 : k0_chk8 v6735), ∀ a, (k0_off136 v6735) a + S1x1x128.size a ≤ S784x64x128.size a := fun v6735 k0_hw8 => k0_hw8.2

def k0_off137 (v6746 : BitVec 32) : Fin 3 → Nat :=
  let v8190 : Index := Scalar.indexCast v6746
  let c8_3468 : Index := 8#32
  let c0_3469 : Index := 0#32
  ![v8190.toNat, 8, 0]

def k0_chk9 (v6746 : BitVec 32) : Prop :=
  (∀ a, (k0_off9 v6746) a + S1x1x128.size a ≤ S784x64x128.size a) ∧
  (∀ a, (k0_off137 v6746) a + S1x1x128.size a ≤ S784x64x128.size a)
theorem k0_off9_inb : ∀ (v6746 : BitVec 32) (k0_hw9 : k0_chk9 v6746), ∀ a, (k0_off9 v6746) a + S1x1x128.size a ≤ S784x64x128.size a := fun v6746 k0_hw9 => k0_hw9.1
theorem k0_off137_inb : ∀ (v6746 : BitVec 32) (k0_hw9 : k0_chk9 v6746), ∀ a, (k0_off137 v6746) a + S1x1x128.size a ≤ S784x64x128.size a := fun v6746 k0_hw9 => k0_hw9.2

def k0_off138 (v6757 : BitVec 32) : Fin 3 → Nat :=
  let v8195 : Index := Scalar.indexCast v6757
  let c9_3472 : Index := 9#32
  let c0_3473 : Index := 0#32
  ![v8195.toNat, 9, 0]

def k0_chk10 (v6757 : BitVec 32) : Prop :=
  (∀ a, (k0_off10 v6757) a + S1x1x128.size a ≤ S784x64x128.size a) ∧
  (∀ a, (k0_off138 v6757) a + S1x1x128.size a ≤ S784x64x128.size a)
theorem k0_off10_inb : ∀ (v6757 : BitVec 32) (k0_hw10 : k0_chk10 v6757), ∀ a, (k0_off10 v6757) a + S1x1x128.size a ≤ S784x64x128.size a := fun v6757 k0_hw10 => k0_hw10.1
theorem k0_off138_inb : ∀ (v6757 : BitVec 32) (k0_hw10 : k0_chk10 v6757), ∀ a, (k0_off138 v6757) a + S1x1x128.size a ≤ S784x64x128.size a := fun v6757 k0_hw10 => k0_hw10.2

def k0_off139 (v6768 : BitVec 32) : Fin 3 → Nat :=
  let v8200 : Index := Scalar.indexCast v6768
  let c10_3476 : Index := 10#32
  let c0_3477 : Index := 0#32
  ![v8200.toNat, 10, 0]

def k0_chk11 (v6768 : BitVec 32) : Prop :=
  (∀ a, (k0_off11 v6768) a + S1x1x128.size a ≤ S784x64x128.size a) ∧
  (∀ a, (k0_off139 v6768) a + S1x1x128.size a ≤ S784x64x128.size a)
theorem k0_off11_inb : ∀ (v6768 : BitVec 32) (k0_hw11 : k0_chk11 v6768), ∀ a, (k0_off11 v6768) a + S1x1x128.size a ≤ S784x64x128.size a := fun v6768 k0_hw11 => k0_hw11.1
theorem k0_off139_inb : ∀ (v6768 : BitVec 32) (k0_hw11 : k0_chk11 v6768), ∀ a, (k0_off139 v6768) a + S1x1x128.size a ≤ S784x64x128.size a := fun v6768 k0_hw11 => k0_hw11.2

def k0_off140 (v6779 : BitVec 32) : Fin 3 → Nat :=
  let v8205 : Index := Scalar.indexCast v6779
  let c11_3480 : Index := 11#32
  let c0_3481 : Index := 0#32
  ![v8205.toNat, 11, 0]

def k0_chk12 (v6779 : BitVec 32) : Prop :=
  (∀ a, (k0_off12 v6779) a + S1x1x128.size a ≤ S784x64x128.size a) ∧
  (∀ a, (k0_off140 v6779) a + S1x1x128.size a ≤ S784x64x128.size a)
theorem k0_off12_inb : ∀ (v6779 : BitVec 32) (k0_hw12 : k0_chk12 v6779), ∀ a, (k0_off12 v6779) a + S1x1x128.size a ≤ S784x64x128.size a := fun v6779 k0_hw12 => k0_hw12.1
theorem k0_off140_inb : ∀ (v6779 : BitVec 32) (k0_hw12 : k0_chk12 v6779), ∀ a, (k0_off140 v6779) a + S1x1x128.size a ≤ S784x64x128.size a := fun v6779 k0_hw12 => k0_hw12.2

def k0_off141 (v6790 : BitVec 32) : Fin 3 → Nat :=
  let v8210 : Index := Scalar.indexCast v6790
  let c12_3484 : Index := 12#32
  let c0_3485 : Index := 0#32
  ![v8210.toNat, 12, 0]

def k0_chk13 (v6790 : BitVec 32) : Prop :=
  (∀ a, (k0_off13 v6790) a + S1x1x128.size a ≤ S784x64x128.size a) ∧
  (∀ a, (k0_off141 v6790) a + S1x1x128.size a ≤ S784x64x128.size a)
theorem k0_off13_inb : ∀ (v6790 : BitVec 32) (k0_hw13 : k0_chk13 v6790), ∀ a, (k0_off13 v6790) a + S1x1x128.size a ≤ S784x64x128.size a := fun v6790 k0_hw13 => k0_hw13.1
theorem k0_off141_inb : ∀ (v6790 : BitVec 32) (k0_hw13 : k0_chk13 v6790), ∀ a, (k0_off141 v6790) a + S1x1x128.size a ≤ S784x64x128.size a := fun v6790 k0_hw13 => k0_hw13.2

def k0_off142 (v6801 : BitVec 32) : Fin 3 → Nat :=
  let v8215 : Index := Scalar.indexCast v6801
  let c13_3488 : Index := 13#32
  let c0_3489 : Index := 0#32
  ![v8215.toNat, 13, 0]

def k0_chk14 (v6801 : BitVec 32) : Prop :=
  (∀ a, (k0_off14 v6801) a + S1x1x128.size a ≤ S784x64x128.size a) ∧
  (∀ a, (k0_off142 v6801) a + S1x1x128.size a ≤ S784x64x128.size a)
theorem k0_off14_inb : ∀ (v6801 : BitVec 32) (k0_hw14 : k0_chk14 v6801), ∀ a, (k0_off14 v6801) a + S1x1x128.size a ≤ S784x64x128.size a := fun v6801 k0_hw14 => k0_hw14.1
theorem k0_off142_inb : ∀ (v6801 : BitVec 32) (k0_hw14 : k0_chk14 v6801), ∀ a, (k0_off142 v6801) a + S1x1x128.size a ≤ S784x64x128.size a := fun v6801 k0_hw14 => k0_hw14.2

def k0_off143 (v6812 : BitVec 32) : Fin 3 → Nat :=
  let v8220 : Index := Scalar.indexCast v6812
  let c14_3492 : Index := 14#32
  let c0_3493 : Index := 0#32
  ![v8220.toNat, 14, 0]

def k0_chk15 (v6812 : BitVec 32) : Prop :=
  (∀ a, (k0_off15 v6812) a + S1x1x128.size a ≤ S784x64x128.size a) ∧
  (∀ a, (k0_off143 v6812) a + S1x1x128.size a ≤ S784x64x128.size a)
theorem k0_off15_inb : ∀ (v6812 : BitVec 32) (k0_hw15 : k0_chk15 v6812), ∀ a, (k0_off15 v6812) a + S1x1x128.size a ≤ S784x64x128.size a := fun v6812 k0_hw15 => k0_hw15.1
theorem k0_off143_inb : ∀ (v6812 : BitVec 32) (k0_hw15 : k0_chk15 v6812), ∀ a, (k0_off143 v6812) a + S1x1x128.size a ≤ S784x64x128.size a := fun v6812 k0_hw15 => k0_hw15.2

def k0_off144 (v6823 : BitVec 32) : Fin 3 → Nat :=
  let v8225 : Index := Scalar.indexCast v6823
  let c15_3496 : Index := 15#32
  let c0_3497 : Index := 0#32
  ![v8225.toNat, 15, 0]

def k0_chk16 (v6823 : BitVec 32) : Prop :=
  (∀ a, (k0_off16 v6823) a + S1x1x128.size a ≤ S784x64x128.size a) ∧
  (∀ a, (k0_off144 v6823) a + S1x1x128.size a ≤ S784x64x128.size a)
theorem k0_off16_inb : ∀ (v6823 : BitVec 32) (k0_hw16 : k0_chk16 v6823), ∀ a, (k0_off16 v6823) a + S1x1x128.size a ≤ S784x64x128.size a := fun v6823 k0_hw16 => k0_hw16.1
theorem k0_off144_inb : ∀ (v6823 : BitVec 32) (k0_hw16 : k0_chk16 v6823), ∀ a, (k0_off144 v6823) a + S1x1x128.size a ≤ S784x64x128.size a := fun v6823 k0_hw16 => k0_hw16.2

def k0_off145 (v6834 : BitVec 32) : Fin 3 → Nat :=
  let v8230 : Index := Scalar.indexCast v6834
  let c16_3500 : Index := 16#32
  let c0_3501 : Index := 0#32
  ![v8230.toNat, 16, 0]

def k0_chk17 (v6834 : BitVec 32) : Prop :=
  (∀ a, (k0_off17 v6834) a + S1x1x128.size a ≤ S784x64x128.size a) ∧
  (∀ a, (k0_off145 v6834) a + S1x1x128.size a ≤ S784x64x128.size a)
theorem k0_off17_inb : ∀ (v6834 : BitVec 32) (k0_hw17 : k0_chk17 v6834), ∀ a, (k0_off17 v6834) a + S1x1x128.size a ≤ S784x64x128.size a := fun v6834 k0_hw17 => k0_hw17.1
theorem k0_off145_inb : ∀ (v6834 : BitVec 32) (k0_hw17 : k0_chk17 v6834), ∀ a, (k0_off145 v6834) a + S1x1x128.size a ≤ S784x64x128.size a := fun v6834 k0_hw17 => k0_hw17.2

def k0_off146 (v6845 : BitVec 32) : Fin 3 → Nat :=
  let v8235 : Index := Scalar.indexCast v6845
  let c17_3504 : Index := 17#32
  let c0_3505 : Index := 0#32
  ![v8235.toNat, 17, 0]

def k0_chk18 (v6845 : BitVec 32) : Prop :=
  (∀ a, (k0_off18 v6845) a + S1x1x128.size a ≤ S784x64x128.size a) ∧
  (∀ a, (k0_off146 v6845) a + S1x1x128.size a ≤ S784x64x128.size a)
theorem k0_off18_inb : ∀ (v6845 : BitVec 32) (k0_hw18 : k0_chk18 v6845), ∀ a, (k0_off18 v6845) a + S1x1x128.size a ≤ S784x64x128.size a := fun v6845 k0_hw18 => k0_hw18.1
theorem k0_off146_inb : ∀ (v6845 : BitVec 32) (k0_hw18 : k0_chk18 v6845), ∀ a, (k0_off146 v6845) a + S1x1x128.size a ≤ S784x64x128.size a := fun v6845 k0_hw18 => k0_hw18.2

def k0_off147 (v6856 : BitVec 32) : Fin 3 → Nat :=
  let v8240 : Index := Scalar.indexCast v6856
  let c18_3508 : Index := 18#32
  let c0_3509 : Index := 0#32
  ![v8240.toNat, 18, 0]

def k0_chk19 (v6856 : BitVec 32) : Prop :=
  (∀ a, (k0_off19 v6856) a + S1x1x128.size a ≤ S784x64x128.size a) ∧
  (∀ a, (k0_off147 v6856) a + S1x1x128.size a ≤ S784x64x128.size a)
theorem k0_off19_inb : ∀ (v6856 : BitVec 32) (k0_hw19 : k0_chk19 v6856), ∀ a, (k0_off19 v6856) a + S1x1x128.size a ≤ S784x64x128.size a := fun v6856 k0_hw19 => k0_hw19.1
theorem k0_off147_inb : ∀ (v6856 : BitVec 32) (k0_hw19 : k0_chk19 v6856), ∀ a, (k0_off147 v6856) a + S1x1x128.size a ≤ S784x64x128.size a := fun v6856 k0_hw19 => k0_hw19.2

def k0_off148 (v6867 : BitVec 32) : Fin 3 → Nat :=
  let v8245 : Index := Scalar.indexCast v6867
  let c19_3512 : Index := 19#32
  let c0_3513 : Index := 0#32
  ![v8245.toNat, 19, 0]

def k0_chk20 (v6867 : BitVec 32) : Prop :=
  (∀ a, (k0_off20 v6867) a + S1x1x128.size a ≤ S784x64x128.size a) ∧
  (∀ a, (k0_off148 v6867) a + S1x1x128.size a ≤ S784x64x128.size a)
theorem k0_off20_inb : ∀ (v6867 : BitVec 32) (k0_hw20 : k0_chk20 v6867), ∀ a, (k0_off20 v6867) a + S1x1x128.size a ≤ S784x64x128.size a := fun v6867 k0_hw20 => k0_hw20.1
theorem k0_off148_inb : ∀ (v6867 : BitVec 32) (k0_hw20 : k0_chk20 v6867), ∀ a, (k0_off148 v6867) a + S1x1x128.size a ≤ S784x64x128.size a := fun v6867 k0_hw20 => k0_hw20.2

def k0_off149 (v6878 : BitVec 32) : Fin 3 → Nat :=
  let v8250 : Index := Scalar.indexCast v6878
  let c20_3516 : Index := 20#32
  let c0_3517 : Index := 0#32
  ![v8250.toNat, 20, 0]

def k0_chk21 (v6878 : BitVec 32) : Prop :=
  (∀ a, (k0_off21 v6878) a + S1x1x128.size a ≤ S784x64x128.size a) ∧
  (∀ a, (k0_off149 v6878) a + S1x1x128.size a ≤ S784x64x128.size a)
theorem k0_off21_inb : ∀ (v6878 : BitVec 32) (k0_hw21 : k0_chk21 v6878), ∀ a, (k0_off21 v6878) a + S1x1x128.size a ≤ S784x64x128.size a := fun v6878 k0_hw21 => k0_hw21.1
theorem k0_off149_inb : ∀ (v6878 : BitVec 32) (k0_hw21 : k0_chk21 v6878), ∀ a, (k0_off149 v6878) a + S1x1x128.size a ≤ S784x64x128.size a := fun v6878 k0_hw21 => k0_hw21.2

def k0_off150 (v6889 : BitVec 32) : Fin 3 → Nat :=
  let v8255 : Index := Scalar.indexCast v6889
  let c21_3520 : Index := 21#32
  let c0_3521 : Index := 0#32
  ![v8255.toNat, 21, 0]

def k0_chk22 (v6889 : BitVec 32) : Prop :=
  (∀ a, (k0_off22 v6889) a + S1x1x128.size a ≤ S784x64x128.size a) ∧
  (∀ a, (k0_off150 v6889) a + S1x1x128.size a ≤ S784x64x128.size a)
theorem k0_off22_inb : ∀ (v6889 : BitVec 32) (k0_hw22 : k0_chk22 v6889), ∀ a, (k0_off22 v6889) a + S1x1x128.size a ≤ S784x64x128.size a := fun v6889 k0_hw22 => k0_hw22.1
theorem k0_off150_inb : ∀ (v6889 : BitVec 32) (k0_hw22 : k0_chk22 v6889), ∀ a, (k0_off150 v6889) a + S1x1x128.size a ≤ S784x64x128.size a := fun v6889 k0_hw22 => k0_hw22.2

def k0_off151 (v6900 : BitVec 32) : Fin 3 → Nat :=
  let v8260 : Index := Scalar.indexCast v6900
  let c22_3524 : Index := 22#32
  let c0_3525 : Index := 0#32
  ![v8260.toNat, 22, 0]

def k0_chk23 (v6900 : BitVec 32) : Prop :=
  (∀ a, (k0_off23 v6900) a + S1x1x128.size a ≤ S784x64x128.size a) ∧
  (∀ a, (k0_off151 v6900) a + S1x1x128.size a ≤ S784x64x128.size a)
theorem k0_off23_inb : ∀ (v6900 : BitVec 32) (k0_hw23 : k0_chk23 v6900), ∀ a, (k0_off23 v6900) a + S1x1x128.size a ≤ S784x64x128.size a := fun v6900 k0_hw23 => k0_hw23.1
theorem k0_off151_inb : ∀ (v6900 : BitVec 32) (k0_hw23 : k0_chk23 v6900), ∀ a, (k0_off151 v6900) a + S1x1x128.size a ≤ S784x64x128.size a := fun v6900 k0_hw23 => k0_hw23.2

def k0_off152 (v6911 : BitVec 32) : Fin 3 → Nat :=
  let v8265 : Index := Scalar.indexCast v6911
  let c23_3528 : Index := 23#32
  let c0_3529 : Index := 0#32
  ![v8265.toNat, 23, 0]

def k0_chk24 (v6911 : BitVec 32) : Prop :=
  (∀ a, (k0_off24 v6911) a + S1x1x128.size a ≤ S784x64x128.size a) ∧
  (∀ a, (k0_off152 v6911) a + S1x1x128.size a ≤ S784x64x128.size a)
theorem k0_off24_inb : ∀ (v6911 : BitVec 32) (k0_hw24 : k0_chk24 v6911), ∀ a, (k0_off24 v6911) a + S1x1x128.size a ≤ S784x64x128.size a := fun v6911 k0_hw24 => k0_hw24.1
theorem k0_off152_inb : ∀ (v6911 : BitVec 32) (k0_hw24 : k0_chk24 v6911), ∀ a, (k0_off152 v6911) a + S1x1x128.size a ≤ S784x64x128.size a := fun v6911 k0_hw24 => k0_hw24.2

def k0_off153 (v6922 : BitVec 32) : Fin 3 → Nat :=
  let v8270 : Index := Scalar.indexCast v6922
  let c24_3532 : Index := 24#32
  let c0_3533 : Index := 0#32
  ![v8270.toNat, 24, 0]

def k0_chk25 (v6922 : BitVec 32) : Prop :=
  (∀ a, (k0_off25 v6922) a + S1x1x128.size a ≤ S784x64x128.size a) ∧
  (∀ a, (k0_off153 v6922) a + S1x1x128.size a ≤ S784x64x128.size a)
theorem k0_off25_inb : ∀ (v6922 : BitVec 32) (k0_hw25 : k0_chk25 v6922), ∀ a, (k0_off25 v6922) a + S1x1x128.size a ≤ S784x64x128.size a := fun v6922 k0_hw25 => k0_hw25.1
theorem k0_off153_inb : ∀ (v6922 : BitVec 32) (k0_hw25 : k0_chk25 v6922), ∀ a, (k0_off153 v6922) a + S1x1x128.size a ≤ S784x64x128.size a := fun v6922 k0_hw25 => k0_hw25.2

def k0_off154 (v6933 : BitVec 32) : Fin 3 → Nat :=
  let v8275 : Index := Scalar.indexCast v6933
  let c25_3536 : Index := 25#32
  let c0_3537 : Index := 0#32
  ![v8275.toNat, 25, 0]

def k0_chk26 (v6933 : BitVec 32) : Prop :=
  (∀ a, (k0_off26 v6933) a + S1x1x128.size a ≤ S784x64x128.size a) ∧
  (∀ a, (k0_off154 v6933) a + S1x1x128.size a ≤ S784x64x128.size a)
theorem k0_off26_inb : ∀ (v6933 : BitVec 32) (k0_hw26 : k0_chk26 v6933), ∀ a, (k0_off26 v6933) a + S1x1x128.size a ≤ S784x64x128.size a := fun v6933 k0_hw26 => k0_hw26.1
theorem k0_off154_inb : ∀ (v6933 : BitVec 32) (k0_hw26 : k0_chk26 v6933), ∀ a, (k0_off154 v6933) a + S1x1x128.size a ≤ S784x64x128.size a := fun v6933 k0_hw26 => k0_hw26.2

def k0_off155 (v6944 : BitVec 32) : Fin 3 → Nat :=
  let v8280 : Index := Scalar.indexCast v6944
  let c26_3540 : Index := 26#32
  let c0_3541 : Index := 0#32
  ![v8280.toNat, 26, 0]

def k0_chk27 (v6944 : BitVec 32) : Prop :=
  (∀ a, (k0_off27 v6944) a + S1x1x128.size a ≤ S784x64x128.size a) ∧
  (∀ a, (k0_off155 v6944) a + S1x1x128.size a ≤ S784x64x128.size a)
theorem k0_off27_inb : ∀ (v6944 : BitVec 32) (k0_hw27 : k0_chk27 v6944), ∀ a, (k0_off27 v6944) a + S1x1x128.size a ≤ S784x64x128.size a := fun v6944 k0_hw27 => k0_hw27.1
theorem k0_off155_inb : ∀ (v6944 : BitVec 32) (k0_hw27 : k0_chk27 v6944), ∀ a, (k0_off155 v6944) a + S1x1x128.size a ≤ S784x64x128.size a := fun v6944 k0_hw27 => k0_hw27.2

def k0_off156 (v6955 : BitVec 32) : Fin 3 → Nat :=
  let v8285 : Index := Scalar.indexCast v6955
  let c27_3544 : Index := 27#32
  let c0_3545 : Index := 0#32
  ![v8285.toNat, 27, 0]

def k0_chk28 (v6955 : BitVec 32) : Prop :=
  (∀ a, (k0_off28 v6955) a + S1x1x128.size a ≤ S784x64x128.size a) ∧
  (∀ a, (k0_off156 v6955) a + S1x1x128.size a ≤ S784x64x128.size a)
theorem k0_off28_inb : ∀ (v6955 : BitVec 32) (k0_hw28 : k0_chk28 v6955), ∀ a, (k0_off28 v6955) a + S1x1x128.size a ≤ S784x64x128.size a := fun v6955 k0_hw28 => k0_hw28.1
theorem k0_off156_inb : ∀ (v6955 : BitVec 32) (k0_hw28 : k0_chk28 v6955), ∀ a, (k0_off156 v6955) a + S1x1x128.size a ≤ S784x64x128.size a := fun v6955 k0_hw28 => k0_hw28.2

def k0_off157 (v6966 : BitVec 32) : Fin 3 → Nat :=
  let v8290 : Index := Scalar.indexCast v6966
  let c28_3548 : Index := 28#32
  let c0_3549 : Index := 0#32
  ![v8290.toNat, 28, 0]

def k0_chk29 (v6966 : BitVec 32) : Prop :=
  (∀ a, (k0_off29 v6966) a + S1x1x128.size a ≤ S784x64x128.size a) ∧
  (∀ a, (k0_off157 v6966) a + S1x1x128.size a ≤ S784x64x128.size a)
theorem k0_off29_inb : ∀ (v6966 : BitVec 32) (k0_hw29 : k0_chk29 v6966), ∀ a, (k0_off29 v6966) a + S1x1x128.size a ≤ S784x64x128.size a := fun v6966 k0_hw29 => k0_hw29.1
theorem k0_off157_inb : ∀ (v6966 : BitVec 32) (k0_hw29 : k0_chk29 v6966), ∀ a, (k0_off157 v6966) a + S1x1x128.size a ≤ S784x64x128.size a := fun v6966 k0_hw29 => k0_hw29.2

def k0_off158 (v6977 : BitVec 32) : Fin 3 → Nat :=
  let v8295 : Index := Scalar.indexCast v6977
  let c29_3552 : Index := 29#32
  let c0_3553 : Index := 0#32
  ![v8295.toNat, 29, 0]

def k0_chk30 (v6977 : BitVec 32) : Prop :=
  (∀ a, (k0_off30 v6977) a + S1x1x128.size a ≤ S784x64x128.size a) ∧
  (∀ a, (k0_off158 v6977) a + S1x1x128.size a ≤ S784x64x128.size a)
theorem k0_off30_inb : ∀ (v6977 : BitVec 32) (k0_hw30 : k0_chk30 v6977), ∀ a, (k0_off30 v6977) a + S1x1x128.size a ≤ S784x64x128.size a := fun v6977 k0_hw30 => k0_hw30.1
theorem k0_off158_inb : ∀ (v6977 : BitVec 32) (k0_hw30 : k0_chk30 v6977), ∀ a, (k0_off158 v6977) a + S1x1x128.size a ≤ S784x64x128.size a := fun v6977 k0_hw30 => k0_hw30.2

def k0_off159 (v6988 : BitVec 32) : Fin 3 → Nat :=
  let v8300 : Index := Scalar.indexCast v6988
  let c30_3556 : Index := 30#32
  let c0_3557 : Index := 0#32
  ![v8300.toNat, 30, 0]

def k0_chk31 (v6988 : BitVec 32) : Prop :=
  (∀ a, (k0_off31 v6988) a + S1x1x128.size a ≤ S784x64x128.size a) ∧
  (∀ a, (k0_off159 v6988) a + S1x1x128.size a ≤ S784x64x128.size a)
theorem k0_off31_inb : ∀ (v6988 : BitVec 32) (k0_hw31 : k0_chk31 v6988), ∀ a, (k0_off31 v6988) a + S1x1x128.size a ≤ S784x64x128.size a := fun v6988 k0_hw31 => k0_hw31.1
theorem k0_off159_inb : ∀ (v6988 : BitVec 32) (k0_hw31 : k0_chk31 v6988), ∀ a, (k0_off159 v6988) a + S1x1x128.size a ≤ S784x64x128.size a := fun v6988 k0_hw31 => k0_hw31.2

def k0_off160 (v6999 : BitVec 32) : Fin 3 → Nat :=
  let v8305 : Index := Scalar.indexCast v6999
  let c31_3560 : Index := 31#32
  let c0_3561 : Index := 0#32
  ![v8305.toNat, 31, 0]

def k0_chk32 (v6999 : BitVec 32) : Prop :=
  (∀ a, (k0_off32 v6999) a + S1x1x128.size a ≤ S784x64x128.size a) ∧
  (∀ a, (k0_off160 v6999) a + S1x1x128.size a ≤ S784x64x128.size a)
theorem k0_off32_inb : ∀ (v6999 : BitVec 32) (k0_hw32 : k0_chk32 v6999), ∀ a, (k0_off32 v6999) a + S1x1x128.size a ≤ S784x64x128.size a := fun v6999 k0_hw32 => k0_hw32.1
theorem k0_off160_inb : ∀ (v6999 : BitVec 32) (k0_hw32 : k0_chk32 v6999), ∀ a, (k0_off160 v6999) a + S1x1x128.size a ≤ S784x64x128.size a := fun v6999 k0_hw32 => k0_hw32.2

def k0_off161 (v7010 : BitVec 32) : Fin 3 → Nat :=
  let v8310 : Index := Scalar.indexCast v7010
  let c32_3564 : Index := 32#32
  let c0_3565 : Index := 0#32
  ![v8310.toNat, 32, 0]

def k0_chk33 (v7010 : BitVec 32) : Prop :=
  (∀ a, (k0_off33 v7010) a + S1x1x128.size a ≤ S784x64x128.size a) ∧
  (∀ a, (k0_off161 v7010) a + S1x1x128.size a ≤ S784x64x128.size a)
theorem k0_off33_inb : ∀ (v7010 : BitVec 32) (k0_hw33 : k0_chk33 v7010), ∀ a, (k0_off33 v7010) a + S1x1x128.size a ≤ S784x64x128.size a := fun v7010 k0_hw33 => k0_hw33.1
theorem k0_off161_inb : ∀ (v7010 : BitVec 32) (k0_hw33 : k0_chk33 v7010), ∀ a, (k0_off161 v7010) a + S1x1x128.size a ≤ S784x64x128.size a := fun v7010 k0_hw33 => k0_hw33.2

def k0_off162 (v7021 : BitVec 32) : Fin 3 → Nat :=
  let v8315 : Index := Scalar.indexCast v7021
  let c33_3568 : Index := 33#32
  let c0_3569 : Index := 0#32
  ![v8315.toNat, 33, 0]

def k0_chk34 (v7021 : BitVec 32) : Prop :=
  (∀ a, (k0_off34 v7021) a + S1x1x128.size a ≤ S784x64x128.size a) ∧
  (∀ a, (k0_off162 v7021) a + S1x1x128.size a ≤ S784x64x128.size a)
theorem k0_off34_inb : ∀ (v7021 : BitVec 32) (k0_hw34 : k0_chk34 v7021), ∀ a, (k0_off34 v7021) a + S1x1x128.size a ≤ S784x64x128.size a := fun v7021 k0_hw34 => k0_hw34.1
theorem k0_off162_inb : ∀ (v7021 : BitVec 32) (k0_hw34 : k0_chk34 v7021), ∀ a, (k0_off162 v7021) a + S1x1x128.size a ≤ S784x64x128.size a := fun v7021 k0_hw34 => k0_hw34.2

def k0_off163 (v7032 : BitVec 32) : Fin 3 → Nat :=
  let v8320 : Index := Scalar.indexCast v7032
  let c34_3572 : Index := 34#32
  let c0_3573 : Index := 0#32
  ![v8320.toNat, 34, 0]

def k0_chk35 (v7032 : BitVec 32) : Prop :=
  (∀ a, (k0_off35 v7032) a + S1x1x128.size a ≤ S784x64x128.size a) ∧
  (∀ a, (k0_off163 v7032) a + S1x1x128.size a ≤ S784x64x128.size a)
theorem k0_off35_inb : ∀ (v7032 : BitVec 32) (k0_hw35 : k0_chk35 v7032), ∀ a, (k0_off35 v7032) a + S1x1x128.size a ≤ S784x64x128.size a := fun v7032 k0_hw35 => k0_hw35.1
theorem k0_off163_inb : ∀ (v7032 : BitVec 32) (k0_hw35 : k0_chk35 v7032), ∀ a, (k0_off163 v7032) a + S1x1x128.size a ≤ S784x64x128.size a := fun v7032 k0_hw35 => k0_hw35.2

def k0_off164 (v7043 : BitVec 32) : Fin 3 → Nat :=
  let v8325 : Index := Scalar.indexCast v7043
  let c35_3576 : Index := 35#32
  let c0_3577 : Index := 0#32
  ![v8325.toNat, 35, 0]

def k0_chk36 (v7043 : BitVec 32) : Prop :=
  (∀ a, (k0_off36 v7043) a + S1x1x128.size a ≤ S784x64x128.size a) ∧
  (∀ a, (k0_off164 v7043) a + S1x1x128.size a ≤ S784x64x128.size a)
theorem k0_off36_inb : ∀ (v7043 : BitVec 32) (k0_hw36 : k0_chk36 v7043), ∀ a, (k0_off36 v7043) a + S1x1x128.size a ≤ S784x64x128.size a := fun v7043 k0_hw36 => k0_hw36.1
theorem k0_off164_inb : ∀ (v7043 : BitVec 32) (k0_hw36 : k0_chk36 v7043), ∀ a, (k0_off164 v7043) a + S1x1x128.size a ≤ S784x64x128.size a := fun v7043 k0_hw36 => k0_hw36.2

def k0_off165 (v7054 : BitVec 32) : Fin 3 → Nat :=
  let v8330 : Index := Scalar.indexCast v7054
  let c36_3580 : Index := 36#32
  let c0_3581 : Index := 0#32
  ![v8330.toNat, 36, 0]

def k0_chk37 (v7054 : BitVec 32) : Prop :=
  (∀ a, (k0_off37 v7054) a + S1x1x128.size a ≤ S784x64x128.size a) ∧
  (∀ a, (k0_off165 v7054) a + S1x1x128.size a ≤ S784x64x128.size a)
theorem k0_off37_inb : ∀ (v7054 : BitVec 32) (k0_hw37 : k0_chk37 v7054), ∀ a, (k0_off37 v7054) a + S1x1x128.size a ≤ S784x64x128.size a := fun v7054 k0_hw37 => k0_hw37.1
theorem k0_off165_inb : ∀ (v7054 : BitVec 32) (k0_hw37 : k0_chk37 v7054), ∀ a, (k0_off165 v7054) a + S1x1x128.size a ≤ S784x64x128.size a := fun v7054 k0_hw37 => k0_hw37.2

def k0_off166 (v7065 : BitVec 32) : Fin 3 → Nat :=
  let v8335 : Index := Scalar.indexCast v7065
  let c37_3584 : Index := 37#32
  let c0_3585 : Index := 0#32
  ![v8335.toNat, 37, 0]

def k0_chk38 (v7065 : BitVec 32) : Prop :=
  (∀ a, (k0_off38 v7065) a + S1x1x128.size a ≤ S784x64x128.size a) ∧
  (∀ a, (k0_off166 v7065) a + S1x1x128.size a ≤ S784x64x128.size a)
theorem k0_off38_inb : ∀ (v7065 : BitVec 32) (k0_hw38 : k0_chk38 v7065), ∀ a, (k0_off38 v7065) a + S1x1x128.size a ≤ S784x64x128.size a := fun v7065 k0_hw38 => k0_hw38.1
theorem k0_off166_inb : ∀ (v7065 : BitVec 32) (k0_hw38 : k0_chk38 v7065), ∀ a, (k0_off166 v7065) a + S1x1x128.size a ≤ S784x64x128.size a := fun v7065 k0_hw38 => k0_hw38.2

def k0_off167 (v7076 : BitVec 32) : Fin 3 → Nat :=
  let v8340 : Index := Scalar.indexCast v7076
  let c38_3588 : Index := 38#32
  let c0_3589 : Index := 0#32
  ![v8340.toNat, 38, 0]

def k0_chk39 (v7076 : BitVec 32) : Prop :=
  (∀ a, (k0_off39 v7076) a + S1x1x128.size a ≤ S784x64x128.size a) ∧
  (∀ a, (k0_off167 v7076) a + S1x1x128.size a ≤ S784x64x128.size a)
theorem k0_off39_inb : ∀ (v7076 : BitVec 32) (k0_hw39 : k0_chk39 v7076), ∀ a, (k0_off39 v7076) a + S1x1x128.size a ≤ S784x64x128.size a := fun v7076 k0_hw39 => k0_hw39.1
theorem k0_off167_inb : ∀ (v7076 : BitVec 32) (k0_hw39 : k0_chk39 v7076), ∀ a, (k0_off167 v7076) a + S1x1x128.size a ≤ S784x64x128.size a := fun v7076 k0_hw39 => k0_hw39.2

def k0_off168 (v7087 : BitVec 32) : Fin 3 → Nat :=
  let v8345 : Index := Scalar.indexCast v7087
  let c39_3592 : Index := 39#32
  let c0_3593 : Index := 0#32
  ![v8345.toNat, 39, 0]

def k0_chk40 (v7087 : BitVec 32) : Prop :=
  (∀ a, (k0_off40 v7087) a + S1x1x128.size a ≤ S784x64x128.size a) ∧
  (∀ a, (k0_off168 v7087) a + S1x1x128.size a ≤ S784x64x128.size a)
theorem k0_off40_inb : ∀ (v7087 : BitVec 32) (k0_hw40 : k0_chk40 v7087), ∀ a, (k0_off40 v7087) a + S1x1x128.size a ≤ S784x64x128.size a := fun v7087 k0_hw40 => k0_hw40.1
theorem k0_off168_inb : ∀ (v7087 : BitVec 32) (k0_hw40 : k0_chk40 v7087), ∀ a, (k0_off168 v7087) a + S1x1x128.size a ≤ S784x64x128.size a := fun v7087 k0_hw40 => k0_hw40.2

def k0_off169 (v7098 : BitVec 32) : Fin 3 → Nat :=
  let v8350 : Index := Scalar.indexCast v7098
  let c40_3596 : Index := 40#32
  let c0_3597 : Index := 0#32
  ![v8350.toNat, 40, 0]

def k0_chk41 (v7098 : BitVec 32) : Prop :=
  (∀ a, (k0_off41 v7098) a + S1x1x128.size a ≤ S784x64x128.size a) ∧
  (∀ a, (k0_off169 v7098) a + S1x1x128.size a ≤ S784x64x128.size a)
theorem k0_off41_inb : ∀ (v7098 : BitVec 32) (k0_hw41 : k0_chk41 v7098), ∀ a, (k0_off41 v7098) a + S1x1x128.size a ≤ S784x64x128.size a := fun v7098 k0_hw41 => k0_hw41.1
theorem k0_off169_inb : ∀ (v7098 : BitVec 32) (k0_hw41 : k0_chk41 v7098), ∀ a, (k0_off169 v7098) a + S1x1x128.size a ≤ S784x64x128.size a := fun v7098 k0_hw41 => k0_hw41.2

def k0_off170 (v7109 : BitVec 32) : Fin 3 → Nat :=
  let v8355 : Index := Scalar.indexCast v7109
  let c41_3600 : Index := 41#32
  let c0_3601 : Index := 0#32
  ![v8355.toNat, 41, 0]

def k0_chk42 (v7109 : BitVec 32) : Prop :=
  (∀ a, (k0_off42 v7109) a + S1x1x128.size a ≤ S784x64x128.size a) ∧
  (∀ a, (k0_off170 v7109) a + S1x1x128.size a ≤ S784x64x128.size a)
theorem k0_off42_inb : ∀ (v7109 : BitVec 32) (k0_hw42 : k0_chk42 v7109), ∀ a, (k0_off42 v7109) a + S1x1x128.size a ≤ S784x64x128.size a := fun v7109 k0_hw42 => k0_hw42.1
theorem k0_off170_inb : ∀ (v7109 : BitVec 32) (k0_hw42 : k0_chk42 v7109), ∀ a, (k0_off170 v7109) a + S1x1x128.size a ≤ S784x64x128.size a := fun v7109 k0_hw42 => k0_hw42.2

def k0_off171 (v7120 : BitVec 32) : Fin 3 → Nat :=
  let v8360 : Index := Scalar.indexCast v7120
  let c42_3604 : Index := 42#32
  let c0_3605 : Index := 0#32
  ![v8360.toNat, 42, 0]

def k0_chk43 (v7120 : BitVec 32) : Prop :=
  (∀ a, (k0_off43 v7120) a + S1x1x128.size a ≤ S784x64x128.size a) ∧
  (∀ a, (k0_off171 v7120) a + S1x1x128.size a ≤ S784x64x128.size a)
theorem k0_off43_inb : ∀ (v7120 : BitVec 32) (k0_hw43 : k0_chk43 v7120), ∀ a, (k0_off43 v7120) a + S1x1x128.size a ≤ S784x64x128.size a := fun v7120 k0_hw43 => k0_hw43.1
theorem k0_off171_inb : ∀ (v7120 : BitVec 32) (k0_hw43 : k0_chk43 v7120), ∀ a, (k0_off171 v7120) a + S1x1x128.size a ≤ S784x64x128.size a := fun v7120 k0_hw43 => k0_hw43.2

def k0_off172 (v7131 : BitVec 32) : Fin 3 → Nat :=
  let v8365 : Index := Scalar.indexCast v7131
  let c43_3608 : Index := 43#32
  let c0_3609 : Index := 0#32
  ![v8365.toNat, 43, 0]

def k0_chk44 (v7131 : BitVec 32) : Prop :=
  (∀ a, (k0_off44 v7131) a + S1x1x128.size a ≤ S784x64x128.size a) ∧
  (∀ a, (k0_off172 v7131) a + S1x1x128.size a ≤ S784x64x128.size a)
theorem k0_off44_inb : ∀ (v7131 : BitVec 32) (k0_hw44 : k0_chk44 v7131), ∀ a, (k0_off44 v7131) a + S1x1x128.size a ≤ S784x64x128.size a := fun v7131 k0_hw44 => k0_hw44.1
theorem k0_off172_inb : ∀ (v7131 : BitVec 32) (k0_hw44 : k0_chk44 v7131), ∀ a, (k0_off172 v7131) a + S1x1x128.size a ≤ S784x64x128.size a := fun v7131 k0_hw44 => k0_hw44.2

def k0_off173 (v7142 : BitVec 32) : Fin 3 → Nat :=
  let v8370 : Index := Scalar.indexCast v7142
  let c44_3612 : Index := 44#32
  let c0_3613 : Index := 0#32
  ![v8370.toNat, 44, 0]

def k0_chk45 (v7142 : BitVec 32) : Prop :=
  (∀ a, (k0_off45 v7142) a + S1x1x128.size a ≤ S784x64x128.size a) ∧
  (∀ a, (k0_off173 v7142) a + S1x1x128.size a ≤ S784x64x128.size a)
theorem k0_off45_inb : ∀ (v7142 : BitVec 32) (k0_hw45 : k0_chk45 v7142), ∀ a, (k0_off45 v7142) a + S1x1x128.size a ≤ S784x64x128.size a := fun v7142 k0_hw45 => k0_hw45.1
theorem k0_off173_inb : ∀ (v7142 : BitVec 32) (k0_hw45 : k0_chk45 v7142), ∀ a, (k0_off173 v7142) a + S1x1x128.size a ≤ S784x64x128.size a := fun v7142 k0_hw45 => k0_hw45.2

def k0_off174 (v7153 : BitVec 32) : Fin 3 → Nat :=
  let v8375 : Index := Scalar.indexCast v7153
  let c45_3616 : Index := 45#32
  let c0_3617 : Index := 0#32
  ![v8375.toNat, 45, 0]

def k0_chk46 (v7153 : BitVec 32) : Prop :=
  (∀ a, (k0_off46 v7153) a + S1x1x128.size a ≤ S784x64x128.size a) ∧
  (∀ a, (k0_off174 v7153) a + S1x1x128.size a ≤ S784x64x128.size a)
theorem k0_off46_inb : ∀ (v7153 : BitVec 32) (k0_hw46 : k0_chk46 v7153), ∀ a, (k0_off46 v7153) a + S1x1x128.size a ≤ S784x64x128.size a := fun v7153 k0_hw46 => k0_hw46.1
theorem k0_off174_inb : ∀ (v7153 : BitVec 32) (k0_hw46 : k0_chk46 v7153), ∀ a, (k0_off174 v7153) a + S1x1x128.size a ≤ S784x64x128.size a := fun v7153 k0_hw46 => k0_hw46.2

def k0_off175 (v7164 : BitVec 32) : Fin 3 → Nat :=
  let v8380 : Index := Scalar.indexCast v7164
  let c46_3620 : Index := 46#32
  let c0_3621 : Index := 0#32
  ![v8380.toNat, 46, 0]

def k0_chk47 (v7164 : BitVec 32) : Prop :=
  (∀ a, (k0_off47 v7164) a + S1x1x128.size a ≤ S784x64x128.size a) ∧
  (∀ a, (k0_off175 v7164) a + S1x1x128.size a ≤ S784x64x128.size a)
theorem k0_off47_inb : ∀ (v7164 : BitVec 32) (k0_hw47 : k0_chk47 v7164), ∀ a, (k0_off47 v7164) a + S1x1x128.size a ≤ S784x64x128.size a := fun v7164 k0_hw47 => k0_hw47.1
theorem k0_off175_inb : ∀ (v7164 : BitVec 32) (k0_hw47 : k0_chk47 v7164), ∀ a, (k0_off175 v7164) a + S1x1x128.size a ≤ S784x64x128.size a := fun v7164 k0_hw47 => k0_hw47.2

def k0_off176 (v7175 : BitVec 32) : Fin 3 → Nat :=
  let v8385 : Index := Scalar.indexCast v7175
  let c47_3624 : Index := 47#32
  let c0_3625 : Index := 0#32
  ![v8385.toNat, 47, 0]

def k0_chk48 (v7175 : BitVec 32) : Prop :=
  (∀ a, (k0_off48 v7175) a + S1x1x128.size a ≤ S784x64x128.size a) ∧
  (∀ a, (k0_off176 v7175) a + S1x1x128.size a ≤ S784x64x128.size a)
theorem k0_off48_inb : ∀ (v7175 : BitVec 32) (k0_hw48 : k0_chk48 v7175), ∀ a, (k0_off48 v7175) a + S1x1x128.size a ≤ S784x64x128.size a := fun v7175 k0_hw48 => k0_hw48.1
theorem k0_off176_inb : ∀ (v7175 : BitVec 32) (k0_hw48 : k0_chk48 v7175), ∀ a, (k0_off176 v7175) a + S1x1x128.size a ≤ S784x64x128.size a := fun v7175 k0_hw48 => k0_hw48.2

def k0_off177 (v7186 : BitVec 32) : Fin 3 → Nat :=
  let v8390 : Index := Scalar.indexCast v7186
  let c48_3628 : Index := 48#32
  let c0_3629 : Index := 0#32
  ![v8390.toNat, 48, 0]

def k0_chk49 (v7186 : BitVec 32) : Prop :=
  (∀ a, (k0_off49 v7186) a + S1x1x128.size a ≤ S784x64x128.size a) ∧
  (∀ a, (k0_off177 v7186) a + S1x1x128.size a ≤ S784x64x128.size a)
theorem k0_off49_inb : ∀ (v7186 : BitVec 32) (k0_hw49 : k0_chk49 v7186), ∀ a, (k0_off49 v7186) a + S1x1x128.size a ≤ S784x64x128.size a := fun v7186 k0_hw49 => k0_hw49.1
theorem k0_off177_inb : ∀ (v7186 : BitVec 32) (k0_hw49 : k0_chk49 v7186), ∀ a, (k0_off177 v7186) a + S1x1x128.size a ≤ S784x64x128.size a := fun v7186 k0_hw49 => k0_hw49.2

def k0_off178 (v7197 : BitVec 32) : Fin 3 → Nat :=
  let v8395 : Index := Scalar.indexCast v7197
  let c49_3632 : Index := 49#32
  let c0_3633 : Index := 0#32
  ![v8395.toNat, 49, 0]

def k0_chk50 (v7197 : BitVec 32) : Prop :=
  (∀ a, (k0_off50 v7197) a + S1x1x128.size a ≤ S784x64x128.size a) ∧
  (∀ a, (k0_off178 v7197) a + S1x1x128.size a ≤ S784x64x128.size a)
theorem k0_off50_inb : ∀ (v7197 : BitVec 32) (k0_hw50 : k0_chk50 v7197), ∀ a, (k0_off50 v7197) a + S1x1x128.size a ≤ S784x64x128.size a := fun v7197 k0_hw50 => k0_hw50.1
theorem k0_off178_inb : ∀ (v7197 : BitVec 32) (k0_hw50 : k0_chk50 v7197), ∀ a, (k0_off178 v7197) a + S1x1x128.size a ≤ S784x64x128.size a := fun v7197 k0_hw50 => k0_hw50.2

def k0_off179 (v7208 : BitVec 32) : Fin 3 → Nat :=
  let v8400 : Index := Scalar.indexCast v7208
  let c50_3636 : Index := 50#32
  let c0_3637 : Index := 0#32
  ![v8400.toNat, 50, 0]

def k0_chk51 (v7208 : BitVec 32) : Prop :=
  (∀ a, (k0_off51 v7208) a + S1x1x128.size a ≤ S784x64x128.size a) ∧
  (∀ a, (k0_off179 v7208) a + S1x1x128.size a ≤ S784x64x128.size a)
theorem k0_off51_inb : ∀ (v7208 : BitVec 32) (k0_hw51 : k0_chk51 v7208), ∀ a, (k0_off51 v7208) a + S1x1x128.size a ≤ S784x64x128.size a := fun v7208 k0_hw51 => k0_hw51.1
theorem k0_off179_inb : ∀ (v7208 : BitVec 32) (k0_hw51 : k0_chk51 v7208), ∀ a, (k0_off179 v7208) a + S1x1x128.size a ≤ S784x64x128.size a := fun v7208 k0_hw51 => k0_hw51.2

def k0_off180 (v7219 : BitVec 32) : Fin 3 → Nat :=
  let v8405 : Index := Scalar.indexCast v7219
  let c51_3640 : Index := 51#32
  let c0_3641 : Index := 0#32
  ![v8405.toNat, 51, 0]

def k0_chk52 (v7219 : BitVec 32) : Prop :=
  (∀ a, (k0_off52 v7219) a + S1x1x128.size a ≤ S784x64x128.size a) ∧
  (∀ a, (k0_off180 v7219) a + S1x1x128.size a ≤ S784x64x128.size a)
theorem k0_off52_inb : ∀ (v7219 : BitVec 32) (k0_hw52 : k0_chk52 v7219), ∀ a, (k0_off52 v7219) a + S1x1x128.size a ≤ S784x64x128.size a := fun v7219 k0_hw52 => k0_hw52.1
theorem k0_off180_inb : ∀ (v7219 : BitVec 32) (k0_hw52 : k0_chk52 v7219), ∀ a, (k0_off180 v7219) a + S1x1x128.size a ≤ S784x64x128.size a := fun v7219 k0_hw52 => k0_hw52.2

def k0_off181 (v7230 : BitVec 32) : Fin 3 → Nat :=
  let v8410 : Index := Scalar.indexCast v7230
  let c52_3644 : Index := 52#32
  let c0_3645 : Index := 0#32
  ![v8410.toNat, 52, 0]

def k0_chk53 (v7230 : BitVec 32) : Prop :=
  (∀ a, (k0_off53 v7230) a + S1x1x128.size a ≤ S784x64x128.size a) ∧
  (∀ a, (k0_off181 v7230) a + S1x1x128.size a ≤ S784x64x128.size a)
theorem k0_off53_inb : ∀ (v7230 : BitVec 32) (k0_hw53 : k0_chk53 v7230), ∀ a, (k0_off53 v7230) a + S1x1x128.size a ≤ S784x64x128.size a := fun v7230 k0_hw53 => k0_hw53.1
theorem k0_off181_inb : ∀ (v7230 : BitVec 32) (k0_hw53 : k0_chk53 v7230), ∀ a, (k0_off181 v7230) a + S1x1x128.size a ≤ S784x64x128.size a := fun v7230 k0_hw53 => k0_hw53.2

def k0_off182 (v7241 : BitVec 32) : Fin 3 → Nat :=
  let v8415 : Index := Scalar.indexCast v7241
  let c53_3648 : Index := 53#32
  let c0_3649 : Index := 0#32
  ![v8415.toNat, 53, 0]

def k0_chk54 (v7241 : BitVec 32) : Prop :=
  (∀ a, (k0_off54 v7241) a + S1x1x128.size a ≤ S784x64x128.size a) ∧
  (∀ a, (k0_off182 v7241) a + S1x1x128.size a ≤ S784x64x128.size a)
theorem k0_off54_inb : ∀ (v7241 : BitVec 32) (k0_hw54 : k0_chk54 v7241), ∀ a, (k0_off54 v7241) a + S1x1x128.size a ≤ S784x64x128.size a := fun v7241 k0_hw54 => k0_hw54.1
theorem k0_off182_inb : ∀ (v7241 : BitVec 32) (k0_hw54 : k0_chk54 v7241), ∀ a, (k0_off182 v7241) a + S1x1x128.size a ≤ S784x64x128.size a := fun v7241 k0_hw54 => k0_hw54.2

def k0_off183 (v7252 : BitVec 32) : Fin 3 → Nat :=
  let v8420 : Index := Scalar.indexCast v7252
  let c54_3652 : Index := 54#32
  let c0_3653 : Index := 0#32
  ![v8420.toNat, 54, 0]

def k0_chk55 (v7252 : BitVec 32) : Prop :=
  (∀ a, (k0_off55 v7252) a + S1x1x128.size a ≤ S784x64x128.size a) ∧
  (∀ a, (k0_off183 v7252) a + S1x1x128.size a ≤ S784x64x128.size a)
theorem k0_off55_inb : ∀ (v7252 : BitVec 32) (k0_hw55 : k0_chk55 v7252), ∀ a, (k0_off55 v7252) a + S1x1x128.size a ≤ S784x64x128.size a := fun v7252 k0_hw55 => k0_hw55.1
theorem k0_off183_inb : ∀ (v7252 : BitVec 32) (k0_hw55 : k0_chk55 v7252), ∀ a, (k0_off183 v7252) a + S1x1x128.size a ≤ S784x64x128.size a := fun v7252 k0_hw55 => k0_hw55.2

def k0_off184 (v7263 : BitVec 32) : Fin 3 → Nat :=
  let v8425 : Index := Scalar.indexCast v7263
  let c55_3656 : Index := 55#32
  let c0_3657 : Index := 0#32
  ![v8425.toNat, 55, 0]

def k0_chk56 (v7263 : BitVec 32) : Prop :=
  (∀ a, (k0_off56 v7263) a + S1x1x128.size a ≤ S784x64x128.size a) ∧
  (∀ a, (k0_off184 v7263) a + S1x1x128.size a ≤ S784x64x128.size a)
theorem k0_off56_inb : ∀ (v7263 : BitVec 32) (k0_hw56 : k0_chk56 v7263), ∀ a, (k0_off56 v7263) a + S1x1x128.size a ≤ S784x64x128.size a := fun v7263 k0_hw56 => k0_hw56.1
theorem k0_off184_inb : ∀ (v7263 : BitVec 32) (k0_hw56 : k0_chk56 v7263), ∀ a, (k0_off184 v7263) a + S1x1x128.size a ≤ S784x64x128.size a := fun v7263 k0_hw56 => k0_hw56.2

def k0_off185 (v7274 : BitVec 32) : Fin 3 → Nat :=
  let v8430 : Index := Scalar.indexCast v7274
  let c56_3660 : Index := 56#32
  let c0_3661 : Index := 0#32
  ![v8430.toNat, 56, 0]

def k0_chk57 (v7274 : BitVec 32) : Prop :=
  (∀ a, (k0_off57 v7274) a + S1x1x128.size a ≤ S784x64x128.size a) ∧
  (∀ a, (k0_off185 v7274) a + S1x1x128.size a ≤ S784x64x128.size a)
theorem k0_off57_inb : ∀ (v7274 : BitVec 32) (k0_hw57 : k0_chk57 v7274), ∀ a, (k0_off57 v7274) a + S1x1x128.size a ≤ S784x64x128.size a := fun v7274 k0_hw57 => k0_hw57.1
theorem k0_off185_inb : ∀ (v7274 : BitVec 32) (k0_hw57 : k0_chk57 v7274), ∀ a, (k0_off185 v7274) a + S1x1x128.size a ≤ S784x64x128.size a := fun v7274 k0_hw57 => k0_hw57.2

def k0_off186 (v7285 : BitVec 32) : Fin 3 → Nat :=
  let v8435 : Index := Scalar.indexCast v7285
  let c57_3664 : Index := 57#32
  let c0_3665 : Index := 0#32
  ![v8435.toNat, 57, 0]

def k0_chk58 (v7285 : BitVec 32) : Prop :=
  (∀ a, (k0_off58 v7285) a + S1x1x128.size a ≤ S784x64x128.size a) ∧
  (∀ a, (k0_off186 v7285) a + S1x1x128.size a ≤ S784x64x128.size a)
theorem k0_off58_inb : ∀ (v7285 : BitVec 32) (k0_hw58 : k0_chk58 v7285), ∀ a, (k0_off58 v7285) a + S1x1x128.size a ≤ S784x64x128.size a := fun v7285 k0_hw58 => k0_hw58.1
theorem k0_off186_inb : ∀ (v7285 : BitVec 32) (k0_hw58 : k0_chk58 v7285), ∀ a, (k0_off186 v7285) a + S1x1x128.size a ≤ S784x64x128.size a := fun v7285 k0_hw58 => k0_hw58.2

def k0_off187 (v7296 : BitVec 32) : Fin 3 → Nat :=
  let v8440 : Index := Scalar.indexCast v7296
  let c58_3668 : Index := 58#32
  let c0_3669 : Index := 0#32
  ![v8440.toNat, 58, 0]

def k0_chk59 (v7296 : BitVec 32) : Prop :=
  (∀ a, (k0_off59 v7296) a + S1x1x128.size a ≤ S784x64x128.size a) ∧
  (∀ a, (k0_off187 v7296) a + S1x1x128.size a ≤ S784x64x128.size a)
theorem k0_off59_inb : ∀ (v7296 : BitVec 32) (k0_hw59 : k0_chk59 v7296), ∀ a, (k0_off59 v7296) a + S1x1x128.size a ≤ S784x64x128.size a := fun v7296 k0_hw59 => k0_hw59.1
theorem k0_off187_inb : ∀ (v7296 : BitVec 32) (k0_hw59 : k0_chk59 v7296), ∀ a, (k0_off187 v7296) a + S1x1x128.size a ≤ S784x64x128.size a := fun v7296 k0_hw59 => k0_hw59.2

def k0_off188 (v7307 : BitVec 32) : Fin 3 → Nat :=
  let v8445 : Index := Scalar.indexCast v7307
  let c59_3672 : Index := 59#32
  let c0_3673 : Index := 0#32
  ![v8445.toNat, 59, 0]

def k0_chk60 (v7307 : BitVec 32) : Prop :=
  (∀ a, (k0_off60 v7307) a + S1x1x128.size a ≤ S784x64x128.size a) ∧
  (∀ a, (k0_off188 v7307) a + S1x1x128.size a ≤ S784x64x128.size a)
theorem k0_off60_inb : ∀ (v7307 : BitVec 32) (k0_hw60 : k0_chk60 v7307), ∀ a, (k0_off60 v7307) a + S1x1x128.size a ≤ S784x64x128.size a := fun v7307 k0_hw60 => k0_hw60.1
theorem k0_off188_inb : ∀ (v7307 : BitVec 32) (k0_hw60 : k0_chk60 v7307), ∀ a, (k0_off188 v7307) a + S1x1x128.size a ≤ S784x64x128.size a := fun v7307 k0_hw60 => k0_hw60.2

def k0_off189 (v7318 : BitVec 32) : Fin 3 → Nat :=
  let v8450 : Index := Scalar.indexCast v7318
  let c60_3676 : Index := 60#32
  let c0_3677 : Index := 0#32
  ![v8450.toNat, 60, 0]

def k0_chk61 (v7318 : BitVec 32) : Prop :=
  (∀ a, (k0_off61 v7318) a + S1x1x128.size a ≤ S784x64x128.size a) ∧
  (∀ a, (k0_off189 v7318) a + S1x1x128.size a ≤ S784x64x128.size a)
theorem k0_off61_inb : ∀ (v7318 : BitVec 32) (k0_hw61 : k0_chk61 v7318), ∀ a, (k0_off61 v7318) a + S1x1x128.size a ≤ S784x64x128.size a := fun v7318 k0_hw61 => k0_hw61.1
theorem k0_off189_inb : ∀ (v7318 : BitVec 32) (k0_hw61 : k0_chk61 v7318), ∀ a, (k0_off189 v7318) a + S1x1x128.size a ≤ S784x64x128.size a := fun v7318 k0_hw61 => k0_hw61.2

def k0_off190 (v7329 : BitVec 32) : Fin 3 → Nat :=
  let v8455 : Index := Scalar.indexCast v7329
  let c61_3680 : Index := 61#32
  let c0_3681 : Index := 0#32
  ![v8455.toNat, 61, 0]

def k0_chk62 (v7329 : BitVec 32) : Prop :=
  (∀ a, (k0_off62 v7329) a + S1x1x128.size a ≤ S784x64x128.size a) ∧
  (∀ a, (k0_off190 v7329) a + S1x1x128.size a ≤ S784x64x128.size a)
theorem k0_off62_inb : ∀ (v7329 : BitVec 32) (k0_hw62 : k0_chk62 v7329), ∀ a, (k0_off62 v7329) a + S1x1x128.size a ≤ S784x64x128.size a := fun v7329 k0_hw62 => k0_hw62.1
theorem k0_off190_inb : ∀ (v7329 : BitVec 32) (k0_hw62 : k0_chk62 v7329), ∀ a, (k0_off190 v7329) a + S1x1x128.size a ≤ S784x64x128.size a := fun v7329 k0_hw62 => k0_hw62.2

def k0_off191 (v7340 : BitVec 32) : Fin 3 → Nat :=
  let v8460 : Index := Scalar.indexCast v7340
  let c62_3684 : Index := 62#32
  let c0_3685 : Index := 0#32
  ![v8460.toNat, 62, 0]

def k0_chk63 (v7340 : BitVec 32) : Prop :=
  (∀ a, (k0_off63 v7340) a + S1x1x128.size a ≤ S784x64x128.size a) ∧
  (∀ a, (k0_off191 v7340) a + S1x1x128.size a ≤ S784x64x128.size a)
theorem k0_off63_inb : ∀ (v7340 : BitVec 32) (k0_hw63 : k0_chk63 v7340), ∀ a, (k0_off63 v7340) a + S1x1x128.size a ≤ S784x64x128.size a := fun v7340 k0_hw63 => k0_hw63.1
theorem k0_off191_inb : ∀ (v7340 : BitVec 32) (k0_hw63 : k0_chk63 v7340), ∀ a, (k0_off191 v7340) a + S1x1x128.size a ≤ S784x64x128.size a := fun v7340 k0_hw63 => k0_hw63.2

def k0_off192 (v7351 : BitVec 32) : Fin 3 → Nat :=
  let v8465 : Index := Scalar.indexCast v7351
  let c63_3688 : Index := 63#32
  let c0_3689 : Index := 0#32
  ![v8465.toNat, 63, 0]

def k0_chk64 (v7351 : BitVec 32) : Prop :=
  (∀ a, (k0_off64 v7351) a + S1x1x128.size a ≤ S784x64x128.size a) ∧
  (∀ a, (k0_off192 v7351) a + S1x1x128.size a ≤ S784x64x128.size a)
theorem k0_off64_inb : ∀ (v7351 : BitVec 32) (k0_hw64 : k0_chk64 v7351), ∀ a, (k0_off64 v7351) a + S1x1x128.size a ≤ S784x64x128.size a := fun v7351 k0_hw64 => k0_hw64.1
theorem k0_off192_inb : ∀ (v7351 : BitVec 32) (k0_hw64 : k0_chk64 v7351), ∀ a, (k0_off192 v7351) a + S1x1x128.size a ≤ S784x64x128.size a := fun v7351 k0_hw64 => k0_hw64.2

def k0_off193 (v7362 : BitVec 32) : Fin 3 → Nat :=
  let v8470 : Index := Scalar.indexCast v7362
  let c0_3692 : Index := 0#32
  let c0_3693 : Index := 0#32
  ![v8470.toNat, 0, 0]

def k0_chk65 (v7362 : BitVec 32) : Prop :=
  (∀ a, (k0_off65 v7362) a + S1x1x128.size a ≤ S784x64x128.size a) ∧
  (∀ a, (k0_off193 v7362) a + S1x1x128.size a ≤ S784x64x128.size a)
theorem k0_off65_inb : ∀ (v7362 : BitVec 32) (k0_hw65 : k0_chk65 v7362), ∀ a, (k0_off65 v7362) a + S1x1x128.size a ≤ S784x64x128.size a := fun v7362 k0_hw65 => k0_hw65.1
theorem k0_off193_inb : ∀ (v7362 : BitVec 32) (k0_hw65 : k0_chk65 v7362), ∀ a, (k0_off193 v7362) a + S1x1x128.size a ≤ S784x64x128.size a := fun v7362 k0_hw65 => k0_hw65.2

def k0_off194 (v7373 : BitVec 32) : Fin 3 → Nat :=
  let v8475 : Index := Scalar.indexCast v7373
  let c1_3696 : Index := 1#32
  let c0_3697 : Index := 0#32
  ![v8475.toNat, 1, 0]

def k0_chk66 (v7373 : BitVec 32) : Prop :=
  (∀ a, (k0_off66 v7373) a + S1x1x128.size a ≤ S784x64x128.size a) ∧
  (∀ a, (k0_off194 v7373) a + S1x1x128.size a ≤ S784x64x128.size a)
theorem k0_off66_inb : ∀ (v7373 : BitVec 32) (k0_hw66 : k0_chk66 v7373), ∀ a, (k0_off66 v7373) a + S1x1x128.size a ≤ S784x64x128.size a := fun v7373 k0_hw66 => k0_hw66.1
theorem k0_off194_inb : ∀ (v7373 : BitVec 32) (k0_hw66 : k0_chk66 v7373), ∀ a, (k0_off194 v7373) a + S1x1x128.size a ≤ S784x64x128.size a := fun v7373 k0_hw66 => k0_hw66.2

def k0_off195 (v7384 : BitVec 32) : Fin 3 → Nat :=
  let v8480 : Index := Scalar.indexCast v7384
  let c2_3700 : Index := 2#32
  let c0_3701 : Index := 0#32
  ![v8480.toNat, 2, 0]

def k0_chk67 (v7384 : BitVec 32) : Prop :=
  (∀ a, (k0_off67 v7384) a + S1x1x128.size a ≤ S784x64x128.size a) ∧
  (∀ a, (k0_off195 v7384) a + S1x1x128.size a ≤ S784x64x128.size a)
theorem k0_off67_inb : ∀ (v7384 : BitVec 32) (k0_hw67 : k0_chk67 v7384), ∀ a, (k0_off67 v7384) a + S1x1x128.size a ≤ S784x64x128.size a := fun v7384 k0_hw67 => k0_hw67.1
theorem k0_off195_inb : ∀ (v7384 : BitVec 32) (k0_hw67 : k0_chk67 v7384), ∀ a, (k0_off195 v7384) a + S1x1x128.size a ≤ S784x64x128.size a := fun v7384 k0_hw67 => k0_hw67.2

def k0_off196 (v7395 : BitVec 32) : Fin 3 → Nat :=
  let v8485 : Index := Scalar.indexCast v7395
  let c3_3704 : Index := 3#32
  let c0_3705 : Index := 0#32
  ![v8485.toNat, 3, 0]

def k0_chk68 (v7395 : BitVec 32) : Prop :=
  (∀ a, (k0_off68 v7395) a + S1x1x128.size a ≤ S784x64x128.size a) ∧
  (∀ a, (k0_off196 v7395) a + S1x1x128.size a ≤ S784x64x128.size a)
theorem k0_off68_inb : ∀ (v7395 : BitVec 32) (k0_hw68 : k0_chk68 v7395), ∀ a, (k0_off68 v7395) a + S1x1x128.size a ≤ S784x64x128.size a := fun v7395 k0_hw68 => k0_hw68.1
theorem k0_off196_inb : ∀ (v7395 : BitVec 32) (k0_hw68 : k0_chk68 v7395), ∀ a, (k0_off196 v7395) a + S1x1x128.size a ≤ S784x64x128.size a := fun v7395 k0_hw68 => k0_hw68.2

def k0_off197 (v7406 : BitVec 32) : Fin 3 → Nat :=
  let v8490 : Index := Scalar.indexCast v7406
  let c4_3708 : Index := 4#32
  let c0_3709 : Index := 0#32
  ![v8490.toNat, 4, 0]

def k0_chk69 (v7406 : BitVec 32) : Prop :=
  (∀ a, (k0_off69 v7406) a + S1x1x128.size a ≤ S784x64x128.size a) ∧
  (∀ a, (k0_off197 v7406) a + S1x1x128.size a ≤ S784x64x128.size a)
theorem k0_off69_inb : ∀ (v7406 : BitVec 32) (k0_hw69 : k0_chk69 v7406), ∀ a, (k0_off69 v7406) a + S1x1x128.size a ≤ S784x64x128.size a := fun v7406 k0_hw69 => k0_hw69.1
theorem k0_off197_inb : ∀ (v7406 : BitVec 32) (k0_hw69 : k0_chk69 v7406), ∀ a, (k0_off197 v7406) a + S1x1x128.size a ≤ S784x64x128.size a := fun v7406 k0_hw69 => k0_hw69.2

def k0_off198 (v7417 : BitVec 32) : Fin 3 → Nat :=
  let v8495 : Index := Scalar.indexCast v7417
  let c5_3712 : Index := 5#32
  let c0_3713 : Index := 0#32
  ![v8495.toNat, 5, 0]

def k0_chk70 (v7417 : BitVec 32) : Prop :=
  (∀ a, (k0_off70 v7417) a + S1x1x128.size a ≤ S784x64x128.size a) ∧
  (∀ a, (k0_off198 v7417) a + S1x1x128.size a ≤ S784x64x128.size a)
theorem k0_off70_inb : ∀ (v7417 : BitVec 32) (k0_hw70 : k0_chk70 v7417), ∀ a, (k0_off70 v7417) a + S1x1x128.size a ≤ S784x64x128.size a := fun v7417 k0_hw70 => k0_hw70.1
theorem k0_off198_inb : ∀ (v7417 : BitVec 32) (k0_hw70 : k0_chk70 v7417), ∀ a, (k0_off198 v7417) a + S1x1x128.size a ≤ S784x64x128.size a := fun v7417 k0_hw70 => k0_hw70.2

def k0_off199 (v7428 : BitVec 32) : Fin 3 → Nat :=
  let v8500 : Index := Scalar.indexCast v7428
  let c6_3716 : Index := 6#32
  let c0_3717 : Index := 0#32
  ![v8500.toNat, 6, 0]

def k0_chk71 (v7428 : BitVec 32) : Prop :=
  (∀ a, (k0_off71 v7428) a + S1x1x128.size a ≤ S784x64x128.size a) ∧
  (∀ a, (k0_off199 v7428) a + S1x1x128.size a ≤ S784x64x128.size a)
theorem k0_off71_inb : ∀ (v7428 : BitVec 32) (k0_hw71 : k0_chk71 v7428), ∀ a, (k0_off71 v7428) a + S1x1x128.size a ≤ S784x64x128.size a := fun v7428 k0_hw71 => k0_hw71.1
theorem k0_off199_inb : ∀ (v7428 : BitVec 32) (k0_hw71 : k0_chk71 v7428), ∀ a, (k0_off199 v7428) a + S1x1x128.size a ≤ S784x64x128.size a := fun v7428 k0_hw71 => k0_hw71.2

def k0_off200 (v7439 : BitVec 32) : Fin 3 → Nat :=
  let v8505 : Index := Scalar.indexCast v7439
  let c7_3720 : Index := 7#32
  let c0_3721 : Index := 0#32
  ![v8505.toNat, 7, 0]

def k0_chk72 (v7439 : BitVec 32) : Prop :=
  (∀ a, (k0_off72 v7439) a + S1x1x128.size a ≤ S784x64x128.size a) ∧
  (∀ a, (k0_off200 v7439) a + S1x1x128.size a ≤ S784x64x128.size a)
theorem k0_off72_inb : ∀ (v7439 : BitVec 32) (k0_hw72 : k0_chk72 v7439), ∀ a, (k0_off72 v7439) a + S1x1x128.size a ≤ S784x64x128.size a := fun v7439 k0_hw72 => k0_hw72.1
theorem k0_off200_inb : ∀ (v7439 : BitVec 32) (k0_hw72 : k0_chk72 v7439), ∀ a, (k0_off200 v7439) a + S1x1x128.size a ≤ S784x64x128.size a := fun v7439 k0_hw72 => k0_hw72.2

def k0_off201 (v7450 : BitVec 32) : Fin 3 → Nat :=
  let v8510 : Index := Scalar.indexCast v7450
  let c8_3724 : Index := 8#32
  let c0_3725 : Index := 0#32
  ![v8510.toNat, 8, 0]

def k0_chk73 (v7450 : BitVec 32) : Prop :=
  (∀ a, (k0_off73 v7450) a + S1x1x128.size a ≤ S784x64x128.size a) ∧
  (∀ a, (k0_off201 v7450) a + S1x1x128.size a ≤ S784x64x128.size a)
theorem k0_off73_inb : ∀ (v7450 : BitVec 32) (k0_hw73 : k0_chk73 v7450), ∀ a, (k0_off73 v7450) a + S1x1x128.size a ≤ S784x64x128.size a := fun v7450 k0_hw73 => k0_hw73.1
theorem k0_off201_inb : ∀ (v7450 : BitVec 32) (k0_hw73 : k0_chk73 v7450), ∀ a, (k0_off201 v7450) a + S1x1x128.size a ≤ S784x64x128.size a := fun v7450 k0_hw73 => k0_hw73.2

def k0_off202 (v7461 : BitVec 32) : Fin 3 → Nat :=
  let v8515 : Index := Scalar.indexCast v7461
  let c9_3728 : Index := 9#32
  let c0_3729 : Index := 0#32
  ![v8515.toNat, 9, 0]

def k0_chk74 (v7461 : BitVec 32) : Prop :=
  (∀ a, (k0_off74 v7461) a + S1x1x128.size a ≤ S784x64x128.size a) ∧
  (∀ a, (k0_off202 v7461) a + S1x1x128.size a ≤ S784x64x128.size a)
theorem k0_off74_inb : ∀ (v7461 : BitVec 32) (k0_hw74 : k0_chk74 v7461), ∀ a, (k0_off74 v7461) a + S1x1x128.size a ≤ S784x64x128.size a := fun v7461 k0_hw74 => k0_hw74.1
theorem k0_off202_inb : ∀ (v7461 : BitVec 32) (k0_hw74 : k0_chk74 v7461), ∀ a, (k0_off202 v7461) a + S1x1x128.size a ≤ S784x64x128.size a := fun v7461 k0_hw74 => k0_hw74.2

def k0_off203 (v7472 : BitVec 32) : Fin 3 → Nat :=
  let v8520 : Index := Scalar.indexCast v7472
  let c10_3732 : Index := 10#32
  let c0_3733 : Index := 0#32
  ![v8520.toNat, 10, 0]

def k0_chk75 (v7472 : BitVec 32) : Prop :=
  (∀ a, (k0_off75 v7472) a + S1x1x128.size a ≤ S784x64x128.size a) ∧
  (∀ a, (k0_off203 v7472) a + S1x1x128.size a ≤ S784x64x128.size a)
theorem k0_off75_inb : ∀ (v7472 : BitVec 32) (k0_hw75 : k0_chk75 v7472), ∀ a, (k0_off75 v7472) a + S1x1x128.size a ≤ S784x64x128.size a := fun v7472 k0_hw75 => k0_hw75.1
theorem k0_off203_inb : ∀ (v7472 : BitVec 32) (k0_hw75 : k0_chk75 v7472), ∀ a, (k0_off203 v7472) a + S1x1x128.size a ≤ S784x64x128.size a := fun v7472 k0_hw75 => k0_hw75.2

def k0_off204 (v7483 : BitVec 32) : Fin 3 → Nat :=
  let v8525 : Index := Scalar.indexCast v7483
  let c11_3736 : Index := 11#32
  let c0_3737 : Index := 0#32
  ![v8525.toNat, 11, 0]

def k0_chk76 (v7483 : BitVec 32) : Prop :=
  (∀ a, (k0_off76 v7483) a + S1x1x128.size a ≤ S784x64x128.size a) ∧
  (∀ a, (k0_off204 v7483) a + S1x1x128.size a ≤ S784x64x128.size a)
theorem k0_off76_inb : ∀ (v7483 : BitVec 32) (k0_hw76 : k0_chk76 v7483), ∀ a, (k0_off76 v7483) a + S1x1x128.size a ≤ S784x64x128.size a := fun v7483 k0_hw76 => k0_hw76.1
theorem k0_off204_inb : ∀ (v7483 : BitVec 32) (k0_hw76 : k0_chk76 v7483), ∀ a, (k0_off204 v7483) a + S1x1x128.size a ≤ S784x64x128.size a := fun v7483 k0_hw76 => k0_hw76.2

def k0_off205 (v7494 : BitVec 32) : Fin 3 → Nat :=
  let v8530 : Index := Scalar.indexCast v7494
  let c12_3740 : Index := 12#32
  let c0_3741 : Index := 0#32
  ![v8530.toNat, 12, 0]

def k0_chk77 (v7494 : BitVec 32) : Prop :=
  (∀ a, (k0_off77 v7494) a + S1x1x128.size a ≤ S784x64x128.size a) ∧
  (∀ a, (k0_off205 v7494) a + S1x1x128.size a ≤ S784x64x128.size a)
theorem k0_off77_inb : ∀ (v7494 : BitVec 32) (k0_hw77 : k0_chk77 v7494), ∀ a, (k0_off77 v7494) a + S1x1x128.size a ≤ S784x64x128.size a := fun v7494 k0_hw77 => k0_hw77.1
theorem k0_off205_inb : ∀ (v7494 : BitVec 32) (k0_hw77 : k0_chk77 v7494), ∀ a, (k0_off205 v7494) a + S1x1x128.size a ≤ S784x64x128.size a := fun v7494 k0_hw77 => k0_hw77.2

def k0_off206 (v7505 : BitVec 32) : Fin 3 → Nat :=
  let v8535 : Index := Scalar.indexCast v7505
  let c13_3744 : Index := 13#32
  let c0_3745 : Index := 0#32
  ![v8535.toNat, 13, 0]

def k0_chk78 (v7505 : BitVec 32) : Prop :=
  (∀ a, (k0_off78 v7505) a + S1x1x128.size a ≤ S784x64x128.size a) ∧
  (∀ a, (k0_off206 v7505) a + S1x1x128.size a ≤ S784x64x128.size a)
theorem k0_off78_inb : ∀ (v7505 : BitVec 32) (k0_hw78 : k0_chk78 v7505), ∀ a, (k0_off78 v7505) a + S1x1x128.size a ≤ S784x64x128.size a := fun v7505 k0_hw78 => k0_hw78.1
theorem k0_off206_inb : ∀ (v7505 : BitVec 32) (k0_hw78 : k0_chk78 v7505), ∀ a, (k0_off206 v7505) a + S1x1x128.size a ≤ S784x64x128.size a := fun v7505 k0_hw78 => k0_hw78.2

def k0_off207 (v7516 : BitVec 32) : Fin 3 → Nat :=
  let v8540 : Index := Scalar.indexCast v7516
  let c14_3748 : Index := 14#32
  let c0_3749 : Index := 0#32
  ![v8540.toNat, 14, 0]

def k0_chk79 (v7516 : BitVec 32) : Prop :=
  (∀ a, (k0_off79 v7516) a + S1x1x128.size a ≤ S784x64x128.size a) ∧
  (∀ a, (k0_off207 v7516) a + S1x1x128.size a ≤ S784x64x128.size a)
theorem k0_off79_inb : ∀ (v7516 : BitVec 32) (k0_hw79 : k0_chk79 v7516), ∀ a, (k0_off79 v7516) a + S1x1x128.size a ≤ S784x64x128.size a := fun v7516 k0_hw79 => k0_hw79.1
theorem k0_off207_inb : ∀ (v7516 : BitVec 32) (k0_hw79 : k0_chk79 v7516), ∀ a, (k0_off207 v7516) a + S1x1x128.size a ≤ S784x64x128.size a := fun v7516 k0_hw79 => k0_hw79.2

def k0_off208 (v7527 : BitVec 32) : Fin 3 → Nat :=
  let v8545 : Index := Scalar.indexCast v7527
  let c15_3752 : Index := 15#32
  let c0_3753 : Index := 0#32
  ![v8545.toNat, 15, 0]

def k0_chk80 (v7527 : BitVec 32) : Prop :=
  (∀ a, (k0_off80 v7527) a + S1x1x128.size a ≤ S784x64x128.size a) ∧
  (∀ a, (k0_off208 v7527) a + S1x1x128.size a ≤ S784x64x128.size a)
theorem k0_off80_inb : ∀ (v7527 : BitVec 32) (k0_hw80 : k0_chk80 v7527), ∀ a, (k0_off80 v7527) a + S1x1x128.size a ≤ S784x64x128.size a := fun v7527 k0_hw80 => k0_hw80.1
theorem k0_off208_inb : ∀ (v7527 : BitVec 32) (k0_hw80 : k0_chk80 v7527), ∀ a, (k0_off208 v7527) a + S1x1x128.size a ≤ S784x64x128.size a := fun v7527 k0_hw80 => k0_hw80.2

def k0_off209 (v7538 : BitVec 32) : Fin 3 → Nat :=
  let v8550 : Index := Scalar.indexCast v7538
  let c16_3756 : Index := 16#32
  let c0_3757 : Index := 0#32
  ![v8550.toNat, 16, 0]

def k0_chk81 (v7538 : BitVec 32) : Prop :=
  (∀ a, (k0_off81 v7538) a + S1x1x128.size a ≤ S784x64x128.size a) ∧
  (∀ a, (k0_off209 v7538) a + S1x1x128.size a ≤ S784x64x128.size a)
theorem k0_off81_inb : ∀ (v7538 : BitVec 32) (k0_hw81 : k0_chk81 v7538), ∀ a, (k0_off81 v7538) a + S1x1x128.size a ≤ S784x64x128.size a := fun v7538 k0_hw81 => k0_hw81.1
theorem k0_off209_inb : ∀ (v7538 : BitVec 32) (k0_hw81 : k0_chk81 v7538), ∀ a, (k0_off209 v7538) a + S1x1x128.size a ≤ S784x64x128.size a := fun v7538 k0_hw81 => k0_hw81.2

def k0_off210 (v7549 : BitVec 32) : Fin 3 → Nat :=
  let v8555 : Index := Scalar.indexCast v7549
  let c17_3760 : Index := 17#32
  let c0_3761 : Index := 0#32
  ![v8555.toNat, 17, 0]

def k0_chk82 (v7549 : BitVec 32) : Prop :=
  (∀ a, (k0_off82 v7549) a + S1x1x128.size a ≤ S784x64x128.size a) ∧
  (∀ a, (k0_off210 v7549) a + S1x1x128.size a ≤ S784x64x128.size a)
theorem k0_off82_inb : ∀ (v7549 : BitVec 32) (k0_hw82 : k0_chk82 v7549), ∀ a, (k0_off82 v7549) a + S1x1x128.size a ≤ S784x64x128.size a := fun v7549 k0_hw82 => k0_hw82.1
theorem k0_off210_inb : ∀ (v7549 : BitVec 32) (k0_hw82 : k0_chk82 v7549), ∀ a, (k0_off210 v7549) a + S1x1x128.size a ≤ S784x64x128.size a := fun v7549 k0_hw82 => k0_hw82.2

def k0_off211 (v7560 : BitVec 32) : Fin 3 → Nat :=
  let v8560 : Index := Scalar.indexCast v7560
  let c18_3764 : Index := 18#32
  let c0_3765 : Index := 0#32
  ![v8560.toNat, 18, 0]

def k0_chk83 (v7560 : BitVec 32) : Prop :=
  (∀ a, (k0_off83 v7560) a + S1x1x128.size a ≤ S784x64x128.size a) ∧
  (∀ a, (k0_off211 v7560) a + S1x1x128.size a ≤ S784x64x128.size a)
theorem k0_off83_inb : ∀ (v7560 : BitVec 32) (k0_hw83 : k0_chk83 v7560), ∀ a, (k0_off83 v7560) a + S1x1x128.size a ≤ S784x64x128.size a := fun v7560 k0_hw83 => k0_hw83.1
theorem k0_off211_inb : ∀ (v7560 : BitVec 32) (k0_hw83 : k0_chk83 v7560), ∀ a, (k0_off211 v7560) a + S1x1x128.size a ≤ S784x64x128.size a := fun v7560 k0_hw83 => k0_hw83.2

def k0_off212 (v7571 : BitVec 32) : Fin 3 → Nat :=
  let v8565 : Index := Scalar.indexCast v7571
  let c19_3768 : Index := 19#32
  let c0_3769 : Index := 0#32
  ![v8565.toNat, 19, 0]

def k0_chk84 (v7571 : BitVec 32) : Prop :=
  (∀ a, (k0_off84 v7571) a + S1x1x128.size a ≤ S784x64x128.size a) ∧
  (∀ a, (k0_off212 v7571) a + S1x1x128.size a ≤ S784x64x128.size a)
theorem k0_off84_inb : ∀ (v7571 : BitVec 32) (k0_hw84 : k0_chk84 v7571), ∀ a, (k0_off84 v7571) a + S1x1x128.size a ≤ S784x64x128.size a := fun v7571 k0_hw84 => k0_hw84.1
theorem k0_off212_inb : ∀ (v7571 : BitVec 32) (k0_hw84 : k0_chk84 v7571), ∀ a, (k0_off212 v7571) a + S1x1x128.size a ≤ S784x64x128.size a := fun v7571 k0_hw84 => k0_hw84.2

def k0_off213 (v7582 : BitVec 32) : Fin 3 → Nat :=
  let v8570 : Index := Scalar.indexCast v7582
  let c20_3772 : Index := 20#32
  let c0_3773 : Index := 0#32
  ![v8570.toNat, 20, 0]

def k0_chk85 (v7582 : BitVec 32) : Prop :=
  (∀ a, (k0_off85 v7582) a + S1x1x128.size a ≤ S784x64x128.size a) ∧
  (∀ a, (k0_off213 v7582) a + S1x1x128.size a ≤ S784x64x128.size a)
theorem k0_off85_inb : ∀ (v7582 : BitVec 32) (k0_hw85 : k0_chk85 v7582), ∀ a, (k0_off85 v7582) a + S1x1x128.size a ≤ S784x64x128.size a := fun v7582 k0_hw85 => k0_hw85.1
theorem k0_off213_inb : ∀ (v7582 : BitVec 32) (k0_hw85 : k0_chk85 v7582), ∀ a, (k0_off213 v7582) a + S1x1x128.size a ≤ S784x64x128.size a := fun v7582 k0_hw85 => k0_hw85.2

def k0_off214 (v7593 : BitVec 32) : Fin 3 → Nat :=
  let v8575 : Index := Scalar.indexCast v7593
  let c21_3776 : Index := 21#32
  let c0_3777 : Index := 0#32
  ![v8575.toNat, 21, 0]

def k0_chk86 (v7593 : BitVec 32) : Prop :=
  (∀ a, (k0_off86 v7593) a + S1x1x128.size a ≤ S784x64x128.size a) ∧
  (∀ a, (k0_off214 v7593) a + S1x1x128.size a ≤ S784x64x128.size a)
theorem k0_off86_inb : ∀ (v7593 : BitVec 32) (k0_hw86 : k0_chk86 v7593), ∀ a, (k0_off86 v7593) a + S1x1x128.size a ≤ S784x64x128.size a := fun v7593 k0_hw86 => k0_hw86.1
theorem k0_off214_inb : ∀ (v7593 : BitVec 32) (k0_hw86 : k0_chk86 v7593), ∀ a, (k0_off214 v7593) a + S1x1x128.size a ≤ S784x64x128.size a := fun v7593 k0_hw86 => k0_hw86.2

def k0_off215 (v7604 : BitVec 32) : Fin 3 → Nat :=
  let v8580 : Index := Scalar.indexCast v7604
  let c22_3780 : Index := 22#32
  let c0_3781 : Index := 0#32
  ![v8580.toNat, 22, 0]

def k0_chk87 (v7604 : BitVec 32) : Prop :=
  (∀ a, (k0_off87 v7604) a + S1x1x128.size a ≤ S784x64x128.size a) ∧
  (∀ a, (k0_off215 v7604) a + S1x1x128.size a ≤ S784x64x128.size a)
theorem k0_off87_inb : ∀ (v7604 : BitVec 32) (k0_hw87 : k0_chk87 v7604), ∀ a, (k0_off87 v7604) a + S1x1x128.size a ≤ S784x64x128.size a := fun v7604 k0_hw87 => k0_hw87.1
theorem k0_off215_inb : ∀ (v7604 : BitVec 32) (k0_hw87 : k0_chk87 v7604), ∀ a, (k0_off215 v7604) a + S1x1x128.size a ≤ S784x64x128.size a := fun v7604 k0_hw87 => k0_hw87.2

def k0_off216 (v7615 : BitVec 32) : Fin 3 → Nat :=
  let v8585 : Index := Scalar.indexCast v7615
  let c23_3784 : Index := 23#32
  let c0_3785 : Index := 0#32
  ![v8585.toNat, 23, 0]

def k0_chk88 (v7615 : BitVec 32) : Prop :=
  (∀ a, (k0_off88 v7615) a + S1x1x128.size a ≤ S784x64x128.size a) ∧
  (∀ a, (k0_off216 v7615) a + S1x1x128.size a ≤ S784x64x128.size a)
theorem k0_off88_inb : ∀ (v7615 : BitVec 32) (k0_hw88 : k0_chk88 v7615), ∀ a, (k0_off88 v7615) a + S1x1x128.size a ≤ S784x64x128.size a := fun v7615 k0_hw88 => k0_hw88.1
theorem k0_off216_inb : ∀ (v7615 : BitVec 32) (k0_hw88 : k0_chk88 v7615), ∀ a, (k0_off216 v7615) a + S1x1x128.size a ≤ S784x64x128.size a := fun v7615 k0_hw88 => k0_hw88.2

def k0_off217 (v7626 : BitVec 32) : Fin 3 → Nat :=
  let v8590 : Index := Scalar.indexCast v7626
  let c24_3788 : Index := 24#32
  let c0_3789 : Index := 0#32
  ![v8590.toNat, 24, 0]

def k0_chk89 (v7626 : BitVec 32) : Prop :=
  (∀ a, (k0_off89 v7626) a + S1x1x128.size a ≤ S784x64x128.size a) ∧
  (∀ a, (k0_off217 v7626) a + S1x1x128.size a ≤ S784x64x128.size a)
theorem k0_off89_inb : ∀ (v7626 : BitVec 32) (k0_hw89 : k0_chk89 v7626), ∀ a, (k0_off89 v7626) a + S1x1x128.size a ≤ S784x64x128.size a := fun v7626 k0_hw89 => k0_hw89.1
theorem k0_off217_inb : ∀ (v7626 : BitVec 32) (k0_hw89 : k0_chk89 v7626), ∀ a, (k0_off217 v7626) a + S1x1x128.size a ≤ S784x64x128.size a := fun v7626 k0_hw89 => k0_hw89.2

def k0_off218 (v7637 : BitVec 32) : Fin 3 → Nat :=
  let v8595 : Index := Scalar.indexCast v7637
  let c25_3792 : Index := 25#32
  let c0_3793 : Index := 0#32
  ![v8595.toNat, 25, 0]

def k0_chk90 (v7637 : BitVec 32) : Prop :=
  (∀ a, (k0_off90 v7637) a + S1x1x128.size a ≤ S784x64x128.size a) ∧
  (∀ a, (k0_off218 v7637) a + S1x1x128.size a ≤ S784x64x128.size a)
theorem k0_off90_inb : ∀ (v7637 : BitVec 32) (k0_hw90 : k0_chk90 v7637), ∀ a, (k0_off90 v7637) a + S1x1x128.size a ≤ S784x64x128.size a := fun v7637 k0_hw90 => k0_hw90.1
theorem k0_off218_inb : ∀ (v7637 : BitVec 32) (k0_hw90 : k0_chk90 v7637), ∀ a, (k0_off218 v7637) a + S1x1x128.size a ≤ S784x64x128.size a := fun v7637 k0_hw90 => k0_hw90.2

def k0_off219 (v7648 : BitVec 32) : Fin 3 → Nat :=
  let v8600 : Index := Scalar.indexCast v7648
  let c26_3796 : Index := 26#32
  let c0_3797 : Index := 0#32
  ![v8600.toNat, 26, 0]

def k0_chk91 (v7648 : BitVec 32) : Prop :=
  (∀ a, (k0_off91 v7648) a + S1x1x128.size a ≤ S784x64x128.size a) ∧
  (∀ a, (k0_off219 v7648) a + S1x1x128.size a ≤ S784x64x128.size a)
theorem k0_off91_inb : ∀ (v7648 : BitVec 32) (k0_hw91 : k0_chk91 v7648), ∀ a, (k0_off91 v7648) a + S1x1x128.size a ≤ S784x64x128.size a := fun v7648 k0_hw91 => k0_hw91.1
theorem k0_off219_inb : ∀ (v7648 : BitVec 32) (k0_hw91 : k0_chk91 v7648), ∀ a, (k0_off219 v7648) a + S1x1x128.size a ≤ S784x64x128.size a := fun v7648 k0_hw91 => k0_hw91.2

def k0_off220 (v7659 : BitVec 32) : Fin 3 → Nat :=
  let v8605 : Index := Scalar.indexCast v7659
  let c27_3800 : Index := 27#32
  let c0_3801 : Index := 0#32
  ![v8605.toNat, 27, 0]

def k0_chk92 (v7659 : BitVec 32) : Prop :=
  (∀ a, (k0_off92 v7659) a + S1x1x128.size a ≤ S784x64x128.size a) ∧
  (∀ a, (k0_off220 v7659) a + S1x1x128.size a ≤ S784x64x128.size a)
theorem k0_off92_inb : ∀ (v7659 : BitVec 32) (k0_hw92 : k0_chk92 v7659), ∀ a, (k0_off92 v7659) a + S1x1x128.size a ≤ S784x64x128.size a := fun v7659 k0_hw92 => k0_hw92.1
theorem k0_off220_inb : ∀ (v7659 : BitVec 32) (k0_hw92 : k0_chk92 v7659), ∀ a, (k0_off220 v7659) a + S1x1x128.size a ≤ S784x64x128.size a := fun v7659 k0_hw92 => k0_hw92.2

def k0_off221 (v7670 : BitVec 32) : Fin 3 → Nat :=
  let v8610 : Index := Scalar.indexCast v7670
  let c28_3804 : Index := 28#32
  let c0_3805 : Index := 0#32
  ![v8610.toNat, 28, 0]

def k0_chk93 (v7670 : BitVec 32) : Prop :=
  (∀ a, (k0_off93 v7670) a + S1x1x128.size a ≤ S784x64x128.size a) ∧
  (∀ a, (k0_off221 v7670) a + S1x1x128.size a ≤ S784x64x128.size a)
theorem k0_off93_inb : ∀ (v7670 : BitVec 32) (k0_hw93 : k0_chk93 v7670), ∀ a, (k0_off93 v7670) a + S1x1x128.size a ≤ S784x64x128.size a := fun v7670 k0_hw93 => k0_hw93.1
theorem k0_off221_inb : ∀ (v7670 : BitVec 32) (k0_hw93 : k0_chk93 v7670), ∀ a, (k0_off221 v7670) a + S1x1x128.size a ≤ S784x64x128.size a := fun v7670 k0_hw93 => k0_hw93.2

def k0_off222 (v7681 : BitVec 32) : Fin 3 → Nat :=
  let v8615 : Index := Scalar.indexCast v7681
  let c29_3808 : Index := 29#32
  let c0_3809 : Index := 0#32
  ![v8615.toNat, 29, 0]

def k0_chk94 (v7681 : BitVec 32) : Prop :=
  (∀ a, (k0_off94 v7681) a + S1x1x128.size a ≤ S784x64x128.size a) ∧
  (∀ a, (k0_off222 v7681) a + S1x1x128.size a ≤ S784x64x128.size a)
theorem k0_off94_inb : ∀ (v7681 : BitVec 32) (k0_hw94 : k0_chk94 v7681), ∀ a, (k0_off94 v7681) a + S1x1x128.size a ≤ S784x64x128.size a := fun v7681 k0_hw94 => k0_hw94.1
theorem k0_off222_inb : ∀ (v7681 : BitVec 32) (k0_hw94 : k0_chk94 v7681), ∀ a, (k0_off222 v7681) a + S1x1x128.size a ≤ S784x64x128.size a := fun v7681 k0_hw94 => k0_hw94.2

def k0_off223 (v7692 : BitVec 32) : Fin 3 → Nat :=
  let v8620 : Index := Scalar.indexCast v7692
  let c30_3812 : Index := 30#32
  let c0_3813 : Index := 0#32
  ![v8620.toNat, 30, 0]

def k0_chk95 (v7692 : BitVec 32) : Prop :=
  (∀ a, (k0_off95 v7692) a + S1x1x128.size a ≤ S784x64x128.size a) ∧
  (∀ a, (k0_off223 v7692) a + S1x1x128.size a ≤ S784x64x128.size a)
theorem k0_off95_inb : ∀ (v7692 : BitVec 32) (k0_hw95 : k0_chk95 v7692), ∀ a, (k0_off95 v7692) a + S1x1x128.size a ≤ S784x64x128.size a := fun v7692 k0_hw95 => k0_hw95.1
theorem k0_off223_inb : ∀ (v7692 : BitVec 32) (k0_hw95 : k0_chk95 v7692), ∀ a, (k0_off223 v7692) a + S1x1x128.size a ≤ S784x64x128.size a := fun v7692 k0_hw95 => k0_hw95.2

def k0_off224 (v7703 : BitVec 32) : Fin 3 → Nat :=
  let v8625 : Index := Scalar.indexCast v7703
  let c31_3816 : Index := 31#32
  let c0_3817 : Index := 0#32
  ![v8625.toNat, 31, 0]

def k0_chk96 (v7703 : BitVec 32) : Prop :=
  (∀ a, (k0_off96 v7703) a + S1x1x128.size a ≤ S784x64x128.size a) ∧
  (∀ a, (k0_off224 v7703) a + S1x1x128.size a ≤ S784x64x128.size a)
theorem k0_off96_inb : ∀ (v7703 : BitVec 32) (k0_hw96 : k0_chk96 v7703), ∀ a, (k0_off96 v7703) a + S1x1x128.size a ≤ S784x64x128.size a := fun v7703 k0_hw96 => k0_hw96.1
theorem k0_off224_inb : ∀ (v7703 : BitVec 32) (k0_hw96 : k0_chk96 v7703), ∀ a, (k0_off224 v7703) a + S1x1x128.size a ≤ S784x64x128.size a := fun v7703 k0_hw96 => k0_hw96.2

def k0_off225 (v7714 : BitVec 32) : Fin 3 → Nat :=
  let v8630 : Index := Scalar.indexCast v7714
  let c32_3820 : Index := 32#32
  let c0_3821 : Index := 0#32
  ![v8630.toNat, 32, 0]

def k0_chk97 (v7714 : BitVec 32) : Prop :=
  (∀ a, (k0_off97 v7714) a + S1x1x128.size a ≤ S784x64x128.size a) ∧
  (∀ a, (k0_off225 v7714) a + S1x1x128.size a ≤ S784x64x128.size a)
theorem k0_off97_inb : ∀ (v7714 : BitVec 32) (k0_hw97 : k0_chk97 v7714), ∀ a, (k0_off97 v7714) a + S1x1x128.size a ≤ S784x64x128.size a := fun v7714 k0_hw97 => k0_hw97.1
theorem k0_off225_inb : ∀ (v7714 : BitVec 32) (k0_hw97 : k0_chk97 v7714), ∀ a, (k0_off225 v7714) a + S1x1x128.size a ≤ S784x64x128.size a := fun v7714 k0_hw97 => k0_hw97.2

def k0_off226 (v7725 : BitVec 32) : Fin 3 → Nat :=
  let v8635 : Index := Scalar.indexCast v7725
  let c33_3824 : Index := 33#32
  let c0_3825 : Index := 0#32
  ![v8635.toNat, 33, 0]

def k0_chk98 (v7725 : BitVec 32) : Prop :=
  (∀ a, (k0_off98 v7725) a + S1x1x128.size a ≤ S784x64x128.size a) ∧
  (∀ a, (k0_off226 v7725) a + S1x1x128.size a ≤ S784x64x128.size a)
theorem k0_off98_inb : ∀ (v7725 : BitVec 32) (k0_hw98 : k0_chk98 v7725), ∀ a, (k0_off98 v7725) a + S1x1x128.size a ≤ S784x64x128.size a := fun v7725 k0_hw98 => k0_hw98.1
theorem k0_off226_inb : ∀ (v7725 : BitVec 32) (k0_hw98 : k0_chk98 v7725), ∀ a, (k0_off226 v7725) a + S1x1x128.size a ≤ S784x64x128.size a := fun v7725 k0_hw98 => k0_hw98.2

def k0_off227 (v7736 : BitVec 32) : Fin 3 → Nat :=
  let v8640 : Index := Scalar.indexCast v7736
  let c34_3828 : Index := 34#32
  let c0_3829 : Index := 0#32
  ![v8640.toNat, 34, 0]

def k0_chk99 (v7736 : BitVec 32) : Prop :=
  (∀ a, (k0_off99 v7736) a + S1x1x128.size a ≤ S784x64x128.size a) ∧
  (∀ a, (k0_off227 v7736) a + S1x1x128.size a ≤ S784x64x128.size a)
theorem k0_off99_inb : ∀ (v7736 : BitVec 32) (k0_hw99 : k0_chk99 v7736), ∀ a, (k0_off99 v7736) a + S1x1x128.size a ≤ S784x64x128.size a := fun v7736 k0_hw99 => k0_hw99.1
theorem k0_off227_inb : ∀ (v7736 : BitVec 32) (k0_hw99 : k0_chk99 v7736), ∀ a, (k0_off227 v7736) a + S1x1x128.size a ≤ S784x64x128.size a := fun v7736 k0_hw99 => k0_hw99.2

def k0_off228 (v7747 : BitVec 32) : Fin 3 → Nat :=
  let v8645 : Index := Scalar.indexCast v7747
  let c35_3832 : Index := 35#32
  let c0_3833 : Index := 0#32
  ![v8645.toNat, 35, 0]

def k0_chk100 (v7747 : BitVec 32) : Prop :=
  (∀ a, (k0_off100 v7747) a + S1x1x128.size a ≤ S784x64x128.size a) ∧
  (∀ a, (k0_off228 v7747) a + S1x1x128.size a ≤ S784x64x128.size a)
theorem k0_off100_inb : ∀ (v7747 : BitVec 32) (k0_hw100 : k0_chk100 v7747), ∀ a, (k0_off100 v7747) a + S1x1x128.size a ≤ S784x64x128.size a := fun v7747 k0_hw100 => k0_hw100.1
theorem k0_off228_inb : ∀ (v7747 : BitVec 32) (k0_hw100 : k0_chk100 v7747), ∀ a, (k0_off228 v7747) a + S1x1x128.size a ≤ S784x64x128.size a := fun v7747 k0_hw100 => k0_hw100.2

def k0_off229 (v7758 : BitVec 32) : Fin 3 → Nat :=
  let v8650 : Index := Scalar.indexCast v7758
  let c36_3836 : Index := 36#32
  let c0_3837 : Index := 0#32
  ![v8650.toNat, 36, 0]

def k0_chk101 (v7758 : BitVec 32) : Prop :=
  (∀ a, (k0_off101 v7758) a + S1x1x128.size a ≤ S784x64x128.size a) ∧
  (∀ a, (k0_off229 v7758) a + S1x1x128.size a ≤ S784x64x128.size a)
theorem k0_off101_inb : ∀ (v7758 : BitVec 32) (k0_hw101 : k0_chk101 v7758), ∀ a, (k0_off101 v7758) a + S1x1x128.size a ≤ S784x64x128.size a := fun v7758 k0_hw101 => k0_hw101.1
theorem k0_off229_inb : ∀ (v7758 : BitVec 32) (k0_hw101 : k0_chk101 v7758), ∀ a, (k0_off229 v7758) a + S1x1x128.size a ≤ S784x64x128.size a := fun v7758 k0_hw101 => k0_hw101.2

def k0_off230 (v7769 : BitVec 32) : Fin 3 → Nat :=
  let v8655 : Index := Scalar.indexCast v7769
  let c37_3840 : Index := 37#32
  let c0_3841 : Index := 0#32
  ![v8655.toNat, 37, 0]

def k0_chk102 (v7769 : BitVec 32) : Prop :=
  (∀ a, (k0_off102 v7769) a + S1x1x128.size a ≤ S784x64x128.size a) ∧
  (∀ a, (k0_off230 v7769) a + S1x1x128.size a ≤ S784x64x128.size a)
theorem k0_off102_inb : ∀ (v7769 : BitVec 32) (k0_hw102 : k0_chk102 v7769), ∀ a, (k0_off102 v7769) a + S1x1x128.size a ≤ S784x64x128.size a := fun v7769 k0_hw102 => k0_hw102.1
theorem k0_off230_inb : ∀ (v7769 : BitVec 32) (k0_hw102 : k0_chk102 v7769), ∀ a, (k0_off230 v7769) a + S1x1x128.size a ≤ S784x64x128.size a := fun v7769 k0_hw102 => k0_hw102.2

def k0_off231 (v7780 : BitVec 32) : Fin 3 → Nat :=
  let v8660 : Index := Scalar.indexCast v7780
  let c38_3844 : Index := 38#32
  let c0_3845 : Index := 0#32
  ![v8660.toNat, 38, 0]

def k0_chk103 (v7780 : BitVec 32) : Prop :=
  (∀ a, (k0_off103 v7780) a + S1x1x128.size a ≤ S784x64x128.size a) ∧
  (∀ a, (k0_off231 v7780) a + S1x1x128.size a ≤ S784x64x128.size a)
theorem k0_off103_inb : ∀ (v7780 : BitVec 32) (k0_hw103 : k0_chk103 v7780), ∀ a, (k0_off103 v7780) a + S1x1x128.size a ≤ S784x64x128.size a := fun v7780 k0_hw103 => k0_hw103.1
theorem k0_off231_inb : ∀ (v7780 : BitVec 32) (k0_hw103 : k0_chk103 v7780), ∀ a, (k0_off231 v7780) a + S1x1x128.size a ≤ S784x64x128.size a := fun v7780 k0_hw103 => k0_hw103.2

def k0_off232 (v7791 : BitVec 32) : Fin 3 → Nat :=
  let v8665 : Index := Scalar.indexCast v7791
  let c39_3848 : Index := 39#32
  let c0_3849 : Index := 0#32
  ![v8665.toNat, 39, 0]

def k0_chk104 (v7791 : BitVec 32) : Prop :=
  (∀ a, (k0_off104 v7791) a + S1x1x128.size a ≤ S784x64x128.size a) ∧
  (∀ a, (k0_off232 v7791) a + S1x1x128.size a ≤ S784x64x128.size a)
theorem k0_off104_inb : ∀ (v7791 : BitVec 32) (k0_hw104 : k0_chk104 v7791), ∀ a, (k0_off104 v7791) a + S1x1x128.size a ≤ S784x64x128.size a := fun v7791 k0_hw104 => k0_hw104.1
theorem k0_off232_inb : ∀ (v7791 : BitVec 32) (k0_hw104 : k0_chk104 v7791), ∀ a, (k0_off232 v7791) a + S1x1x128.size a ≤ S784x64x128.size a := fun v7791 k0_hw104 => k0_hw104.2

def k0_off233 (v7802 : BitVec 32) : Fin 3 → Nat :=
  let v8670 : Index := Scalar.indexCast v7802
  let c40_3852 : Index := 40#32
  let c0_3853 : Index := 0#32
  ![v8670.toNat, 40, 0]

def k0_chk105 (v7802 : BitVec 32) : Prop :=
  (∀ a, (k0_off105 v7802) a + S1x1x128.size a ≤ S784x64x128.size a) ∧
  (∀ a, (k0_off233 v7802) a + S1x1x128.size a ≤ S784x64x128.size a)
theorem k0_off105_inb : ∀ (v7802 : BitVec 32) (k0_hw105 : k0_chk105 v7802), ∀ a, (k0_off105 v7802) a + S1x1x128.size a ≤ S784x64x128.size a := fun v7802 k0_hw105 => k0_hw105.1
theorem k0_off233_inb : ∀ (v7802 : BitVec 32) (k0_hw105 : k0_chk105 v7802), ∀ a, (k0_off233 v7802) a + S1x1x128.size a ≤ S784x64x128.size a := fun v7802 k0_hw105 => k0_hw105.2

def k0_off234 (v7813 : BitVec 32) : Fin 3 → Nat :=
  let v8675 : Index := Scalar.indexCast v7813
  let c41_3856 : Index := 41#32
  let c0_3857 : Index := 0#32
  ![v8675.toNat, 41, 0]

def k0_chk106 (v7813 : BitVec 32) : Prop :=
  (∀ a, (k0_off106 v7813) a + S1x1x128.size a ≤ S784x64x128.size a) ∧
  (∀ a, (k0_off234 v7813) a + S1x1x128.size a ≤ S784x64x128.size a)
theorem k0_off106_inb : ∀ (v7813 : BitVec 32) (k0_hw106 : k0_chk106 v7813), ∀ a, (k0_off106 v7813) a + S1x1x128.size a ≤ S784x64x128.size a := fun v7813 k0_hw106 => k0_hw106.1
theorem k0_off234_inb : ∀ (v7813 : BitVec 32) (k0_hw106 : k0_chk106 v7813), ∀ a, (k0_off234 v7813) a + S1x1x128.size a ≤ S784x64x128.size a := fun v7813 k0_hw106 => k0_hw106.2

def k0_off235 (v7824 : BitVec 32) : Fin 3 → Nat :=
  let v8680 : Index := Scalar.indexCast v7824
  let c42_3860 : Index := 42#32
  let c0_3861 : Index := 0#32
  ![v8680.toNat, 42, 0]

def k0_chk107 (v7824 : BitVec 32) : Prop :=
  (∀ a, (k0_off107 v7824) a + S1x1x128.size a ≤ S784x64x128.size a) ∧
  (∀ a, (k0_off235 v7824) a + S1x1x128.size a ≤ S784x64x128.size a)
theorem k0_off107_inb : ∀ (v7824 : BitVec 32) (k0_hw107 : k0_chk107 v7824), ∀ a, (k0_off107 v7824) a + S1x1x128.size a ≤ S784x64x128.size a := fun v7824 k0_hw107 => k0_hw107.1
theorem k0_off235_inb : ∀ (v7824 : BitVec 32) (k0_hw107 : k0_chk107 v7824), ∀ a, (k0_off235 v7824) a + S1x1x128.size a ≤ S784x64x128.size a := fun v7824 k0_hw107 => k0_hw107.2

def k0_off236 (v7835 : BitVec 32) : Fin 3 → Nat :=
  let v8685 : Index := Scalar.indexCast v7835
  let c43_3864 : Index := 43#32
  let c0_3865 : Index := 0#32
  ![v8685.toNat, 43, 0]

def k0_chk108 (v7835 : BitVec 32) : Prop :=
  (∀ a, (k0_off108 v7835) a + S1x1x128.size a ≤ S784x64x128.size a) ∧
  (∀ a, (k0_off236 v7835) a + S1x1x128.size a ≤ S784x64x128.size a)
theorem k0_off108_inb : ∀ (v7835 : BitVec 32) (k0_hw108 : k0_chk108 v7835), ∀ a, (k0_off108 v7835) a + S1x1x128.size a ≤ S784x64x128.size a := fun v7835 k0_hw108 => k0_hw108.1
theorem k0_off236_inb : ∀ (v7835 : BitVec 32) (k0_hw108 : k0_chk108 v7835), ∀ a, (k0_off236 v7835) a + S1x1x128.size a ≤ S784x64x128.size a := fun v7835 k0_hw108 => k0_hw108.2

def k0_off237 (v7846 : BitVec 32) : Fin 3 → Nat :=
  let v8690 : Index := Scalar.indexCast v7846
  let c44_3868 : Index := 44#32
  let c0_3869 : Index := 0#32
  ![v8690.toNat, 44, 0]

def k0_chk109 (v7846 : BitVec 32) : Prop :=
  (∀ a, (k0_off109 v7846) a + S1x1x128.size a ≤ S784x64x128.size a) ∧
  (∀ a, (k0_off237 v7846) a + S1x1x128.size a ≤ S784x64x128.size a)
theorem k0_off109_inb : ∀ (v7846 : BitVec 32) (k0_hw109 : k0_chk109 v7846), ∀ a, (k0_off109 v7846) a + S1x1x128.size a ≤ S784x64x128.size a := fun v7846 k0_hw109 => k0_hw109.1
theorem k0_off237_inb : ∀ (v7846 : BitVec 32) (k0_hw109 : k0_chk109 v7846), ∀ a, (k0_off237 v7846) a + S1x1x128.size a ≤ S784x64x128.size a := fun v7846 k0_hw109 => k0_hw109.2

def k0_off238 (v7857 : BitVec 32) : Fin 3 → Nat :=
  let v8695 : Index := Scalar.indexCast v7857
  let c45_3872 : Index := 45#32
  let c0_3873 : Index := 0#32
  ![v8695.toNat, 45, 0]

def k0_chk110 (v7857 : BitVec 32) : Prop :=
  (∀ a, (k0_off110 v7857) a + S1x1x128.size a ≤ S784x64x128.size a) ∧
  (∀ a, (k0_off238 v7857) a + S1x1x128.size a ≤ S784x64x128.size a)
theorem k0_off110_inb : ∀ (v7857 : BitVec 32) (k0_hw110 : k0_chk110 v7857), ∀ a, (k0_off110 v7857) a + S1x1x128.size a ≤ S784x64x128.size a := fun v7857 k0_hw110 => k0_hw110.1
theorem k0_off238_inb : ∀ (v7857 : BitVec 32) (k0_hw110 : k0_chk110 v7857), ∀ a, (k0_off238 v7857) a + S1x1x128.size a ≤ S784x64x128.size a := fun v7857 k0_hw110 => k0_hw110.2

def k0_off239 (v7868 : BitVec 32) : Fin 3 → Nat :=
  let v8700 : Index := Scalar.indexCast v7868
  let c46_3876 : Index := 46#32
  let c0_3877 : Index := 0#32
  ![v8700.toNat, 46, 0]

def k0_chk111 (v7868 : BitVec 32) : Prop :=
  (∀ a, (k0_off111 v7868) a + S1x1x128.size a ≤ S784x64x128.size a) ∧
  (∀ a, (k0_off239 v7868) a + S1x1x128.size a ≤ S784x64x128.size a)
theorem k0_off111_inb : ∀ (v7868 : BitVec 32) (k0_hw111 : k0_chk111 v7868), ∀ a, (k0_off111 v7868) a + S1x1x128.size a ≤ S784x64x128.size a := fun v7868 k0_hw111 => k0_hw111.1
theorem k0_off239_inb : ∀ (v7868 : BitVec 32) (k0_hw111 : k0_chk111 v7868), ∀ a, (k0_off239 v7868) a + S1x1x128.size a ≤ S784x64x128.size a := fun v7868 k0_hw111 => k0_hw111.2

def k0_off240 (v7879 : BitVec 32) : Fin 3 → Nat :=
  let v8705 : Index := Scalar.indexCast v7879
  let c47_3880 : Index := 47#32
  let c0_3881 : Index := 0#32
  ![v8705.toNat, 47, 0]

def k0_chk112 (v7879 : BitVec 32) : Prop :=
  (∀ a, (k0_off112 v7879) a + S1x1x128.size a ≤ S784x64x128.size a) ∧
  (∀ a, (k0_off240 v7879) a + S1x1x128.size a ≤ S784x64x128.size a)
theorem k0_off112_inb : ∀ (v7879 : BitVec 32) (k0_hw112 : k0_chk112 v7879), ∀ a, (k0_off112 v7879) a + S1x1x128.size a ≤ S784x64x128.size a := fun v7879 k0_hw112 => k0_hw112.1
theorem k0_off240_inb : ∀ (v7879 : BitVec 32) (k0_hw112 : k0_chk112 v7879), ∀ a, (k0_off240 v7879) a + S1x1x128.size a ≤ S784x64x128.size a := fun v7879 k0_hw112 => k0_hw112.2

def k0_off241 (v7890 : BitVec 32) : Fin 3 → Nat :=
  let v8710 : Index := Scalar.indexCast v7890
  let c48_3884 : Index := 48#32
  let c0_3885 : Index := 0#32
  ![v8710.toNat, 48, 0]

def k0_chk113 (v7890 : BitVec 32) : Prop :=
  (∀ a, (k0_off113 v7890) a + S1x1x128.size a ≤ S784x64x128.size a) ∧
  (∀ a, (k0_off241 v7890) a + S1x1x128.size a ≤ S784x64x128.size a)
theorem k0_off113_inb : ∀ (v7890 : BitVec 32) (k0_hw113 : k0_chk113 v7890), ∀ a, (k0_off113 v7890) a + S1x1x128.size a ≤ S784x64x128.size a := fun v7890 k0_hw113 => k0_hw113.1
theorem k0_off241_inb : ∀ (v7890 : BitVec 32) (k0_hw113 : k0_chk113 v7890), ∀ a, (k0_off241 v7890) a + S1x1x128.size a ≤ S784x64x128.size a := fun v7890 k0_hw113 => k0_hw113.2

def k0_off242 (v7901 : BitVec 32) : Fin 3 → Nat :=
  let v8715 : Index := Scalar.indexCast v7901
  let c49_3888 : Index := 49#32
  let c0_3889 : Index := 0#32
  ![v8715.toNat, 49, 0]

def k0_chk114 (v7901 : BitVec 32) : Prop :=
  (∀ a, (k0_off114 v7901) a + S1x1x128.size a ≤ S784x64x128.size a) ∧
  (∀ a, (k0_off242 v7901) a + S1x1x128.size a ≤ S784x64x128.size a)
theorem k0_off114_inb : ∀ (v7901 : BitVec 32) (k0_hw114 : k0_chk114 v7901), ∀ a, (k0_off114 v7901) a + S1x1x128.size a ≤ S784x64x128.size a := fun v7901 k0_hw114 => k0_hw114.1
theorem k0_off242_inb : ∀ (v7901 : BitVec 32) (k0_hw114 : k0_chk114 v7901), ∀ a, (k0_off242 v7901) a + S1x1x128.size a ≤ S784x64x128.size a := fun v7901 k0_hw114 => k0_hw114.2

def k0_off243 (v7912 : BitVec 32) : Fin 3 → Nat :=
  let v8720 : Index := Scalar.indexCast v7912
  let c50_3892 : Index := 50#32
  let c0_3893 : Index := 0#32
  ![v8720.toNat, 50, 0]

def k0_chk115 (v7912 : BitVec 32) : Prop :=
  (∀ a, (k0_off115 v7912) a + S1x1x128.size a ≤ S784x64x128.size a) ∧
  (∀ a, (k0_off243 v7912) a + S1x1x128.size a ≤ S784x64x128.size a)
theorem k0_off115_inb : ∀ (v7912 : BitVec 32) (k0_hw115 : k0_chk115 v7912), ∀ a, (k0_off115 v7912) a + S1x1x128.size a ≤ S784x64x128.size a := fun v7912 k0_hw115 => k0_hw115.1
theorem k0_off243_inb : ∀ (v7912 : BitVec 32) (k0_hw115 : k0_chk115 v7912), ∀ a, (k0_off243 v7912) a + S1x1x128.size a ≤ S784x64x128.size a := fun v7912 k0_hw115 => k0_hw115.2

def k0_off244 (v7923 : BitVec 32) : Fin 3 → Nat :=
  let v8725 : Index := Scalar.indexCast v7923
  let c51_3896 : Index := 51#32
  let c0_3897 : Index := 0#32
  ![v8725.toNat, 51, 0]

def k0_chk116 (v7923 : BitVec 32) : Prop :=
  (∀ a, (k0_off116 v7923) a + S1x1x128.size a ≤ S784x64x128.size a) ∧
  (∀ a, (k0_off244 v7923) a + S1x1x128.size a ≤ S784x64x128.size a)
theorem k0_off116_inb : ∀ (v7923 : BitVec 32) (k0_hw116 : k0_chk116 v7923), ∀ a, (k0_off116 v7923) a + S1x1x128.size a ≤ S784x64x128.size a := fun v7923 k0_hw116 => k0_hw116.1
theorem k0_off244_inb : ∀ (v7923 : BitVec 32) (k0_hw116 : k0_chk116 v7923), ∀ a, (k0_off244 v7923) a + S1x1x128.size a ≤ S784x64x128.size a := fun v7923 k0_hw116 => k0_hw116.2

def k0_off245 (v7934 : BitVec 32) : Fin 3 → Nat :=
  let v8730 : Index := Scalar.indexCast v7934
  let c52_3900 : Index := 52#32
  let c0_3901 : Index := 0#32
  ![v8730.toNat, 52, 0]

def k0_chk117 (v7934 : BitVec 32) : Prop :=
  (∀ a, (k0_off117 v7934) a + S1x1x128.size a ≤ S784x64x128.size a) ∧
  (∀ a, (k0_off245 v7934) a + S1x1x128.size a ≤ S784x64x128.size a)
theorem k0_off117_inb : ∀ (v7934 : BitVec 32) (k0_hw117 : k0_chk117 v7934), ∀ a, (k0_off117 v7934) a + S1x1x128.size a ≤ S784x64x128.size a := fun v7934 k0_hw117 => k0_hw117.1
theorem k0_off245_inb : ∀ (v7934 : BitVec 32) (k0_hw117 : k0_chk117 v7934), ∀ a, (k0_off245 v7934) a + S1x1x128.size a ≤ S784x64x128.size a := fun v7934 k0_hw117 => k0_hw117.2

def k0_off246 (v7945 : BitVec 32) : Fin 3 → Nat :=
  let v8735 : Index := Scalar.indexCast v7945
  let c53_3904 : Index := 53#32
  let c0_3905 : Index := 0#32
  ![v8735.toNat, 53, 0]

def k0_chk118 (v7945 : BitVec 32) : Prop :=
  (∀ a, (k0_off118 v7945) a + S1x1x128.size a ≤ S784x64x128.size a) ∧
  (∀ a, (k0_off246 v7945) a + S1x1x128.size a ≤ S784x64x128.size a)
theorem k0_off118_inb : ∀ (v7945 : BitVec 32) (k0_hw118 : k0_chk118 v7945), ∀ a, (k0_off118 v7945) a + S1x1x128.size a ≤ S784x64x128.size a := fun v7945 k0_hw118 => k0_hw118.1
theorem k0_off246_inb : ∀ (v7945 : BitVec 32) (k0_hw118 : k0_chk118 v7945), ∀ a, (k0_off246 v7945) a + S1x1x128.size a ≤ S784x64x128.size a := fun v7945 k0_hw118 => k0_hw118.2

def k0_off247 (v7956 : BitVec 32) : Fin 3 → Nat :=
  let v8740 : Index := Scalar.indexCast v7956
  let c54_3908 : Index := 54#32
  let c0_3909 : Index := 0#32
  ![v8740.toNat, 54, 0]

def k0_chk119 (v7956 : BitVec 32) : Prop :=
  (∀ a, (k0_off119 v7956) a + S1x1x128.size a ≤ S784x64x128.size a) ∧
  (∀ a, (k0_off247 v7956) a + S1x1x128.size a ≤ S784x64x128.size a)
theorem k0_off119_inb : ∀ (v7956 : BitVec 32) (k0_hw119 : k0_chk119 v7956), ∀ a, (k0_off119 v7956) a + S1x1x128.size a ≤ S784x64x128.size a := fun v7956 k0_hw119 => k0_hw119.1
theorem k0_off247_inb : ∀ (v7956 : BitVec 32) (k0_hw119 : k0_chk119 v7956), ∀ a, (k0_off247 v7956) a + S1x1x128.size a ≤ S784x64x128.size a := fun v7956 k0_hw119 => k0_hw119.2

def k0_off248 (v7967 : BitVec 32) : Fin 3 → Nat :=
  let v8745 : Index := Scalar.indexCast v7967
  let c55_3912 : Index := 55#32
  let c0_3913 : Index := 0#32
  ![v8745.toNat, 55, 0]

def k0_chk120 (v7967 : BitVec 32) : Prop :=
  (∀ a, (k0_off120 v7967) a + S1x1x128.size a ≤ S784x64x128.size a) ∧
  (∀ a, (k0_off248 v7967) a + S1x1x128.size a ≤ S784x64x128.size a)
theorem k0_off120_inb : ∀ (v7967 : BitVec 32) (k0_hw120 : k0_chk120 v7967), ∀ a, (k0_off120 v7967) a + S1x1x128.size a ≤ S784x64x128.size a := fun v7967 k0_hw120 => k0_hw120.1
theorem k0_off248_inb : ∀ (v7967 : BitVec 32) (k0_hw120 : k0_chk120 v7967), ∀ a, (k0_off248 v7967) a + S1x1x128.size a ≤ S784x64x128.size a := fun v7967 k0_hw120 => k0_hw120.2

def k0_off249 (v7978 : BitVec 32) : Fin 3 → Nat :=
  let v8750 : Index := Scalar.indexCast v7978
  let c56_3916 : Index := 56#32
  let c0_3917 : Index := 0#32
  ![v8750.toNat, 56, 0]

def k0_chk121 (v7978 : BitVec 32) : Prop :=
  (∀ a, (k0_off121 v7978) a + S1x1x128.size a ≤ S784x64x128.size a) ∧
  (∀ a, (k0_off249 v7978) a + S1x1x128.size a ≤ S784x64x128.size a)
theorem k0_off121_inb : ∀ (v7978 : BitVec 32) (k0_hw121 : k0_chk121 v7978), ∀ a, (k0_off121 v7978) a + S1x1x128.size a ≤ S784x64x128.size a := fun v7978 k0_hw121 => k0_hw121.1
theorem k0_off249_inb : ∀ (v7978 : BitVec 32) (k0_hw121 : k0_chk121 v7978), ∀ a, (k0_off249 v7978) a + S1x1x128.size a ≤ S784x64x128.size a := fun v7978 k0_hw121 => k0_hw121.2

def k0_off250 (v7989 : BitVec 32) : Fin 3 → Nat :=
  let v8755 : Index := Scalar.indexCast v7989
  let c57_3920 : Index := 57#32
  let c0_3921 : Index := 0#32
  ![v8755.toNat, 57, 0]

def k0_chk122 (v7989 : BitVec 32) : Prop :=
  (∀ a, (k0_off122 v7989) a + S1x1x128.size a ≤ S784x64x128.size a) ∧
  (∀ a, (k0_off250 v7989) a + S1x1x128.size a ≤ S784x64x128.size a)
theorem k0_off122_inb : ∀ (v7989 : BitVec 32) (k0_hw122 : k0_chk122 v7989), ∀ a, (k0_off122 v7989) a + S1x1x128.size a ≤ S784x64x128.size a := fun v7989 k0_hw122 => k0_hw122.1
theorem k0_off250_inb : ∀ (v7989 : BitVec 32) (k0_hw122 : k0_chk122 v7989), ∀ a, (k0_off250 v7989) a + S1x1x128.size a ≤ S784x64x128.size a := fun v7989 k0_hw122 => k0_hw122.2

def k0_off251 (v8000 : BitVec 32) : Fin 3 → Nat :=
  let v8760 : Index := Scalar.indexCast v8000
  let c58_3924 : Index := 58#32
  let c0_3925 : Index := 0#32
  ![v8760.toNat, 58, 0]

def k0_chk123 (v8000 : BitVec 32) : Prop :=
  (∀ a, (k0_off123 v8000) a + S1x1x128.size a ≤ S784x64x128.size a) ∧
  (∀ a, (k0_off251 v8000) a + S1x1x128.size a ≤ S784x64x128.size a)
theorem k0_off123_inb : ∀ (v8000 : BitVec 32) (k0_hw123 : k0_chk123 v8000), ∀ a, (k0_off123 v8000) a + S1x1x128.size a ≤ S784x64x128.size a := fun v8000 k0_hw123 => k0_hw123.1
theorem k0_off251_inb : ∀ (v8000 : BitVec 32) (k0_hw123 : k0_chk123 v8000), ∀ a, (k0_off251 v8000) a + S1x1x128.size a ≤ S784x64x128.size a := fun v8000 k0_hw123 => k0_hw123.2

def k0_off252 (v8011 : BitVec 32) : Fin 3 → Nat :=
  let v8765 : Index := Scalar.indexCast v8011
  let c59_3928 : Index := 59#32
  let c0_3929 : Index := 0#32
  ![v8765.toNat, 59, 0]

def k0_chk124 (v8011 : BitVec 32) : Prop :=
  (∀ a, (k0_off124 v8011) a + S1x1x128.size a ≤ S784x64x128.size a) ∧
  (∀ a, (k0_off252 v8011) a + S1x1x128.size a ≤ S784x64x128.size a)
theorem k0_off124_inb : ∀ (v8011 : BitVec 32) (k0_hw124 : k0_chk124 v8011), ∀ a, (k0_off124 v8011) a + S1x1x128.size a ≤ S784x64x128.size a := fun v8011 k0_hw124 => k0_hw124.1
theorem k0_off252_inb : ∀ (v8011 : BitVec 32) (k0_hw124 : k0_chk124 v8011), ∀ a, (k0_off252 v8011) a + S1x1x128.size a ≤ S784x64x128.size a := fun v8011 k0_hw124 => k0_hw124.2

def k0_off253 (v8022 : BitVec 32) : Fin 3 → Nat :=
  let v8770 : Index := Scalar.indexCast v8022
  let c60_3932 : Index := 60#32
  let c0_3933 : Index := 0#32
  ![v8770.toNat, 60, 0]

def k0_chk125 (v8022 : BitVec 32) : Prop :=
  (∀ a, (k0_off125 v8022) a + S1x1x128.size a ≤ S784x64x128.size a) ∧
  (∀ a, (k0_off253 v8022) a + S1x1x128.size a ≤ S784x64x128.size a)
theorem k0_off125_inb : ∀ (v8022 : BitVec 32) (k0_hw125 : k0_chk125 v8022), ∀ a, (k0_off125 v8022) a + S1x1x128.size a ≤ S784x64x128.size a := fun v8022 k0_hw125 => k0_hw125.1
theorem k0_off253_inb : ∀ (v8022 : BitVec 32) (k0_hw125 : k0_chk125 v8022), ∀ a, (k0_off253 v8022) a + S1x1x128.size a ≤ S784x64x128.size a := fun v8022 k0_hw125 => k0_hw125.2

def k0_off254 (v8033 : BitVec 32) : Fin 3 → Nat :=
  let v8775 : Index := Scalar.indexCast v8033
  let c61_3936 : Index := 61#32
  let c0_3937 : Index := 0#32
  ![v8775.toNat, 61, 0]

def k0_chk126 (v8033 : BitVec 32) : Prop :=
  (∀ a, (k0_off126 v8033) a + S1x1x128.size a ≤ S784x64x128.size a) ∧
  (∀ a, (k0_off254 v8033) a + S1x1x128.size a ≤ S784x64x128.size a)
theorem k0_off126_inb : ∀ (v8033 : BitVec 32) (k0_hw126 : k0_chk126 v8033), ∀ a, (k0_off126 v8033) a + S1x1x128.size a ≤ S784x64x128.size a := fun v8033 k0_hw126 => k0_hw126.1
theorem k0_off254_inb : ∀ (v8033 : BitVec 32) (k0_hw126 : k0_chk126 v8033), ∀ a, (k0_off254 v8033) a + S1x1x128.size a ≤ S784x64x128.size a := fun v8033 k0_hw126 => k0_hw126.2

def k0_off255 (v8044 : BitVec 32) : Fin 3 → Nat :=
  let v8780 : Index := Scalar.indexCast v8044
  let c62_3940 : Index := 62#32
  let c0_3941 : Index := 0#32
  ![v8780.toNat, 62, 0]

def k0_chk127 (v8044 : BitVec 32) : Prop :=
  (∀ a, (k0_off127 v8044) a + S1x1x128.size a ≤ S784x64x128.size a) ∧
  (∀ a, (k0_off255 v8044) a + S1x1x128.size a ≤ S784x64x128.size a)
theorem k0_off127_inb : ∀ (v8044 : BitVec 32) (k0_hw127 : k0_chk127 v8044), ∀ a, (k0_off127 v8044) a + S1x1x128.size a ≤ S784x64x128.size a := fun v8044 k0_hw127 => k0_hw127.1
theorem k0_off255_inb : ∀ (v8044 : BitVec 32) (k0_hw127 : k0_chk127 v8044), ∀ a, (k0_off255 v8044) a + S1x1x128.size a ≤ S784x64x128.size a := fun v8044 k0_hw127 => k0_hw127.2

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x100352 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S16x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S64x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x64 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S1024x16 : Shape := ⟨2, ![1024, 16]⟩
abbrev S100000x16 : Shape := ⟨2, ![100000, 16]⟩
abbrev S16x16 : Shape := ⟨2, ![16, 16]⟩
abbrev S16 : Shape := ⟨1, ![16]⟩
abbrev S1x16 : Shape := ⟨2, ![1, 16]⟩
abbrev S_ : Shape := ⟨0, ![]⟩
abbrev S1024 : Shape := ⟨1, ![1024]⟩
abbrev S1024x1 : Shape := ⟨2, ![1024, 1]⟩
abbrev S100000 : Shape := ⟨1, ![100000]⟩
abbrev S1x100000 : Shape := ⟨2, ![1, 100000]⟩
abbrev S1024x100000 : Shape := ⟨2, ![1024, 100000]⟩
abbrev S16x100000 : Shape := ⟨2, ![16, 100000]⟩
abbrev S1024x50 : Shape := ⟨2, ![1024, 50]⟩

abbrev nBuf : Space → Nat
  | .hbm => 34
  | .vmem => 0
  | .smem => 0
  | _ => 0

abbrev bufTy : (tb : Table) → Fin (tcTables nBuf tb) → BufTy
  | .hbm, ⟨0, _⟩ => ⟨S1024x16, .f32⟩
  | .hbm, ⟨1, _⟩ => ⟨S100000x16, .f32⟩
  | .hbm, ⟨2, _⟩ => ⟨S16x16, .f32⟩
  | .hbm, ⟨3, _⟩ => ⟨S16, .f32⟩
  | .hbm, ⟨4, _⟩ => ⟨S16x16, .f32⟩
  | .hbm, ⟨5, _⟩ => ⟨S1024x16, .f32⟩
  | .hbm, ⟨6, _⟩ => ⟨S1x16, .f32⟩
  | .hbm, ⟨7, _⟩ => ⟨S1024x16, .f32⟩
  | .hbm, ⟨8, _⟩ => ⟨S1024x16, .f32⟩
  | .hbm, ⟨9, _⟩ => ⟨S1024x16, .f32⟩
  | .hbm, ⟨10, _⟩ => ⟨S_, .f32⟩
  | .hbm, ⟨11, _⟩ => ⟨S1024, .f32⟩
  | .hbm, ⟨12, _⟩ => ⟨S1024x1, .f32⟩
  | .hbm, ⟨13, _⟩ => ⟨S100000x16, .f32⟩
  | .hbm, ⟨14, _⟩ => ⟨S_, .f32⟩
  | .hbm, ⟨15, _⟩ => ⟨S100000, .f32⟩
  | .hbm, ⟨16, _⟩ => ⟨S1x100000, .f32⟩
  | .hbm, ⟨17, _⟩ => ⟨S1024x100000, .f32⟩
  | .hbm, ⟨18, _⟩ => ⟨S1024x100000, .f32⟩
  | .hbm, ⟨19, _⟩ => ⟨S1024x100000, .f32⟩
  | .hbm, ⟨20, _⟩ => ⟨S16x100000, .f32⟩
  | .hbm, ⟨21, _⟩ => ⟨S1024x100000, .f32⟩
  | .hbm, ⟨22, _⟩ => ⟨S_, .f32⟩
  | .hbm, ⟨23, _⟩ => ⟨S1024x100000, .f32⟩
  | .hbm, ⟨24, _⟩ => ⟨S1024x100000, .f32⟩
  | .hbm, ⟨25, _⟩ => ⟨S1024x100000, .f32⟩
  | .hbm, ⟨26, _⟩ => ⟨S_, .f32⟩
  | .hbm, ⟨27, _⟩ => ⟨S1024x100000, .f32⟩
  | .hbm, ⟨28, _⟩ => ⟨S1024x100000, .f32⟩
  | .hbm, ⟨29, _⟩ => ⟨S1024x100000, .f32⟩
  | .hbm, ⟨30, _⟩ => ⟨S1024x100000, .f32⟩
  | .hbm, ⟨31, _⟩ => ⟨S1024x50, .f32⟩
  | .hbm, ⟨32, _⟩ => ⟨S1024x50, .i32⟩
  | .hbm, ⟨33, _⟩ => ⟨S1024x50, .f32⟩
  | _, _ => ⟨S1024x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_1 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_values : Ref sig .tc := ⟨.hbm, 31, rfl⟩
abbrev main_indices : Ref sig .tc := ⟨.hbm, 32, rfl⟩
abbrev main_v23 : Ref sig .tc := ⟨.hbm, 33, rfl⟩

abbrev nD : Nat := 1
abbrev τ : Topo := Topo.v7x

variable {F : FTy → Type} [FloatOps F]
-- ==== Proof.Base.lean ====
/-
  Small facts the run of the body needs: a buffer held whole, the box of one row of one group, the word the body reads
  off a column of group numbers.
-/
module

public import proofs.«01_k».proof.Proof.Gen.KernelIdeal.Skeleton
public import proofs.«01_k».proof.Proof.Gen.KernelIdeal.Loops
public import Idealize.ShloMosaic.Lib.Tactic
public import Idealize.ShloMosaic.PureOps.Ideal
public import Idealize.ShloMosaic.PureOps.Reduce

@[expose] public section

noncomputable section

namespace Cert.Proof

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

/-- The resource algebra. -/
local notation "𝕄" => MT nD τ sig Unit (Elt Ideal) ℕ (UR sig nD τ) ℕ

/-- The contents memref `M`'s buffer can have on core `c`. -/
abbrev Bf (c : Dev nD) {sp : Space} {S : Shape} {e : EltTy} (M : Memref sig .tc sp S e) : Type := Buf (Elt Ideal) (M.view.loc (c : Thread nD τ))
/-- Memref `M`'s buffer on core `c`, held whole at `f`. -/
abbrev pt (c : Dev nD) {sp : Space} {S : Shape} {e : EltTy} (M : Memref sig .tc sp S e) (f : Bf c M) : sProp 𝕄 :=
  M.view.loc (c : Thread nD τ) ↦{fullShare} f

/-- A box of one row of one group lies inside the table when the group is one of the 784. -/
theorem row_inb (o : Fin 3 → ℕ) (h0 : o 0 < 784) (h1 : o 1 < 64) (h2 : o 2 = 0) :
    ∀ a, o a + S1x1x128.size a ≤ S784x64x128.size a := by
  intro a; fin_cases a
  · show o 0 + 1 ≤ 784; omega
  · show o 1 + 1 ≤ 64; omega
  · show o 2 + 128 ≤ 128; omega

/-- The same of the two boxes a word offsets. -/
theorem row_inb_two {o o' : Fin 3 → ℕ} (h0 : o 0 < 784) (h1 : o 1 < 64) (h2 : o 2 = 0) (h0' : o' 0 < 784) (h1' : o' 1 < 64)
    (h2' : o' 2 = 0) :
    (∀ a, o a + S1x1x128.size a ≤ S784x64x128.size a) ∧ (∀ a, o' a + S1x1x128.size a ≤ S784x64x128.size a) :=
  ⟨row_inb _ h0 h1 h2, row_inb _ h0' h1' h2'⟩

/-- The least of the largest word and a word is that word. -/
theorem minsi_max (x : BitVec 32) : IntOp.minsi x 2147483647#32 = x := by
  unfold IntOp.minsi
  split
  · rfl
  · next h =>
    rw [BitVec.slt_iff_toInt_lt] at h
    have h' := BitVec.toInt_lt (x := x)
    have e : (2147483647#32).toInt = 2147483647 := by decide
    refine BitVec.eq_of_toInt_eq ?_
    omega

/-- The index `(q, 0)` of a column. -/
def col (q : ℕ) (hq : q < 64) : S64x1.Idx := Fin.cons (⟨q, hq⟩ : Fin 64) (Fin.cons (0 : Fin 1) finZeroElim)

/-- The word read off row `q` of a column of words: one row cut out, the least of it taken, the only entry read. -/
theorem word_eq (g : IVec S64x1 32) (q : ℕ) (hq : q < 64) (hs : S64x1.Slices ![q, 0] S1x1) (h1 : S1x1.ShapeCasts S1x1x1)
    (hr : S1x1x1.Reduces [1, 2] S1) (ht) (h2 : S1.ShapeCasts S1x1x1) (hi) :
    extractAt ![0, 0, 0] (shapeCast S1x1x1 (multiReductionI .minsi [1, 2] S1
      (shapeCast S1x1x1 (extractStridedSlice S1x1 ![q, 0] g hs) h1) 2147483647#32 hr ht) h2) hi = g (col q hq) := by
  haveI : Subsingleton S1.Idx := ⟨fun a b => by funext x; fin_cases x; exact Subsingleton.elim (α := Fin 1) _ _⟩
  haveI : Subsingleton S1x1x1.Idx := ⟨fun a b => by funext x; fin_cases x <;> exact Subsingleton.elim (α := Fin 1) _ _⟩
  unfold extractAt shapeCast
  rw [multiReductionI_eq_fold]
  have hf : (Finset.univ.filter fun i : S1x1x1.Idx => hr.drop i = Shape.reshapeEquiv h2 (fun a => ⟨![0, 0, 0] a, hi a⟩))
      = {fun a => ⟨![0, 0, 0] a, hi a⟩} := by
    ext i
    simp only [Finset.mem_filter, Finset.mem_univ, true_and, Finset.mem_singleton]
    exact ⟨fun _ => Subsingleton.elim _ _, fun _ => Subsingleton.elim _ _⟩
  rw [hf, Finset.fold_singleton]
  refine (minsi_max _).trans ?_
  unfold extractStridedSlice
  refine congrArg g (funext fun a => ?_)
  fin_cases a
  · refine Fin.ext ?_
    exact congrArg (q + ·) (Nat.lt_one_iff.mp ((Shape.reshapeEquiv h1 _) 0 : Fin 1).isLt)
  · exact Subsingleton.elim (α := Fin 1) _ _

/-- A condition on a word that holds of the words below 784 holds of a word read off a column whose words are. -/
theorem word_chk {P : BitVec 32 → Prop} {w : BitVec 32} {g : S64x1.Idx → BitVec 32} {j : S64x1.Idx} (e : w = g j)
    (hg : ∀ j, (g j).toNat < 784) (hP : ∀ w : BitVec 32, w.toNat < 784 → P w) : P w :=
  hP w (e ▸ hg j)
end Cert.Proof
-- ==== Proof.Picks.lean ====
/-
  Picking the least entries of a finite table one after another: each pick is the least entry, the earliest of equal ones,
  and is then overwritten by a mark above every entry. The picks are the prefix of the table's stable sort.
-/
module

public import Idealize.ShloMosaic.Lib.SortPrefix
public import Idealize.ShloMosaic.Lib.SortFacts
public import Mathlib.Order.Interval.Finset.Nat
public import Mathlib.Data.Set.Finite.Basic

@[expose] public section

namespace Cert.Proof

open Idealize.ShloMosaic

variable {α : Type} [LinearOrder α]

/-- `p` is the first position below `N` whose entry is least. -/
structure IsMin (N : ℕ) (d : ℕ → α) (p : ℕ) : Prop where
  lt : p < N
  le : ∀ n < N, d p ≤ d n
  first : ∀ n < p, d p < d n

/-- There is one first least position at most. -/
theorem IsMin.unique {N : ℕ} {d : ℕ → α} {p q : ℕ} (hp : IsMin N d p) (hq : IsMin N d q) : p = q := by
  rcases lt_trichotomy p q with h | h | h
  · exact absurd (hq.first p h) (not_lt.mpr (hp.le q hq.lt))
  · exact h
  · exact absurd (hp.first q h) (not_lt.mpr (hq.le p hp.lt))

/-- A table with a position has a first least one. -/
theorem IsMin.exists {N : ℕ} (hN : 0 < N) (d : ℕ → α) : ∃ p, IsMin N d p := by
  classical
  obtain ⟨m, hm, hle⟩ := Finset.exists_min_image (Finset.range N) d ⟨0, Finset.mem_range.mpr hN⟩
  have hex : ∃ p, p < N ∧ d p ≤ d m := ⟨m, Finset.mem_range.mp hm, le_rfl⟩
  refine ⟨Nat.find hex, (Nat.find_spec hex).1, fun n hn => (Nat.find_spec hex).2.trans (hle n (Finset.mem_range.mpr hn)), ?_⟩
  intro n hn
  have := Nat.find_min hex hn
  have hn' : n < N := hn.trans (Nat.find_spec hex).1
  push Not at this
  exact (Nat.find_spec hex).2.trans_lt (this hn')

/-- The positions agree off a congruence of the entries. -/
theorem IsMin.congr {N : ℕ} {d d' : ℕ → α} {p : ℕ} (h : ∀ n < N, d n = d' n) (hp : IsMin N d p) : IsMin N d' p where
  lt := hp.lt
  le n hn := by rw [← h p hp.lt, ← h n hn]; exact hp.le n hn
  first n hn := by rw [← h p hp.lt, ← h n (hn.trans hp.lt)]; exact hp.first n hn

open Classical in
/-- The first position below `N` whose entry is least. -/
noncomputable def amin (N : ℕ) (d : ℕ → α) : ℕ := if h : ∃ p, IsMin N d p then h.choose else 0

/-- `amin` is the first least position. -/
theorem amin_spec {N : ℕ} (hN : 0 < N) (d : ℕ → α) : IsMin N d (amin N d) := by
  unfold amin
  rw [dif_pos (IsMin.exists hN d)]
  exact (IsMin.exists hN d).choose_spec

/-- The table after `i` picks: every picked entry is the mark. -/
noncomputable def tab (N : ℕ) (B : α) (D : ℕ → α) : ℕ → ℕ → α
  | 0 => D
  | i + 1 => Function.update (tab N B D i) (amin N (tab N B D i)) B

/-- The `i`-th pick. -/
noncomputable def pick (N : ℕ) (B : α) (D : ℕ → α) (i : ℕ) : ℕ := amin N (tab N B D i)

section
variable {N : ℕ} {B : α} {D : ℕ → α}

/-- A further pick marks the picked entry and leaves the others. -/
theorem tab_succ (i : ℕ) : tab N B D (i + 1) = Function.update (tab N B D i) (pick N B D i) B := rfl

/-- A table's entry is the mark where a pick was made, and the entry before any pick elsewhere. -/
theorem tab_of_mem {i j : ℕ} (h : j < i) : tab N B D i (pick N B D j) = B := by
  induction i with
  | zero => omega
  | succ i ih =>
    rw [tab_succ, Function.update_apply]
    split
    · rfl
    · next hne =>
      rcases Nat.lt_succ_iff_lt_or_eq.mp h with h | h
      · exact ih h
      · exact absurd (by rw [h]) hne

/-- An entry that no pick has marked is as it was. -/
theorem tab_of_not_mem {i n : ℕ} (h : ∀ j < i, pick N B D j ≠ n) : tab N B D i n = D n := by
  induction i with
  | zero => rfl
  | succ i ih =>
    rw [tab_succ, Function.update_of_ne (fun e => h i (Nat.lt_succ_self i) e.symm)]
    exact ih fun j hj => h j (hj.trans (Nat.lt_succ_self i))

/-- No entry is ever above the mark. -/
theorem tab_le (hB : ∀ n < N, D n < B) (i n : ℕ) (hn : n < N) : tab N B D i n ≤ B := by
  by_cases h : ∃ j < i, pick N B D j = n
  · obtain ⟨j, hj, rfl⟩ := h; exact (tab_of_mem hj).le
  · push Not at h; rw [tab_of_not_mem h]; exact (hB n hn).le

/-- Fewer picks than positions of a set leave one of the set unpicked. -/
theorem exists_unpicked (i : ℕ) (s : Finset ℕ) (h : i < s.card) : ∃ n ∈ s, ∀ j < i, pick N B D j ≠ n := by
  classical
  by_contra hc
  push Not at hc
  have hsub : s ⊆ (Finset.range i).image (pick N B D) := fun n hn => by
    obtain ⟨j, hj, e⟩ := hc n hn
    exact Finset.mem_image.mpr ⟨j, Finset.mem_range.mpr hj, e⟩
  have := (Finset.card_le_card hsub).trans Finset.card_image_le
  rw [Finset.card_range] at this
  omega

variable {R : ℕ} (hR : R ≤ N) (hB : ∀ n < N, D n < B) (hfar : ∀ n < R, ∀ n', R ≤ n' → n' < N → D n < D n')
include hR hB hfar

/-- Among `R` entries below the rest, a pick before the `R`-th is one of them, not picked before. -/
theorem pick_spec {i : ℕ} (hi : i < R) :
    pick N B D i < R ∧ (∀ j < i, pick N B D j ≠ pick N B D i) ∧ IsMin N (tab N B D i) (pick N B D i) := by
  have hm : IsMin N (tab N B D i) (pick N B D i) := amin_spec (by omega) _
  obtain ⟨n, hn, hun⟩ := exists_unpicked (N := N) (B := B) (D := D) i (Finset.range R) (by rw [Finset.card_range]; exact hi)
  have hn' : n < N := (Finset.mem_range.mp hn).trans_le hR
  have hle := hm.le n hn'
  rw [tab_of_not_mem hun] at hle
  have hnew : ∀ j < i, pick N B D j ≠ pick N B D i := fun j hj e => by
    rw [← e, tab_of_mem hj] at hle
    exact absurd (hB n hn') (not_lt.mpr hle)
  refine ⟨?_, hnew, hm⟩
  by_contra hge
  rw [tab_of_not_mem hnew] at hle
  exact absurd (hfar n (Finset.mem_range.mp hn) _ (not_lt.mp hge) hm.lt) (not_lt.mpr hle)

/-- The table's value at a pick is the entry itself, not a mark. -/
theorem tab_pick {i : ℕ} (hi : i < R) : tab N B D i (pick N B D i) = D (pick N B D i) :=
  tab_of_not_mem (pick_spec hR hB hfar hi).2.1

/-- No entry left unpicked is before a pick, by value and then by position. -/
theorem pick_before {i p : ℕ} (hi : i < R) (hp : p < N) (h : ∀ j < i, pick N B D j ≠ p) (hne : pick N B D i ≠ p) :
    D (pick N B D i) < D p ∨ (D (pick N B D i) = D p ∧ pick N B D i < p) := by
  obtain ⟨-, hnew, hm⟩ := pick_spec hR hB hfar hi
  have hle := hm.le p hp
  rw [tab_of_not_mem hnew, tab_of_not_mem h] at hle
  rcases hle.lt_or_eq with hlt | heq
  · exact Or.inl hlt
  · refine Or.inr ⟨heq, ?_⟩
    rcases lt_trichotomy (pick N B D i) p with h' | h' | h'
    · exact h'
    · exact absurd h' hne
    · have := hm.first p h'
      rw [tab_of_not_mem hnew, tab_of_not_mem h] at this
      exact absurd this (not_lt.mpr heq.ge)

end

/-- Two orders that agree on a later position of a list against an earlier one sort the list alike. -/
theorem stableSort_congr_of_pairwise {ι : Type} {P P' : ι → ι → Bool} :
    ∀ l : List ι, l.Pairwise (fun a b => P b a = P' b a) → stableSort P l = stableSort P' l
  | [], _ => rfl
  | a :: l, h => by
    rw [List.pairwise_cons] at h
    unfold stableSort
    rw [← stableSort_congr_of_pairwise l h.2]
    have hmem : ∀ b ∈ stableSort P l, P b a = P' b a := fun b hb => h.1 b ((perm_stableSort P l).mem_iff.mp hb)
    generalize stableSort P l = t at hmem
    induction t with
    | nil => rfl
    | cons b t ih =>
      unfold insertBefore
      rw [hmem b List.mem_cons_self, ih fun b hb => hmem b (List.mem_cons_of_mem _ hb)]

/-- The stable sort by a key starts with the picks: `R` entries, of which the picks are the least. -/
theorem sortedFrom_eq_pick {N R k : ℕ} {B : α} {D : ℕ → α} (hR : R ≤ N) (hB : ∀ n < N, D n < B)
    (hfar : ∀ n < R, ∀ n', R ≤ n' → n' < N → D n < D n') (hk : k ≤ R)
    (P : Fin R → Fin R → Bool) (hP : ∀ a b, P a b = true ↔ D a < D b) (i : Fin k) :
    (sortedFrom P (i.castLE hk)).val = pick N B D i := by
  let P' : Fin R → Fin R → Bool := fun a b => decide (D a < D b) || (decide (D a = D b) && decide (a < b))
  have hP' : StrictTotalBefore P' :=
    StrictTotalBefore.of_key_then_position (fun x y : α => decide (x < y)) (fun a : Fin R => D a) (by simp)
      (fun a b c h h' => by simp only [decide_eq_true_eq] at h h' ⊢; exact h.trans h')
      (fun a b => by simp only [decide_eq_true_eq]; exact lt_trichotomy a b)
  have e : sortedFrom P = sortedFrom P' := by
    have : sortPositions R P = sortPositions R P' := by
      refine stableSort_congr_of_pairwise _ ((List.pairwise_lt_finRange R).imp fun {a b} hab => ?_)
      have : decide (b < a) = false := by simpa using hab.le
      show P b a = (decide (D b < D a) || (decide (D b = D a) && decide (b < a)))
      rw [this, Bool.and_false, Bool.or_false, Bool.eq_iff_iff, hP, decide_eq_true_eq]
    funext x
    exact List.getElem_of_eq this _
  rw [e]
  have hspec := fun i : Fin k => pick_spec (D := D) hR hB hfar (i.isLt.trans_le hk)
  have key := hP'.sortedFrom_eq_of_prefix hk (fun i => ⟨pick N B D i, (hspec i).1⟩) ?_ ?_ ?_ i
  · exact congrArg Fin.val key
  · intro a b hab
    have hab : pick N B D a = pick N B D b := congrArg Fin.val hab
    rcases lt_trichotomy a b with h | h | h
    · exact absurd hab ((hspec b).2.1 a h)
    · exact h
    · exact absurd hab.symm ((hspec a).2.1 b h)
  · intro a b hab
    have hb := pick_before (D := D) hR hB hfar (i := a) (p := pick N B D b) (a.isLt.trans_le hk) ((hspec b).1.trans_le hR)
      (fun j hj => (hspec b).2.1 j (hj.trans hab)) ((hspec b).2.1 a hab)
    show (decide _ || (decide _ && decide _)) = false
    rcases hb with h | ⟨h, h'⟩
    · simp [h.le, h.ne']
    · simp [h, h'.le, Fin.le_def]
  · intro a p hp
    have hb := pick_before (D := D) hR hB hfar (i := a) (p := p) (a.isLt.trans_le hk) (p.isLt.trans_le hR)
      (fun j hj e => hp ⟨j, hj.trans a.isLt⟩ (Fin.ext e)) (fun e => hp a (Fin.ext e))
    show (decide _ || (decide _ && decide _)) = false
    rcases hb with h | ⟨h, h'⟩
    · simp [h.le, h.ne']
    · simp [h, h'.le, Fin.le_def]

end Cert.Proof
-- ==== Proof.Round.lean ====
/-
  One round of two picks from a table held in groups of 128 with the least of every group beside it: the least group, the
  least place in it, the least other group, and between the second least of the first and the least of the second the
  round's second pick.
-/
module

public import proofs.«01_k».proof.Proof.Picks

@[expose] public section

namespace Cert.Proof

variable {α : Type} [LinearOrder α]

/-- `M` holds the least entry of each of the table's 784 groups of 128, and the mark `B` in the 112 places after them. -/
structure Groups (B : α) (T M : ℕ → α) : Prop where
  att : ∀ g < 784, ∃ l < 128, M g = T (g * 128 + l)
  le : ∀ g < 784, ∀ l < 128, M g ≤ T (g * 128 + l)
  rest : ∀ g, 784 ≤ g → g < 896 → M g = B

section
variable (B : α) (T M : ℕ → α)

/-- The least group. -/
noncomputable def g1 : ℕ := amin 896 M
/-- The least place in it. -/
noncomputable def l1 : ℕ := amin 128 fun l => T (g1 M * 128 + l)
/-- The group with that place marked. -/
noncomputable def row1 : ℕ → α := fun l => if l = l1 T M then B else T (g1 M * 128 + l)
/-- The group minima with the least marked. -/
noncomputable def M1 : ℕ → α := fun g => if g = g1 M then B else M g
/-- The least of the other groups. -/
noncomputable def g2 : ℕ := amin 896 (M1 B M)
/-- The least place left in the first group. -/
noncomputable def l1b : ℕ := amin 128 (row1 B T M)
/-- The least place in the second. -/
noncomputable def l2 : ℕ := amin 128 fun l => T (g2 B M * 128 + l)
/-- The second pick comes from the first group. -/
def FromA : Prop :=
  row1 B T M (l1b B T M) < M1 B M (g2 B M)
    ∨ (row1 B T M (l1b B T M) = M1 B M (g2 B M) ∧ g1 M * 128 + l1b B T M < g2 B M * 128 + l2 B T M)
open Classical in
/-- The second pick. -/
noncomputable def p2 : ℕ := if FromA B T M then g1 M * 128 + l1b B T M else g2 B M * 128 + l2 B T M
open Classical in
/-- Its value. -/
noncomputable def e2 : α := if FromA B T M then row1 B T M (l1b B T M) else M1 B M (g2 B M)
open Classical in
/-- The first group after the round. -/
noncomputable def row1f : ℕ → α := fun l => if FromA B T M ∧ l = l1b B T M then B else row1 B T M l
open Classical in
/-- The second group after the round. -/
noncomputable def row2f : ℕ → α := fun l => if ¬ FromA B T M ∧ l = l2 B T M then B else T (g2 B M * 128 + l)
end

variable {B : α} {T M : ℕ → α}

/-- What a round does, when an entry outside the least group is still below the mark. -/
structure RoundOk (B : α) (T M : ℕ → α) : Prop where
  g1_lt : g1 M < 784
  g2_lt : g2 B M < 784
  ne : g1 M ≠ g2 B M
  first : IsMin 100352 T (g1 M * 128 + l1 T M)
  val : M (g1 M) = T (g1 M * 128 + l1 T M)
  second : IsMin 100352 (Function.update T (g1 M * 128 + l1 T M) B) (p2 B T M)
  val2 : e2 B T M = Function.update T (g1 M * 128 + l1 T M) B (p2 B T M)
  val_l2 : T (g2 B M * 128 + l2 B T M) = M1 B M (g2 B M)

/-- A round on a table whose group minima are known, where some entry outside the least group is still below the mark: its
    two picks are the first least entry, and the first least entry once that one is marked. -/
theorem round_ok (hG : Groups B T M) (hT : ∀ n < 100352, T n ≤ B)
    (hex : ∃ n < 100352, n / 128 ≠ g1 M ∧ T n < B) : RoundOk B T M := by
  obtain ⟨n, hn, hng, hnB⟩ := hex
  have hnd : n / 128 < 784 := by omega
  have hMn : M (n / 128) ≤ T n := by
    have := hG.le (n / 128) hnd (n % 128) (Nat.mod_lt _ (by omega))
    rwa [show n / 128 * 128 + n % 128 = n by omega] at this
  have a1 : IsMin 896 M (g1 M) := amin_spec (by omega) M
  have hg1 : g1 M < 784 := by
    by_contra h
    have := a1.le (n / 128) (by omega)
    rw [hG.rest _ (by omega) a1.lt] at this
    exact absurd (this.trans (hMn)) (not_le.mpr hnB)
  have b1 : IsMin 128 (fun l => T (g1 M * 128 + l)) (l1 T M) := amin_spec (by omega) _
  have a2 : IsMin 896 (M1 B M) (g2 B M) := amin_spec (by omega) _
  have hM1n : M1 B M (n / 128) < B := by
    unfold M1; rw [if_neg hng]; exact hMn.trans_lt hnB
  have hlt2 : M1 B M (g2 B M) < B := (a2.le (n / 128) (by omega)).trans_lt hM1n
  have hne : g1 M ≠ g2 B M := by
    intro h
    unfold M1 at hlt2
    rw [if_pos h.symm] at hlt2
    exact lt_irrefl _ hlt2
  have hg2 : g2 B M < 784 := by
    by_contra h
    unfold M1 at hlt2
    rw [if_neg (Ne.symm hne), hG.rest _ (by omega) a2.lt] at hlt2
    exact lt_irrefl _ hlt2
  have b2 : IsMin 128 (fun l => T (g2 B M * 128 + l)) (l2 B T M) := amin_spec (by omega) _
  have b3 : IsMin 128 (row1 B T M) (l1b B T M) := amin_spec (by omega) _
  -- the least of the least group is the group's minimum
  have v1 : M (g1 M) = T (g1 M * 128 + l1 T M) := by
    obtain ⟨l, hl, e⟩ := hG.att _ hg1
    exact le_antisymm (hG.le _ hg1 _ b1.lt) (e ▸ b1.le l hl)
  have v2 : T (g2 B M * 128 + l2 B T M) = M1 B M (g2 B M) := by
    unfold M1
    rw [if_neg (Ne.symm hne)]
    obtain ⟨l, hl, e⟩ := hG.att _ hg2
    exact le_antisymm (e ▸ b2.le l hl) (hG.le _ hg2 _ b2.lt)
  have hp1 : IsMin 100352 T (g1 M * 128 + l1 T M) := by
    have hl1 := b1.lt
    refine ⟨by omega, fun m hm => ?_, fun m hm => ?_⟩
    · rw [← v1]
      refine (a1.le (m / 128) (by omega)).trans ?_
      have := hG.le (m / 128) (by omega) (m % 128) (Nat.mod_lt _ (by omega))
      rwa [show m / 128 * 128 + m % 128 = m by omega] at this
    · rcases Nat.lt_or_ge (m / 128) (g1 M) with h | h
      · rw [← v1]
        refine (a1.first _ h).trans_le ?_
        have := hG.le (m / 128) (by omega) (m % 128) (Nat.mod_lt _ (by omega))
        rwa [show m / 128 * 128 + m % 128 = m by omega] at this
      · have e : m / 128 = g1 M := by omega
        have hm' : m = g1 M * 128 + m % 128 := by omega
        rw [hm']
        exact b1.first (m % 128) (by omega)
  -- the table with the first pick marked, read in the first group and outside it
  have inA : ∀ l, l < 128 → Function.update T (g1 M * 128 + l1 T M) B (g1 M * 128 + l) = row1 B T M l := fun l hl => by
    unfold row1
    rw [Function.update_apply]
    by_cases h : l = l1 T M
    · rw [if_pos (by rw [h]), if_pos h]
    · rw [if_neg (by omega), if_neg h]
  have outA : ∀ m, m / 128 ≠ g1 M → Function.update T (g1 M * 128 + l1 T M) B m = T m := fun m hm => by
    have hl1 := b1.lt
    rw [Function.update_of_ne]
    intro h; apply hm; omega
  have geA : ∀ m, m < 100352 → m / 128 = g1 M →
      row1 B T M (l1b B T M) ≤ Function.update T (g1 M * 128 + l1 T M) B m
        ∧ (m < g1 M * 128 + l1b B T M → row1 B T M (l1b B T M) < Function.update T (g1 M * 128 + l1 T M) B m) :=
    fun m hm h => by
      have hm' : m = g1 M * 128 + m % 128 := by omega
      rw [hm', inA _ (Nat.mod_lt _ (by omega))]
      exact ⟨b3.le _ (Nat.mod_lt _ (by omega)), fun h' => b3.first _ (by omega)⟩
  have geB : ∀ m, m < 100352 → m / 128 ≠ g1 M →
      M1 B M (g2 B M) ≤ Function.update T (g1 M * 128 + l1 T M) B m
        ∧ (m < g2 B M * 128 + l2 B T M → M1 B M (g2 B M) < Function.update T (g1 M * 128 + l1 T M) B m) :=
    fun m hm h => by
      rw [outA m h]
      have hg : M1 B M (m / 128) ≤ T m := by
        unfold M1; rw [if_neg h]
        have := hG.le (m / 128) (by omega) (m % 128) (Nat.mod_lt _ (by omega))
        rwa [show m / 128 * 128 + m % 128 = m by omega] at this
      refine ⟨(a2.le _ (by omega)).trans hg, fun h' => ?_⟩
      rcases Nat.lt_or_ge (m / 128) (g2 B M) with h'' | h''
      · exact (a2.first _ h'').trans_le hg
      · have hl2 := b2.lt
        have e : m / 128 = g2 B M := by omega
        have hm' : m = g2 B M * 128 + m % 128 := by omega
        rw [hm', ← v2]
        exact b2.first (m % 128) (by omega)
  have hl1b := b3.lt
  have hl2 := b2.lt
  have atB : Function.update T (g1 M * 128 + l1 T M) B (g2 B M * 128 + l2 B T M) = M1 B M (g2 B M) := by
    rw [outA _ (by omega), v2]
  have hval : e2 B T M = Function.update T (g1 M * 128 + l1 T M) B (p2 B T M) := by
    unfold e2 p2
    split
    · rw [inA _ hl1b]
    · rw [atB]
  refine ⟨hg1, hg2, hne, hp1, v1, ?_, hval, v2⟩
  refine ⟨?_, fun m hm => ?_, fun m hm => ?_⟩
  · unfold p2; split <;> omega
  · rw [← hval]
    unfold e2
    by_cases h : m / 128 = g1 M
    · split
      · exact (geA m hm h).1
      · next hA =>
        unfold FromA at hA; push Not at hA
        exact hA.1.trans (geA m hm h).1
    · split
      · next hA =>
        rcases hA with hA | ⟨hA, -⟩
        · exact hA.le.trans (geB m hm h).1
        · exact hA.le.trans (geB m hm h).1
      · exact (geB m hm h).1
  · rw [← hval]
    unfold p2 at hm
    unfold e2
    have hm2 : m < 100352 := by split at hm <;> omega
    by_cases h : m / 128 = g1 M
    · split
      · next hA => rw [if_pos hA] at hm; exact (geA m hm2 h).2 hm
      · next hA =>
        rw [if_neg hA] at hm
        unfold FromA at hA; push Not at hA
        rcases hA.1.lt_or_eq with hlt | heq
        · exact hlt.trans_le (geA m hm2 h).1
        · have := hA.2 heq.symm
          rw [heq]
          exact (geA m hm2 h).2 (by omega)
    · split
      · next hA =>
        rw [if_pos hA] at hm
        rcases hA with hA | ⟨hA, hlt⟩
        · exact hA.trans_le (geB m hm2 h).1
        · rw [hA]
          exact (geB m hm2 h).2 (by omega)
      · next hA => rw [if_neg hA] at hm; exact (geB m hm2 h).2 hm

/-- The table after the round. -/
noncomputable def T2 (B : α) (T M : ℕ → α) : ℕ → α :=
  Function.update (Function.update T (g1 M * 128 + l1 T M) B) (p2 B T M) B

open Classical in
/-- The table after the round, group by group: only the two groups have changed. -/
theorem T2_eq (h : RoundOk B T M) (g l : ℕ) (hl : l < 128) :
    T2 B T M (g * 128 + l) = if g = g2 B M then row2f B T M l else if g = g1 M then row1f B T M l else T (g * 128 + l) := by
  have hl1 : l1 T M < 128 := (amin_spec (by omega) _ : IsMin 128 _ (l1 T M)).lt
  have hl1b : l1b B T M < 128 := (amin_spec (by omega) _ : IsMin 128 _ (l1b B T M)).lt
  have hl2 : l2 B T M < 128 := (amin_spec (by omega) _ : IsMin 128 _ (l2 B T M)).lt
  have hne := h.ne
  unfold T2 p2
  rw [Function.update_apply, Function.update_apply]
  by_cases hA : FromA B T M
  · rw [if_pos hA]
    by_cases e2 : g = g2 B M
    · rw [if_pos e2, if_neg (by omega), if_neg (by omega)]
      unfold row2f
      rw [if_neg (by simp [hA]), e2]
    · rw [if_neg e2]
      by_cases e1 : g = g1 M
      · rw [if_pos e1]
        unfold row1f row1
        by_cases el : l = l1b B T M
        · rw [if_pos (by rw [e1, el]), if_pos ⟨hA, el⟩]
        · rw [if_neg (show ¬ g * 128 + l = g1 M * 128 + l1b B T M by omega),
            if_neg (show ¬ (FromA B T M ∧ l = l1b B T M) from fun h => el h.2)]
          by_cases el' : l = l1 T M
          · rw [if_pos (by rw [e1, el']), if_pos el']
          · rw [if_neg (by omega), if_neg el', e1]
      · rw [if_neg e1, if_neg (by omega), if_neg (by omega)]
  · rw [if_neg hA]
    by_cases e2 : g = g2 B M
    · rw [if_pos e2]
      unfold row2f
      by_cases el : l = l2 B T M
      · rw [if_pos (by rw [e2, el]), if_pos ⟨hA, el⟩]
      · rw [if_neg (by omega), if_neg (by omega), if_neg (by simp [el]), e2]
    · rw [if_neg e2]
      by_cases e1 : g = g1 M
      · rw [if_pos e1, if_neg (show ¬ g * 128 + l = g2 B M * 128 + l2 B T M by omega)]
        unfold row1f row1
        rw [if_neg (show ¬ (FromA B T M ∧ l = l1b B T M) from fun h => hA h.1)]
        by_cases el' : l = l1 T M
        · rw [if_pos (by rw [e1, el']), if_pos el']
        · rw [if_neg (by omega), if_neg el', e1]
      · rw [if_neg e1, if_neg (by omega), if_neg (by omega)]

open Classical in
/-- The group minima after the round. -/
noncomputable def M2 (B : α) (T M : ℕ → α) : ℕ → α := fun g =>
  if g = g1 M then row1f B T M (amin 128 (row1f B T M))
  else if g = g2 B M then row2f B T M (amin 128 (row2f B T M)) else M g

/-- After a round the new minima are those of the new table's groups. -/
theorem groups_round (hG : Groups B T M) (h : RoundOk B T M) : Groups B (T2 B T M) (M2 B T M) := by
  have ha : IsMin 128 (row1f B T M) (amin 128 (row1f B T M)) := amin_spec (by omega) _
  have hb : IsMin 128 (row2f B T M) (amin 128 (row2f B T M)) := amin_spec (by omega) _
  have hne := h.ne
  refine ⟨fun g hg => ?_, fun g hg l hl => ?_, fun g hg hg' => ?_⟩
  · unfold M2
    by_cases e1 : g = g1 M
    · refine ⟨_, ha.lt, ?_⟩
      rw [if_pos e1, T2_eq h _ _ ha.lt, if_neg (by omega), if_pos e1]
    · rw [if_neg e1]
      by_cases e2 : g = g2 B M
      · refine ⟨_, hb.lt, ?_⟩
        rw [if_pos e2, T2_eq h _ _ hb.lt, if_pos e2]
      · obtain ⟨l, hl, e⟩ := hG.att g hg
        refine ⟨l, hl, ?_⟩
        rw [if_neg e2, T2_eq h _ _ hl, if_neg e2, if_neg e1, e]
  · unfold M2
    rw [T2_eq h _ _ hl]
    by_cases e1 : g = g1 M
    · rw [if_pos e1, if_neg (by omega), if_pos e1]; exact ha.le l hl
    · rw [if_neg e1]
      by_cases e2 : g = g2 B M
      · rw [if_pos e2, if_pos e2]; exact hb.le l hl
      · rw [if_neg e2, if_neg e2, if_neg e1]; exact hG.le g hg l hl
  · have := h.g1_lt
    have := h.g2_lt
    unfold M2
    rw [if_neg (by omega), if_neg (by omega)]
    exact hG.rest g hg hg'

/-- The round's picks are the next two picks of the table. -/
theorem round_picks {D : ℕ → α} {i : ℕ} (h : RoundOk B (tab 100352 B D i) M) :
    pick 100352 B D i = g1 M * 128 + l1 (tab 100352 B D i) M
      ∧ pick 100352 B D (i + 1) = p2 B (tab 100352 B D i) M
      ∧ tab 100352 B D (i + 2) = T2 B (tab 100352 B D i) M := by
  have e1 : pick 100352 B D i = g1 M * 128 + l1 (tab 100352 B D i) M := (amin_spec (by omega) _).unique h.first
  have e2 : pick 100352 B D (i + 1) = p2 B (tab 100352 B D i) M := by
    refine IsMin.unique (N := 100352) (d := tab 100352 B D (i + 1)) (amin_spec (by omega) _) ?_
    rw [tab_succ, e1]; exact h.second
  refine ⟨e1, e2, ?_⟩
  rw [tab_succ, tab_succ, e2, e1]
  rfl

/-- With fewer than 60 picks made, an entry outside any one group is below the mark. -/
theorem exists_other {D : ℕ → α} {i g : ℕ} (hi : i < 60) (hB : ∀ n < 100352, D n < B) :
    ∃ n < 100352, n / 128 ≠ g ∧ tab 100352 B D i n < B := by
  obtain ⟨n, hn, hun⟩ := exists_unpicked (N := 100352) (B := B) (D := D) i
    (if g = 0 then Finset.Ico 128 256 else Finset.Ico 0 128) (by split <;> simp <;> omega)
  have hn' : n < 100352 ∧ n / 128 ≠ g := by
    split at hn
    · rw [Finset.mem_Ico] at hn; omega
    · rw [Finset.mem_Ico] at hn; omega
  exact ⟨n, hn'.1, hn'.2, by rw [tab_of_not_mem hun]; exact hB n hn'.1⟩

end Cert.Proof
-- ==== Proof.RoundValue.lean ====
/-
  What the payloads of one trip of the loop are, row by row: the picks of Round.lean, as extended reals and as words.
-/
module

public import proofs.«01_k».proof.Proof.Base
public import proofs.«01_k».proof.Proof.Round
public import Idealize.ShloMosaic.Lib.Pointwise

@[expose] public section

namespace Cert.Proof

open Cert.KernelIdeal Cert.KernelIdeal.Gen
open Idealize.ShloMosaic

/-- The mark a picked entry is overwritten by, 3e38. -/
noncomputable def Big : EReal := Ideal.ofBits .f32 0x7F61B1E6#32

/-- A fold of the minimum from plus infinity is the least value. -/
theorem fold_min_eq {n : ℕ} {F : ℕ → EReal} {p : ℕ} (h : IsMin n F p) {f : Fin n → EReal} (hf : ∀ l, f l = F l) :
    Finset.fold min (Ideal.ofBits .f32 2139095040#32) f Finset.univ = F p := by
  have htop : Ideal.ofBits .f32 2139095040#32 = ⊤ := by simp [Ideal.ofBits, Ideal.ieee]
  refine le_antisymm ?_ ?_
  · rw [Finset.fold_min_le]
    exact Or.inr ⟨⟨p, h.lt⟩, Finset.mem_univ _, (hf _).le⟩
  · rw [Finset.le_fold_min, htop]
    exact ⟨le_top, fun l _ => by rw [hf]; exact h.le l l.isLt⟩

/-- The signed minimum of two words, read as integers. -/
theorem toInt_minsi (x y : BitVec 32) : (IntOp.minsi x y).toInt = min x.toInt y.toInt := by
  unfold IntOp.minsi
  by_cases h : x.slt y
  · rw [if_pos h]
    have := BitVec.slt_iff_toInt_lt.mp h
    omega
  · rw [if_neg h]
    have : ¬ x.toInt < y.toInt := fun h' => h (BitVec.slt_iff_toInt_lt.mpr h')
    omega

/-- A small number's word, read as an integer. -/
theorem toInt_ofNat {n : ℕ} (h : n < 2 ^ 31) : (BitVec.ofNat 32 n).toInt = n := by
  rw [BitVec.toInt_eq_toNat_of_lt, BitVec.toNat_ofNat, Nat.mod_eq_of_lt (by omega)]
  rw [BitVec.toNat_ofNat, Nat.mod_eq_of_lt (by omega)]; omega

/-- A fold of the signed minimum over the places that hold the least value is the first of them. -/
theorem fold_minsi_eq {n : ℕ} (hn : n ≤ 1024) {F : ℕ → EReal} {p : ℕ} (h : IsMin n F p) {f : Fin n → EReal} (hf : ∀ l, f l = F l)
    {m : EReal} (hm : m = F p) {v : Fin n → BitVec 32} (hv : ∀ l : Fin n, v l = BitVec.ofNat 32 l.val) :
    Finset.fold IntOp.minsi 2147483647#32 (fun l => if f l = m then v l else 1073741824#32) Finset.univ
      = BitVec.ofNat 32 p := by
  have hp := h.lt
  refine BitVec.eq_of_toInt_eq ?_
  rw [← Finset.fold_hom (op' := min) (m := BitVec.toInt) toInt_minsi, toInt_ofNat (n := p) (by omega)]
  have big : (1073741824#32 : BitVec 32).toInt = 1073741824 := by decide
  refine le_antisymm ?_ ?_
  · rw [Finset.fold_min_le]
    refine Or.inr ⟨⟨p, hp⟩, Finset.mem_univ _, ?_⟩
    show BitVec.toInt (if f ⟨p, hp⟩ = m then _ else _) ≤ _
    rw [if_pos (by rw [hf, hm]), hv, toInt_ofNat (show p < 2 ^ 31 by omega)]
  · rw [Finset.le_fold_min]
    refine ⟨by have : (2147483647#32 : BitVec 32).toInt = 2147483647 := by decide
               omega, fun l _ => ?_⟩
    show _ ≤ BitVec.toInt (if f l = m then _ else _)
    split
    · next e =>
      rw [hf, hm] at e
      have hl := l.isLt
      rw [hv, toInt_ofNat (show l.val < 2 ^ 31 by omega)]
      by_contra hlt
      have := h.first l.val (by omega)
      rw [e] at this
      exact lt_irrefl _ this
    · rw [big]; omega

/-- Two small numbers' words are equal when the numbers are. -/
theorem ofNat_eq_iff {a b : ℕ} (ha : a < 2 ^ 31) (hb : b < 2 ^ 31) : BitVec.ofNat 32 a = BitVec.ofNat 32 b ↔ a = b := by
  refine ⟨fun h => ?_, fun h => by rw [h]⟩
  have := congrArg BitVec.toNat h
  rw [BitVec.toNat_ofNat, BitVec.toNat_ofNat, Nat.mod_eq_of_lt (by omega), Nat.mod_eq_of_lt (by omega)] at this
  exact this

/-- A select on the equality of two small numbers' words. -/
theorem select_eq_ofNat {α : Type} {a b : ℕ} (ha : a < 2 ^ 31) (hb : b < 2 ^ 31) (x y : α) :
    Scalar.select (IntOp.cmpi .eq (BitVec.ofNat 32 a) (BitVec.ofNat 32 b)) x y = if a = b then x else y := by
  have : IntOp.cmpi .eq (BitVec.ofNat 32 a) (BitVec.ofNat 32 b) = BitVec.ofBool (decide (a = b)) := by
    show BitVec.ofBool (BitVec.ofNat 32 a == BitVec.ofNat 32 b) = _
    congr 1
    rw [Bool.eq_iff_iff, beq_iff_eq, decide_eq_true_eq]
    exact ofNat_eq_iff ha hb
  rw [this]
  by_cases h : a = b <;> simp [h, Scalar.select]

/-- A bit, or two bits' conjunction. -/
theorem or_and_bits (A B C : Prop) {_ : Decidable A} {_ : Decidable B} {_ : Decidable C} :
    IntOp.ori (BitVec.ofBool (decide A)) (IntOp.andi (BitVec.ofBool (decide B)) (BitVec.ofBool (decide C)))
      = BitVec.ofBool (decide (A ∨ B ∧ C)) := by
  by_cases a : A <;> by_cases b : B <;> by_cases c : C <;> simp [a, b, c, IntOp.ori, IntOp.andi]

/-- The word of a group's number times 128 and a lane's number. -/
theorem word_of (g l : ℕ) : IntOp.addi (IntOp.muli (BitVec.ofNat 32 g) 128#32) (BitVec.ofNat 32 l) = BitVec.ofNat 32 (g * 128 + l) := by
  show BitVec.ofNat 32 g * BitVec.ofNat 32 128 + BitVec.ofNat 32 l = _
  rw [← BitVec.ofNat_mul, ← BitVec.ofNat_add]

/-- A select on a decided bit. -/
theorem select_decide' {β : Type} (A : Prop) {_ : Decidable A} (x y : β) : Scalar.select (BitVec.ofBool (decide A)) x y = if A then x else y := by
  by_cases a : A <;> simp [a, Scalar.select]

/-- The mark's word denotes the mark. -/
theorem big_eq : Ideal.ofBits .f32 2137108966#32 = Big := rfl

section
variable {q : Fin 64} {T M : ℕ → EReal} {mb : Vec Ideal S64x896 .f32} {R1 R2 : Vec Ideal S64x128 .f32}

/-- The lane numbers of the group minima. -/
noncomputable abbrev lanesM : IVec S64x896 32 := iota .tc S64x896 32 [1] iota_S64x896_d1_w32
/-- The lane numbers of a group. -/
noncomputable abbrev lanes : IVec S64x128 32 := iota .tc S64x128 32 [1] iota_S64x128_d1_w32

/-- Lane `l` of the numbers of the groups is `l`. -/
theorem lanesM_apply (q : Fin 64) (l : Fin 896) : lanesM (ix2 q l) = BitVec.ofNat 32 l.val := by pointwise
/-- Lane `l` of the numbers within a group is `l`. -/
theorem lanes_apply (q : Fin 64) (l : Fin 128) : lanes (ix2 q l) = BitVec.ofNat 32 l.val := by pointwise

/-- The least group is the first place of the least minimum. -/
theorem g1_isMin : IsMin 896 M (g1 M) := amin_spec (by omega) _
/-- The second group is the first place of the least minimum with the least group's marked. -/
theorem g2_isMin : IsMin 896 (M1 Big M) (g2 Big M) := amin_spec (by omega) _
/-- The first pick's lane is the first least one of its group. -/
theorem l1_isMin : IsMin 128 (fun l => T (g1 M * 128 + l)) (l1 T M) := amin_spec (by omega) _
/-- The lane left in the first group is the first least one with the first pick marked. -/
theorem l1b_isMin : IsMin 128 (row1 Big T M) (l1b Big T M) := amin_spec (by omega) _
/-- The second group's lane is the first least one of its group. -/
theorem l2_isMin : IsMin 128 (fun l => T (g2 Big M * 128 + l)) (l2 Big T M) := amin_spec (by omega) _

section
variable (hM : ∀ l : Fin 896, mb (ix2 q l) = M l)
include hM

/-- The body's least minimum. -/
theorem pay6_eq : k0_pay6 mb (ix2 q 0) = M (g1 M) := by
  unfold k0_pay6; pointwise
  exact fold_min_eq g1_isMin hM

/-- The body's number of the least group. -/
theorem pay7_eq : k0_pay7 lanesM mb (ix2 q 0) = BitVec.ofNat 32 (g1 M) := by
  unfold k0_pay7; pointwise
  exact fold_minsi_eq (by omega) g1_isMin hM (pay6_eq hM) fun l => rfl

/-- The body's minima with the least group's marked. -/
theorem pay8_eq (l : Fin 896) : k0_pay8 lanesM mb (ix2 q l) = M1 Big M l := by
  unfold k0_pay8; pointwise
  rw [pay7_eq hM]
  refine (select_eq_ofNat (by omega) (by have := (g1_isMin (M := M)).lt; omega) _ _).trans ?_
  unfold M1
  rw [hM]; rfl

/-- The body's second least minimum. -/
theorem pay9_eq : k0_pay9 lanesM mb (ix2 q 0) = M1 Big M (g2 Big M) := by
  unfold k0_pay9; pointwise
  exact fold_min_eq g2_isMin (pay8_eq hM)

/-- The body's number of the second group. -/
theorem pay10_eq : k0_pay10 lanesM mb (ix2 q 0) = BitVec.ofNat 32 (g2 Big M) := by
  unfold k0_pay10; pointwise
  exact fold_minsi_eq (by omega) g2_isMin (pay8_eq hM) (pay9_eq hM) fun l => rfl

end

/-- The mask of the least entries of the first group. -/
noncomputable abbrev mask (mb : Vec Ideal S64x896 .f32) (R1 : Vec Ideal S64x128 .f32) : IVec S64x128 1 := k0_pay293 (k0_pay6 mb) R1

section
variable (hM : ∀ l : Fin 896, mb (ix2 q l) = M l) (hT : M (g1 M) = T (g1 M * 128 + l1 T M))
  (h1 : ∀ l : Fin 128, R1 (ix2 q l) = T (g1 M * 128 + l))
include hM hT h1

/-- The body's lane of the first pick. -/
theorem pay294_eq : k0_pay294 lanes (mask mb R1) (ix2 q 0) = BitVec.ofNat 32 (l1 T M) := by
  unfold k0_pay294 mask k0_pay293; pointwise
  exact fold_minsi_eq (by omega) l1_isMin h1 ((pay6_eq hM).trans hT) fun l => rfl

/-- The body's first group with the first pick marked. -/
theorem pay296_eq (l : Fin 128) : k0_pay296 lanes R1 (mask mb R1) (ix2 q l) = row1 Big T M l := by
  unfold k0_pay296; pointwise
  rw [pay294_eq hM hT h1]
  refine (select_eq_ofNat (by omega) (by have := (l1_isMin (M := M) (T := T)).lt; omega) _ _).trans ?_
  unfold row1
  rw [h1]; rfl

/-- The body's least value left in the first group. -/
theorem pay297_eq : k0_pay297 lanes R1 (mask mb R1) (ix2 q 0) = row1 Big T M (l1b Big T M) := by
  unfold k0_pay297; pointwise
  exact fold_min_eq l1b_isMin (pay296_eq hM hT h1)

/-- The body's lane of that value. -/
theorem pay298_eq : k0_pay298 lanes R1 (mask mb R1) (ix2 q 0) = BitVec.ofNat 32 (l1b Big T M) := by
  unfold k0_pay298; pointwise
  exact fold_minsi_eq (by omega) l1b_isMin (pay296_eq hM hT h1) (pay297_eq hM hT h1) fun l => rfl

/-- The body's number of the first pick. -/
theorem pay295_eq : k0_pay295 lanes (k0_pay7 lanesM mb) (mask mb R1) (ix2 q 0) = BitVec.ofNat 32 (g1 M * 128 + l1 T M) := by
  unfold k0_pay295; pointwise
  rw [pay7_eq hM, pay294_eq hM hT h1]
  exact word_of _ _

/-- The body's number of the least entry left in the first group. -/
theorem pay299_eq : k0_pay299 lanes (k0_pay7 lanesM mb) R1 (mask mb R1) (ix2 q 0) = BitVec.ofNat 32 (g1 M * 128 + l1b Big T M) := by
  unfold k0_pay299; pointwise
  rw [pay7_eq hM, pay298_eq hM hT h1]
  exact word_of _ _

variable (hT2 : T (g2 Big M * 128 + l2 Big T M) = M1 Big M (g2 Big M)) (h2 : ∀ l : Fin 128, R2 (ix2 q l) = T (g2 Big M * 128 + l))
include hT2 h2

/-- The body's least lane of the second group. -/
theorem pay300_eq : k0_pay300 lanes (k0_pay9 lanesM mb) R2 (ix2 q 0) = BitVec.ofNat 32 (l2 Big T M) := by
  unfold k0_pay300; pointwise
  exact fold_minsi_eq (by omega) l2_isMin h2 ((pay9_eq hM).trans hT2.symm) fun l => rfl

/-- The body's number of the least entry of the second group. -/
theorem pay301_eq : k0_pay301 lanes (k0_pay9 lanesM mb) (k0_pay10 lanesM mb) R2 (ix2 q 0) = BitVec.ofNat 32 (g2 Big M * 128 + l2 Big T M) := by
  unfold k0_pay301; pointwise
  rw [pay10_eq hM, pay300_eq hM hT h1 hT2 h2]
  exact word_of _ _

open Classical in
/-- The bit that says the second pick comes from the first group. -/
theorem pay302_eq : k0_pay302 lanes (k0_pay7 lanesM mb) (k0_pay9 lanesM mb) (k0_pay10 lanesM mb) R1 R2 (mask mb R1) (ix2 q 0)
    = BitVec.ofBool (decide (FromA Big T M)) := by
  unfold k0_pay302; pointwise
  rw [pay297_eq hM hT h1, pay299_eq hM hT h1, pay301_eq hM hT h1 hT2 h2, pay9_eq hM]
  have e : IntOp.cmpi .slt (BitVec.ofNat 32 (g1 M * 128 + l1b Big T M)) (BitVec.ofNat 32 (g2 Big M * 128 + l2 Big T M))
      = BitVec.ofBool (decide (g1 M * 128 + l1b Big T M < g2 Big M * 128 + l2 Big T M)) := by
    show BitVec.ofBool (BitVec.slt _ _) = _
    congr 1
    have a := (g1_isMin (M := M)).lt
    have b := (g2_isMin (M := M)).lt
    have c := (l1b_isMin (M := M) (T := T)).lt
    have d := (l2_isMin (M := M) (T := T)).lt
    rw [Bool.eq_iff_iff, BitVec.slt_iff_toInt_lt, toInt_ofNat (by omega), toInt_ofNat (by omega), decide_eq_true_eq]
    omega
  rw [e]
  unfold FromA
  exact (or_and_bits _ _ _).trans (congrArg BitVec.ofBool (decide_eq_decide.mpr Iff.rfl))

/-- The body's number of the second pick. -/
theorem pay303_eq : k0_pay303 lanes (k0_pay7 lanesM mb) (k0_pay9 lanesM mb) (k0_pay10 lanesM mb) R1 R2 (mask mb R1) (ix2 q 0)
    = BitVec.ofNat 32 (p2 Big T M) := by
  unfold k0_pay303; pointwise
  rw [pay299_eq hM hT h1, pay301_eq hM hT h1 hT2 h2, pay302_eq hM hT h1 hT2 h2]
  refine (select_decide' _ _ _).trans ?_
  unfold p2
  split <;> rfl

/-- The body's distance of the second pick. -/
theorem pay306_eq : k0_pay306 lanes (k0_pay7 lanesM mb) (k0_pay9 lanesM mb) (k0_pay10 lanesM mb) R1 R2 (mask mb R1) (ix2 q 0)
    = e2 Big T M := by
  unfold k0_pay306; pointwise
  rw [pay297_eq hM hT h1, pay9_eq hM, pay302_eq hM hT h1 hT2 h2]
  exact select_decide' _ _ _

/-- The first group after the trip. -/
theorem pay309_eq (l : Fin 128) : k0_pay309 lanes (k0_pay296 lanes R1 (mask mb R1)) (k0_pay298 lanes R1 (mask mb R1))
      (k0_pay302 lanes (k0_pay7 lanesM mb) (k0_pay9 lanesM mb) (k0_pay10 lanesM mb) R1 R2 (mask mb R1)) (ix2 q l)
    = row1f Big T M l := by
  unfold k0_pay309; pointwise
  rw [pay296_eq hM hT h1, pay298_eq hM hT h1, pay302_eq hM hT h1 hT2 h2]
  have := (l1b_isMin (M := M) (T := T)).lt
  unfold row1f
  have e : IntOp.cmpi .eq (BitVec.ofNat 32 l.val) (BitVec.ofNat 32 (l1b Big T M)) = BitVec.ofBool (decide (l.val = l1b Big T M)) := by
    show BitVec.ofBool (BitVec.ofNat 32 l.val == BitVec.ofNat 32 _) = _
    congr 1
    rw [Bool.eq_iff_iff, beq_iff_eq, decide_eq_true_eq]
    exact ofNat_eq_iff (by omega) (by omega)
  rw [e, big_eq]
  by_cases a : FromA Big T M <;> by_cases b : l.val = l1b Big T M <;> simp [a, b, Scalar.select, lanes_apply, IntOp.andi, e]

/-- The second group after the trip. -/
theorem pay310_eq (l : Fin 128) : k0_pay310 lanes R2 (k0_pay300 lanes (k0_pay9 lanesM mb) R2)
      (k0_pay302 lanes (k0_pay7 lanesM mb) (k0_pay9 lanesM mb) (k0_pay10 lanesM mb) R1 R2 (mask mb R1)) (ix2 q l)
    = row2f Big T M l := by
  unfold k0_pay310; pointwise
  rw [pay300_eq hM hT h1 hT2 h2, pay302_eq hM hT h1 hT2 h2]
  have := (l2_isMin (M := M) (T := T)).lt
  unfold row2f
  have e : IntOp.cmpi .eq (BitVec.ofNat 32 l.val) (BitVec.ofNat 32 (l2 Big T M)) = BitVec.ofBool (decide (l.val = l2 Big T M)) := by
    show BitVec.ofBool (BitVec.ofNat 32 l.val == BitVec.ofNat 32 _) = _
    congr 1
    rw [Bool.eq_iff_iff, beq_iff_eq, decide_eq_true_eq]
    exact ofNat_eq_iff (by omega) (by omega)
  rw [e, big_eq]
  by_cases a : FromA Big T M <;> by_cases b : l.val = l2 Big T M <;> simp [a, b, Scalar.select, lanes_apply, IntOp.andi, IntOp.xori, e, h2]

/-- The group minima after the trip. -/
theorem pay5_eq (m1 m2 : FVec Ideal S64x128 .f32) (hm1 : ∀ l : Fin 128, m1 (ix2 q l) = row1f Big T M l)
    (hm2 : ∀ l : Fin 128, m2 (ix2 q l) = row2f Big T M l) (l : Fin 896) :
    k0_pay5 mb (k0_pay7 lanesM mb) (k0_pay10 lanesM mb) m1 m2 (ix2 q l) = M2 Big T M l := by
  unfold k0_pay5; pointwise
  rw [pay7_eq hM, pay10_eq hM]
  have a := (g1_isMin (M := M)).lt
  have b := (g2_isMin (M := M)).lt
  rw [select_eq_ofNat (by omega) (by omega), select_eq_ofNat (by omega) (by omega)]
  unfold M2
  rw [hM]
  refine if_congr Iff.rfl ?_ (if_congr Iff.rfl ?_ rfl)
  · exact fold_min_eq (amin_spec (by omega) _) hm1
  · exact fold_min_eq (amin_spec (by omega) _) hm2

end
end

end Cert.Proof
-- ==== Proof.Chunk.lean ====
/-
  The distances of a block's 64 queries to the contexts: what one chunk of 2048 of them, one group of 128 in the table, and
  the sixteen group minima of a chunk hold.
-/
module

public import proofs.«01_k».proof.Proof.RoundValue
public import Idealize.ShloMosaic.Lib.Pipeline.ReadBack
public import Idealize.ShloMosaic.Lib.Pipeline.Value

@[expose] public section

noncomputable section

namespace Cert.Proof

open Cert.KernelIdeal Cert.KernelIdeal.Gen
open Idealize.ShloMosaic Idealize.ShloMosaic.TcCoe Idealize.SL.Sem

section
variable (x1 : S64x16.Idx → EReal) (x2 : S16x100352.Idx → EReal) (x3 : S16x16.Idx → EReal) (x4 : S1x16.Idx → EReal)

/-- The projected query: `q · Wᵀ + b`. -/
def proj (q : Fin 64) (e : Fin 16) : EReal := (∑ k : Fin 16, x1 (ix2 q k) * x3 (ix2 e k)) + x4 (ix2 0 e)

/-- The squared distance before it is cut off at zero. -/
def sqd (q : Fin 64) (n : Fin 100352) : EReal :=
  ((∑ e : Fin 16, proj x1 x3 x4 q e * proj x1 x3 x4 q e) + ∑ e : Fin 16, x2 (ix2 e n) * x2 (ix2 e n))
    - Ideal.ofBits .f32 0x40000000#32 * ∑ e : Fin 16, proj x1 x3 x4 q e * x2 (ix2 e n)

/-- The distance of query `q` to context `n`. -/
def dist (q : Fin 64) (n : Fin 100352) : EReal := Ideal.sqrt (max (sqd x1 x2 x3 x4 q n) 0)

/-- The same by the number of the context. -/
def distN (q : Fin 64) (n : ℕ) : EReal := if h : n < 100352 then dist x1 x2 x3 x4 q ⟨n, h⟩ else 0

end

/-- Every entry of the gate is zero. -/
def Shut (gate : FVec Ideal S1x1 .f32) : Prop := gate (ix2 0 0) = 0

/-- The gate of the first two chunks, a constant zero, is zero. -/
theorem shut_zero : Shut (k0_pay443 (F := Ideal)) := by
  unfold Shut k0_pay443
  pointwise

/-- The gate of a later chunk is a distance times zero, hence zero whatever the distance is. -/
theorem shut_mul (x : FVec Ideal S64x16 .f32) (h : Shape.Slices S64x16 ![0, 0] S1x1) :
    Shut (mulf (extractStridedSlice S1x1 ![0, 0] x h) (broadcast S1x1 (Scalar.ofBits .f32 0x00000000#32))) := by
  unfold Shut
  pointwise
  simp

/-- The body's first product and addition give the projected queries. -/
theorem proj_apply (x1 : Vec Ideal S64x16 .f32) (x3 : Vec Ideal S16x16 .f32) (x4 : Vec Ideal S1x16 .f32) (q : Fin 64) (e : Fin 16) :
    k0_pay440 x1 x3 x4 (ix2 q e) = proj x1 x3 x4 q e := by
  unfold k0_pay440 proj
  pointwise

/-- The body's first sum gives the squared norm of a projected query. -/
theorem norm_apply (x1 : Vec Ideal S64x16 .f32) (x3 : Vec Ideal S16x16 .f32) (x4 : Vec Ideal S1x16 .f32) (q : Fin 64) :
    k0_pay441 x1 x3 x4 (ix2 q 0) = ∑ e : Fin 16, proj x1 x3 x4 q e * proj x1 x3 x4 q e := by
  unfold k0_pay441
  pointwise
  simp only [proj_apply]

/-- A chunk of squared distances, cut off at zero. -/
theorem chunk_apply {qp : FVec Ideal S64x16 .f32} {qsq : FVec Ideal S64x1 .f32} {gate : FVec Ideal S1x1 .f32} (hgate : Shut gate)
    {x : Vec Ideal S16x2048 .f32} {x1 : S64x16.Idx → EReal} {x2 : S16x100352.Idx → EReal} {x3 : S16x16.Idx → EReal} {x4 : S1x16.Idx → EReal}
    (hqp : ∀ q e, qp (ix2 q e) = proj x1 x3 x4 q e)
    (hqsq : ∀ q, qsq (ix2 q 0) = ∑ e : Fin 16, proj x1 x3 x4 q e * proj x1 x3 x4 q e)
    {s : ℕ} (hs : s + 2048 ≤ 100352) (hx : ∀ e (l : Fin 2048), x (ix2 e l) = x2 (ix2 e ⟨s + l.val, by omega⟩)) (q : Fin 64) (l : Fin 2048) :
    k0_pay495 qp qsq gate x (ix2 q l) = max (sqd x1 x2 x3 x4 q ⟨s + l.val, by omega⟩) 0 := by
  have hg : gate (ix2 0 0) = 0 := hgate
  unfold k0_pay495 sqd
  pointwise
  simp only [hqp, hqsq, hx, hg, add_zero]

/-- The roots of 128 entries of a chunk. -/
abbrev roots (x : FVec Ideal S64x2048 .f32) (o : Fin 2 → ℕ) (h : Shape.Slices S64x2048 o S64x128) : FVec Ideal S64x128 .f32 :=
  sqrt (extractStridedSlice S64x128 o x h)

/-- An entry of a group of roots is the root of the chunk's entry at the group's offset. -/
theorem roots_apply (x : FVec Ideal S64x2048 .f32) (o : ℕ) (h : Shape.Slices S64x2048 ![0, o] S64x128) (q : Fin 64) (l : Fin 128)
   (ho : o + 128 ≤ 2048) :
    roots x ![0, o] h (ix2 q l) = Ideal.sqrt (x (ix2 q ⟨o + l.val, by omega⟩)) := by
  unfold roots
  pointwise

/-- The least root of 128 entries, row by row. -/
abbrev least (x : FVec Ideal S64x2048 .f32) (o : Fin 2 → ℕ) (h : Shape.Slices S64x2048 o S64x128) : FVec Ideal S64x1 .f32 :=
  shapeCast S64x1 (multiReduction .minimumf [1] S64 (roots x o h) 0x7F800000#32 reduces_S64x128_S64 (.inl rfl) rfl) shapeCasts_S64_S64x1

/-- The least root of a row, as a fold of the minimum from plus infinity. -/
theorem least_apply (x : FVec Ideal S64x2048 .f32) (o : Fin 2 → ℕ) (h : Shape.Slices S64x2048 o S64x128) (q : Fin 64)  :
    least x o h (ix2 q 0) = Finset.fold min (Ideal.ofBits .f32 2139095040#32) (fun l : Fin 128 => roots x o h (ix2 q l)) Finset.univ := by
  unfold least
  pointwise

/-- The sixteen group minima of a chunk. -/
abbrev minima (x : FVec Ideal S64x2048 .f32) : FVec Ideal S64x16 .f32 :=
  concatenate S64x16 1 [⟨S64x1, least x ![0, 0] slices_S64x2048_o0_0_S64x128⟩, ⟨S64x1, least x ![0, 128] slices_S64x2048_o0_128_S64x128⟩, ⟨S64x1, least x ![0, 256] slices_S64x2048_o0_256_S64x128⟩, ⟨S64x1, least x ![0, 384] slices_S64x2048_o0_384_S64x128⟩, ⟨S64x1, least x ![0, 512] slices_S64x2048_o0_512_S64x128⟩, ⟨S64x1, least x ![0, 640] slices_S64x2048_o0_640_S64x128⟩, ⟨S64x1, least x ![0, 768] slices_S64x2048_o0_768_S64x128⟩, ⟨S64x1, least x ![0, 896] slices_S64x2048_o0_896_S64x128⟩, ⟨S64x1, least x ![0, 1024] slices_S64x2048_o0_1024_S64x128⟩, ⟨S64x1, least x ![0, 1152] slices_S64x2048_o0_1152_S64x128⟩, ⟨S64x1, least x ![0, 1280] slices_S64x2048_o0_1280_S64x128⟩, ⟨S64x1, least x ![0, 1408] slices_S64x2048_o0_1408_S64x128⟩, ⟨S64x1, least x ![0, 1536] slices_S64x2048_o0_1536_S64x128⟩, ⟨S64x1, least x ![0, 1664] slices_S64x2048_o0_1664_S64x128⟩, ⟨S64x1, least x ![0, 1792] slices_S64x2048_o0_1792_S64x128⟩, ⟨S64x1, least x ![0, 1920] slices_S64x2048_o0_1920_S64x128⟩] concatenates_S64x1_S64x1_S64x1_S64x1_S64x1_S64x1_S64x1_S64x1_S64x1_S64x1_S64x1_S64x1_S64x1_S64x1_S64x1_S64x1_S64x16_d1

/-- Group `g` of a chunk: the least of the roots of its 128 entries. -/
theorem minima_apply (x : FVec Ideal S64x2048 .f32) (q : Fin 64) (g : Fin 16) :
    minima x (ix2 q g) = Finset.fold min (Ideal.ofBits .f32 2139095040#32)
      (fun l : Fin 128 => Ideal.sqrt (x (ix2 q ⟨128 * g.val + l.val, by omega⟩))) Finset.univ := by
  unfold minima least roots
  fin_cases g <;> pointwise
end Cert.Proof
-- ==== Proof.Pieces.lean ====
/-
  The table filled group by group, and the group minima filled chunk by chunk: what a list of such stores leaves, one store
  at a time.
-/
module

public import proofs.«01_k».proof.Proof.Chunk
public import proofs.«01_k».proof.Proof.Base

@[expose] public section

noncomputable section

namespace Cert.Proof

open Cert.KernelIdeal Cert.KernelIdeal.Gen
open Idealize.ShloMosaic Idealize.ShloMosaic.TcCoe Idealize.SL.Sem

/-- The stores of the list leave the distances `G` in the first `n` groups. -/
def GroupsUpTo (G : Fin 64 → ℕ → EReal) (n : ℕ) (L : List (View.Piece (Elt Ideal) S784x64x128 .f32)) : Prop :=
  ∀ (g : Fin 784) (q : Fin 64) (l : Fin 128), g.val < n → View.canon L (ix3 g q l) = G q (g.val * 128 + l.val)

/-- No store leaves no group. -/
theorem groupsUpTo_nil (G : Fin 64 → ℕ → EReal) : GroupsUpTo G 0 [] := fun _ _ _ h => absurd h (Nat.not_lt_zero _)

/-- The least of a group's distances. -/
def leastOf (G : Fin 64 → ℕ → EReal) (q : Fin 64) (g : ℕ) : EReal :=
  Finset.fold min (Ideal.ofBits .f32 2139095040#32) (fun l : Fin 128 => G q (g * 128 + l.val)) Finset.univ

/-- The stores of the list leave the mark in the last lanes, and the minima of the first `n` chunks' groups. -/
def MinimaUpTo (G : Fin 64 → ℕ → EReal) (n : ℕ) (L : List (View.Piece (Elt Ideal) S64x896 .f32)) : Prop :=
  ∀ (q : Fin 64) (l : Fin 896), (l.val < 16 * n → View.canon L (ix2 q l) = leastOf G q l.val)
    ∧ (784 ≤ l.val → View.canon L (ix2 q l) = Big)

/-- The last lanes are marked. -/
theorem minimaUpTo_mark (G : Fin 64 → ℕ → EReal) (inb : ∀ a, (![0, 784] : Fin 2 → ℕ) a + S64x112.size a ≤ S64x896.size a) :
    MinimaUpTo G 0 [⟨Rect.unit ![0, 784] S64x112.size inb, (k0_pay442 (F := Ideal))⟩] := by
  intro q l
  refine ⟨fun h => absurd h (Nat.not_lt_zero _), fun h => ?_⟩
  have e : (ix2 q l : S64x896.Idx) = (Rect.unit (s := S64x896) ![0, 784] S64x112.size inb).emb (ix2 q ⟨l.val - 784, by omega⟩) := by
    funext a
    refine Fin.ext ?_
    fin_cases a
    · show q.val = 0 + 1 * q.val; omega
    · show l.val = 784 + 1 * (l.val - 784); omega
  rw [e, View.canon_cons_emb]
  unfold k0_pay442
  pointwise
  rfl

section
variable {c : Dev nD} {arg2 : Memref sig .tc .vmem S16x100352 .f32} {f2 : Bf c arg2}
  {x1 : S64x16.Idx → EReal} {x3 : S16x16.Idx → EReal} {x4 : S1x16.Idx → EReal}
  {qp : FVec Ideal S64x16 .f32} {qsq : FVec Ideal S64x1 .f32}

/-- A chunk of distances, in the numbering of all contexts. -/
theorem chunk_dist (hqp : ∀ q e, qp (ix2 q e) = proj x1 x3 x4 q e)
    (hqsq : ∀ q, qsq (ix2 q 0) = ∑ e : Fin 16, proj x1 x3 x4 q e * proj x1 x3 x4 q e)
    {gate : FVec Ideal S1x1 .f32} (hgate : Shut gate) {s : ℕ}
    {inb : ∀ a, (![0, s] : Fin 2 → ℕ) a + S16x2048.size a ≤ S16x100352.size a} (q : Fin 64) (l : Fin 2048) :
    Ideal.sqrt (k0_pay495 qp qsq gate (View.readAt (Elt Ideal) arg2.view (Rect.unit (s := S16x100352) ![0, s] S16x2048.size inb).toLoadRect f2) (ix2 q l))
      = distN x1 (arg2.view.read (Elt Ideal) f2) x3 x4 q (s + l.val) := by
  have hs : s + 2048 ≤ 100352 := inb 1
  rw [chunk_apply hgate (x2 := arg2.view.read (Elt Ideal) f2) hqp hqsq hs, distN, dif_pos (by omega), dist]
  intro e l
  rw [View.readAt_apply]
  congr 1
  funext a
  refine Fin.ext ?_
  fin_cases a
  · show 0 + 1 * e.val = e.val; omega
  · show s + 1 * l.val = s + l.val; omega

/-- The store of group `n`, after those of the groups before it, leaves the distances in one group more. -/
theorem groupsUpTo_cons (hqp : ∀ q e, qp (ix2 q e) = proj x1 x3 x4 q e)
    (hqsq : ∀ q, qsq (ix2 q 0) = ∑ e : Fin 16, proj x1 x3 x4 q e * proj x1 x3 x4 q e)
    {n s o : ℕ} {gate : FVec Ideal S1x1 .f32} {L : List (View.Piece (Elt Ideal) S784x64x128 .f32)}
    {inb : ∀ a, (![n, 0, 0] : Fin 3 → ℕ) a + S1x64x128.size a ≤ S784x64x128.size a} {w : S1x64x128.Idx → EReal}
    {inb2 : ∀ a, (![0, s] : Fin 2 → ℕ) a + S16x2048.size a ≤ S16x100352.size a} {hsl : Shape.Slices S64x2048 ![0, o] S64x128}
    (hw : w = shapeCast S1x64x128 (roots (k0_pay495 qp qsq gate
      (View.readAt (Elt Ideal) arg2.view (Rect.unit (s := S16x100352) ![0, s] S16x2048.size inb2).toLoadRect f2)) ![0, o] hsl) shapeCasts_S64x128_S1x64x128)
    (hgate : Shut gate) (ho : o + 128 ≤ 2048) (hn : n * 128 = s + o)
    (hL : GroupsUpTo (distN x1 (arg2.view.read (Elt Ideal) f2) x3 x4) n L) :
    GroupsUpTo (distN x1 (arg2.view.read (Elt Ideal) f2) x3 x4) (n + 1) (⟨Rect.unit ![n, 0, 0] S1x64x128.size inb, w⟩ :: L) := by
  intro g q l hg
  by_cases h : g.val = n
  · have e : (ix3 g q l : S784x64x128.Idx) = (Rect.unit (s := S784x64x128) ![n, 0, 0] S1x64x128.size inb).emb (ix3 0 q l) := by
      funext a
      refine Fin.ext ?_
      fin_cases a
      · show g.val = n + 1 * 0; omega
      · show q.val = 0 + 1 * q.val; omega
      · show l.val = 0 + 1 * l.val; omega
    rw [e, View.canon_cons_emb, hw]
    have e2 : shapeCast S1x64x128 (roots (k0_pay495 qp qsq gate
      (View.readAt (Elt Ideal) arg2.view (Rect.unit (s := S16x100352) ![0, s] S16x2048.size inb2).toLoadRect f2)) ![0, o] hsl) shapeCasts_S64x128_S1x64x128 (ix3 0 q l)
        = roots (k0_pay495 qp qsq gate
      (View.readAt (Elt Ideal) arg2.view (Rect.unit (s := S16x100352) ![0, s] S16x2048.size inb2).toLoadRect f2)) ![0, o] hsl (ix2 q l) := by
      pointwise
    rw [e2, roots_apply _ _ _ _ _ ho, chunk_dist hqp hqsq hgate]
    congr 1
    show s + (o + l.val) = _
    rw [h, hn]; omega
  · rw [View.canon_cons_of_not_mem]
    · exact hL g q l (by omega)
    · exact Rect.not_mem_set_of_axis _ _ 0 n 1 rfl rfl rfl (by show g.val < n ∨ n + 1 ≤ g.val; omega)

/-- The store of chunk `n`'s sixteen minima, after those of the chunks before it, leaves the minima of one chunk more. -/
theorem minimaUpTo_cons (hqp : ∀ q e, qp (ix2 q e) = proj x1 x3 x4 q e)
    (hqsq : ∀ q, qsq (ix2 q 0) = ∑ e : Fin 16, proj x1 x3 x4 q e * proj x1 x3 x4 q e)
    {n m s : ℕ} {gate : FVec Ideal S1x1 .f32} {L : List (View.Piece (Elt Ideal) S64x896 .f32)}
    {inb : ∀ a, (![0, m] : Fin 2 → ℕ) a + S64x16.size a ≤ S64x896.size a} {w : S64x16.Idx → EReal}
    {inb2 : ∀ a, (![0, s] : Fin 2 → ℕ) a + S16x2048.size a ≤ S16x100352.size a} {hc : S64x16.ShapeCasts S64x16}
    (hw : w = shapeCast S64x16 (minima (k0_pay495 qp qsq gate
      (View.readAt (Elt Ideal) arg2.view (Rect.unit (s := S16x100352) ![0, s] S16x2048.size inb2).toLoadRect f2))) hc)
    (hgate : Shut gate) (hm : m = 16 * n) (hs : s = 2048 * n) (hn : n < 49)
    (hL : MinimaUpTo (distN x1 (arg2.view.read (Elt Ideal) f2) x3 x4) n L) :
    MinimaUpTo (distN x1 (arg2.view.read (Elt Ideal) f2) x3 x4) (n + 1) (⟨Rect.unit ![0, m] S64x16.size inb, w⟩ :: L) := by
  intro q l
  have miss : ¬ (m ≤ l.val ∧ l.val < m + 16) → View.canon (s := S64x896) (⟨Rect.unit (s := S64x896) ![0, m] S64x16.size inb, w⟩ :: L) (ix2 q l) = View.canon L (ix2 q l) := by
    intro h
    rw [View.canon_cons_of_not_mem]
    exact Rect.not_mem_set_of_axis _ _ 1 m 16 rfl rfl rfl (by show l.val < m ∨ m + 16 ≤ l.val; omega)
  refine ⟨fun h => ?_, fun h => ?_⟩
  · by_cases hl : m ≤ l.val
    · have e : (ix2 q l : S64x896.Idx) = (Rect.unit (s := S64x896) ![0, m] S64x16.size inb).emb (ix2 q ⟨l.val - m, by omega⟩) := by
        funext a
        refine Fin.ext ?_
        fin_cases a
        · show q.val = 0 + 1 * q.val; omega
        · show l.val = m + 1 * (l.val - m); omega
      rw [e, View.canon_cons_emb, hw, shapeCast_id, minima_apply, leastOf]
      congr 1
      funext k
      rw [chunk_dist hqp hqsq hgate]
      congr 1
      show s + (128 * (l.val - m) + k.val) = _
      omega
    · rw [miss (by omega)]
      exact (hL q l).1 (by omega)
  · rw [miss (by omega)]
    exact (hL q l).2 h

end

end Cert.Proof
-- ==== Proof.Trip.lean ====
module

public import proofs.«01_k».proof.Proof.Gen.KernelIdeal.Skeleton
public import proofs.«01_k».proof.Proof.Gen.KernelIdeal.Loops
public import Idealize.ShloMosaic.Lib.Tactic
public import Idealize.ShloMosaic.PureOps.Ideal
public import proofs.«01_k».proof.Proof.Base

@[expose] public section

noncomputable section

namespace Cert.Proof

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

/-- The resource algebra. -/
local notation "𝕄" => MT nD τ sig Unit (Elt Ideal) ℕ (UR sig nD τ) ℕ

/-- One turn of the selection loop, from any running state whose two group numbers stay below 784: what it leaves in
the distance scratch and hands to the next turn, with the proof that the turn runs to its end. -/
noncomputable def trip (c : Dev nD) (i : grid0.Coords) (arg1 : Memref sig .tc .vmem S64x16 .f32) (harg1 : arg1.IsWhole) (arg2 : Memref sig .tc .vmem S16x100352 .f32) (harg2 : arg2.IsWhole) (arg3 : Memref sig .tc .vmem S16x16 .f32) (harg3 : arg3.IsWhole) (arg4 : Memref sig .tc .vmem S1x16 .f32) (harg4 : arg4.IsWhole) (arg5 : Memref sig .tc .vmem S64x64 .f32) (harg5 : arg5.IsWhole) (arg6 : Memref sig .tc .vmem S64x64 .i32) (harg6 : arg6.IsWhole) (arg7 : Memref sig .tc .vmem S784x64x128 .f32) (harg7 : arg7.IsWhole) (arg8 : Memref sig .tc .vmem S64x896 .f32) (harg8 : arg8.IsWhole) (arg9 : Memref sig .tc .vmem S64x128 .f32) (harg9 : arg9.IsWhole) (arg10 : Memref sig .tc .vmem S64x128 .f32) (harg10 : arg10.IsWhole) (v6624 : IVec S64x64 32) (v6625 : IVec S64x896 32) (v6626 : IVec S64x128 32)
    (k : Fin k0_t1_loop.trips) (od : FVec Ideal S64x64 .f32) (oi : IVec S64x64 32) (mb : Vec Ideal S64x896 .f32)
    (f7 : Bf c arg7)
    (hw1 : ∀ j, (k0_pay7 v6625 mb j).toNat < 784) (hw2 : ∀ j, (k0_pay10 v6625 mb j).toNat < 784) :
    { W : Bf c arg7 × (FVec Ideal S64x64 .f32 × IVec S64x64 32 × Vec Ideal S64x896 .f32) //
      ∀ (f9 : Bf c arg9) (f10 : Bf c arg10) (Q : FVec Ideal S64x64 .f32 × IVec S64x64 32 × Vec Ideal S64x896 .f32 → sProp 𝕄),
        iprop(pt c arg7 f7 ∗ pt c arg9 f9 ∗ pt c arg10 f10
          ∗ (iprop(pt c arg7 W.1 ∗ (∃ f, pt c arg9 f) ∗ (∃ f, pt c arg10 f)) -∗ Q W.2))
        ⊢ wp Idealize.ShloMosaic.frame (wpE (defs₀ (F := Ideal)) Variants.none c none) Set.univ
            (k0_t1_body i arg1 harg1 arg2 harg2 arg3 harg3 arg4 harg4 arg5 harg5 arg6 harg6 arg7 harg7 arg8 harg8 arg9 harg9 arg10 harg10 v6624 v6625 v6626 k (od, oi, mb)) Q } := by
  refine ⟨⟨?_, ?_⟩, fun f9 f10 Q => ?run⟩
  case run =>
    unfold k0_t1_body
    iintro ⟨H7, H9, H10, Hk⟩
    sl_exec_parts (disch :=
      (refine word_chk (word_eq _ _ (Nat.lt_of_sub_eq_succ rfl) _ _ _ _ _ _) ?_ ?_
       · first | with_reducible exact hw1 | with_reducible exact hw2 | exact hw1 | exact hw2
       · intro w hw
         first
           | exact row_inb_two hw (Nat.lt_of_sub_eq_succ rfl) rfl hw (Nat.lt_of_sub_eq_succ rfl) rfl
           | exact row_inb _ hw (Nat.lt_of_sub_eq_succ rfl) rfl))
    sl_step
    iapply Hk
    isplitl [H7]; · iexact H7
    isplitl [H9]; · iexists _; iexact H9
    iexists _; iexact H10

end Cert.Proof
-- ==== Proof.Rows.lean ====
/-
  A buffer filled row by row, and a table of groups of which one row of one group is overwritten at a time: what a list of
  such stores leaves, one store at a time.
-/
module

public import proofs.«01_k».proof.Proof.Base
public import Idealize.ShloMosaic.Lib.Pointwise
public import Idealize.ShloMosaic.Lib.Pipeline.ReadBack
public import Idealize.ShloMosaic.Lib.Pipeline.Value

@[expose] public section

noncomputable section

namespace Cert.Proof

open Cert.KernelIdeal Cert.KernelIdeal.Gen
open Idealize.ShloMosaic Idealize.ShloMosaic.TcCoe Idealize.SL.Sem

/-- The stores of the list leave `G` in the first `n` rows. -/
def RowsUpTo (G : S64x128.Idx → EReal) (n : ℕ) (L : List (View.Piece (Elt Ideal) S64x128 .f32)) : Prop :=
  ∀ y : S64x128.Idx, (y 0).val < n → View.canon L y = G y

/-- No store leaves no row. -/
theorem rowsUpTo_nil (G : S64x128.Idx → EReal) : RowsUpTo G 0 [] := fun y h => absurd h (Nat.not_lt_zero _)

/-- The store of row `n`, after those of the rows before it, leaves one row more. -/
theorem rowsUpTo_cons {G : S64x128.Idx → EReal} {n : ℕ} {L : List (View.Piece (Elt Ideal) S64x128 .f32)} (hn : n < 64)
    (inb : ∀ a, (![n, 0] : Fin 2 → ℕ) a + S1x128.size a ≤ S64x128.size a) (w : S1x128.Idx → EReal)
    (hw : ∀ l : Fin 128, w (ix2 0 l) = G (ix2 ⟨n, hn⟩ l)) (hL : RowsUpTo G n L) :
    RowsUpTo G (n + 1) (⟨Rect.unit ![n, 0] S1x128.size inb, w⟩ :: L) := by
  intro y hy
  by_cases h : (y 0).val = n
  · have e : y = (Rect.unit (s := S64x128) ![n, 0] S1x128.size inb).emb (ix2 0 (y 1)) := by
      funext a
      refine Fin.ext ?_
      fin_cases a
      · show (y 0).val = n + 1 * 0; omega
      · show (y 1).val = 0 + 1 * (y 1).val; omega
    have e' : y = ix2 ⟨n, hn⟩ (y 1) := by
      funext a
      fin_cases a
      · exact Fin.ext h
      · rfl
    conv_lhs => rw [e]
    rw [View.canon_cons_emb]
    conv_rhs => rw [e']
    exact hw (y 1)
  · rw [View.canon_cons_of_not_mem]
    · exact hL y (by omega)
    · exact Rect.not_mem_set_of_axis _ y 0 n 1 rfl rfl rfl (by omega)

section
variable (c : Dev nD) (arg7 : Memref sig .tc .vmem S784x64x128 .f32) (f7 : Bf c arg7)

/-- Row `q` of the group a column of words names. -/
def rowAt (gw : IVec S64x1 32) (hg : ∀ j, (gw j).toNat < 784) (x : S784x64x128.Idx → EReal) : S64x128.Idx → EReal :=
  fun y => x (ix3 ⟨(gw (ix2 (y 0) 0)).toNat, hg _⟩ (y 0) (y 1))

/-- A position in a column of words is a row and the only lane. -/
theorem col_eq (q : ℕ) (hq : q < 64) : col q hq = ix2 ⟨q, hq⟩ 0 := by
  funext a; fin_cases a <;> rfl

/-- The row of a group the body loads for a query, as a row of the staging buffer. -/
theorem row_load {gw : IVec S64x1 32} {hg : ∀ j, (gw j).toNat < 784} {q : ℕ} {w : BitVec 32} (hq : q < 64) {o : Fin 3 → ℕ} (ho : o = ![(Scalar.indexCast w).toNat, q, 0])
    (hw : w = gw (col q hq)) {inb} {h1 : S1x1x128.ShapeCasts S1x128} {h2 : S1x128.ShapeCasts S1x128} (l : Fin 128) :
    shapeCast S1x128 (shapeCast S1x128 (View.readAt (Elt Ideal) arg7.view (Rect.unit (s := S784x64x128) o S1x1x128.size inb).toLoadRect f7) h1) h2 (ix2 0 l)
      = rowAt gw hg (arg7.view.read (Elt Ideal) f7) (ix2 ⟨q, hq⟩ l) := by
  pointwise
  rw [View.readAt_apply]
  unfold rowAt
  refine congrArg (arg7.view.read (Elt Ideal) f7) (funext fun a => Fin.ext ?_)
  rw [col_eq] at hw
  replace ho : o = ![w.toNat, q, 0] := ho
  subst ho
  fin_cases a
  · show w.toNat + 1 * 0 = (gw (ix2 ⟨q, hq⟩ 0)).toNat
    rw [hw]; omega
  · show q + 1 * 0 = q; omega
  · show 0 + 1 * l.val = l.val; omega

/-- What the table reads after row `n` of group `w` is overwritten. -/
theorem read_row_cons {n : ℕ} {L : List (View.Piece (Elt Ideal) S784x64x128 .f32)} {w : BitVec 32} {o : Fin 3 → ℕ}
    (ho : o = ![(Scalar.indexCast w).toNat, n, 0]) (inb : ∀ a, o a + S1x1x128.size a ≤ S784x64x128.size a) (v : S1x1x128.Idx → EReal)
    (g : Fin 784) (q : Fin 64) (l : Fin 128) :
    arg7.view.read (Elt Ideal) (arg7.view.writes (Elt Ideal) f7 (⟨Rect.unit o S1x1x128.size inb, v⟩ :: L)) (ix3 g q l)
      = if q.val = n ∧ g.val = w.toNat then v (ix3 0 0 l)
        else arg7.view.read (Elt Ideal) (arg7.view.writes (Elt Ideal) f7 L) (ix3 g q l) := by
  replace ho : o = ![w.toNat, n, 0] := ho
  subst ho
  by_cases h : q.val = n ∧ g.val = w.toNat
  · rw [if_pos h]
    obtain ⟨hq, hgq⟩ := h
    subst hq
    have e : (ix3 g q l : S784x64x128.Idx) = (Rect.unit (s := S784x64x128) ![w.toNat, q.val, 0] S1x1x128.size inb).emb (ix3 0 0 l) := by
      funext a
      refine Fin.ext ?_
      fin_cases a
      · show g.val = w.toNat + 1 * 0; omega
      · show q.val = q.val + 1 * 0; omega
      · show l.val = 0 + 1 * l.val; omega
    rw [e, View.read_writes_cons_emb]
  · rw [if_neg h, View.read_writes_cons_miss]
    by_cases hq : q.val = n
    · refine Rect.not_mem_set_of_axis _ _ 0 w.toNat 1 rfl rfl rfl ?_
      have : g.val ≠ w.toNat := fun e => h ⟨hq, e⟩
      show g.val < _ ∨ _ ≤ g.val
      omega
    · refine Rect.not_mem_set_of_axis _ _ 1 n 1 rfl rfl rfl ?_
      show q.val < _ ∨ _ ≤ q.val
      omega

/-- The stores of the list have overwritten row `q` of group `g q` by row `q` of `A` for the first `n` rows. -/
def RowsPut (gw : IVec S64x1 32) (A : S64x128.Idx → EReal) (F : S784x64x128.Idx → EReal) (n : ℕ)
    (L : List (View.Piece (Elt Ideal) S784x64x128 .f32)) : Prop :=
  ∀ (g : Fin 784) (q : Fin 64) (l : Fin 128), arg7.view.read (Elt Ideal) (arg7.view.writes (Elt Ideal) f7 L) (ix3 g q l)
    = if q.val < n ∧ g.val = (gw (ix2 q 0)).toNat then A (ix2 q l) else F (ix3 g q l)

/-- No store leaves the table as it was. -/
theorem rowsPut_nil (gw : IVec S64x1 32) (A : S64x128.Idx → EReal) : RowsPut c arg7 f7 gw A (arg7.view.read (Elt Ideal) f7) 0 [] :=
  fun g q l => (if_neg (fun h => Nat.not_lt_zero _ h.1)).symm

/-- A second run of stores starts from what the first left. -/
theorem rowsPut_next {gw gw' : IVec S64x1 32} {A A' : S64x128.Idx → EReal} {F : S784x64x128.Idx → EReal}
    {L : List (View.Piece (Elt Ideal) S784x64x128 .f32)} (h : RowsPut c arg7 f7 gw A F 64 L) :
    RowsPut c arg7 f7 gw' A' (fun y => if (y 0).val = (gw (ix2 (y 1) 0)).toNat then A (ix2 (y 1) (y 2)) else F y) 0 L := by
  intro g q l
  rw [h g q l, if_neg (show ¬ (q.val < 0 ∧ _) from fun h => Nat.not_lt_zero _ h.1)]
  refine if_congr ?_ rfl rfl
  exact ⟨fun h => h.2, fun h => ⟨q.isLt, h⟩⟩

/-- The store of row `n` in its query's group, after those of the rows before it, overwrites one row more: rows of
    different queries don't meet. -/
theorem rowsPut_cons {gw : IVec S64x1 32} {A : S64x128.Idx → EReal} {F : S784x64x128.Idx → EReal} {n : ℕ}
    {L : List (View.Piece (Elt Ideal) S784x64x128 .f32)} (hn : n < 64) {w : BitVec 32} {o : Fin 3 → ℕ}
    (ho : o = ![(Scalar.indexCast w).toNat, n, 0]) (hw : w = gw (col n hn)) (inb : ∀ a, o a + S1x1x128.size a ≤ S784x64x128.size a)
    (v : S1x1x128.Idx → EReal) (hv : ∀ l : Fin 128, v (ix3 0 0 l) = A (ix2 ⟨n, hn⟩ l)) (hL : RowsPut c arg7 f7 gw A F n L) :
    RowsPut c arg7 f7 gw A F (n + 1) (⟨Rect.unit o S1x1x128.size inb, v⟩ :: L) := by
  intro g q l
  rw [col_eq] at hw
  rw [read_row_cons c arg7 f7 ho, hL g q l, hv l]
  by_cases hq : q.val = n
  · subst hq
    have e : (⟨q.val, hn⟩ : Fin 64) = q := rfl
    rw [e] at hw ⊢
    rw [hw]
    have h0 : ¬ q.val < q.val := lt_irrefl _
    have h1 : q.val < q.val + 1 := Nat.lt_succ_self _
    simp only [h0, h1, false_and, true_and, if_false]
  · have h1 : q.val < n + 1 ↔ q.val < n := by omega
    simp only [hq, false_and, if_false, h1]

/-- Row `q` of a staging buffer just filled, as the row stored into a group. -/
theorem row_store {sp : Space} (m : View sig .tc sp S64x128 .f32) {n : ℕ} (hn : n < 64) {inb0 inb} (Z : S64x128.Idx → EReal)
    (L : List (View.Piece (Elt Ideal) S64x128 .f32)) {h1 : S1x128.ShapeCasts S1x1x128} (l : Fin 128) :
    shapeCast S1x1x128 (m.readCov (⟨Rect.unit (s := S64x128) ![0, 0] S64x128.size inb0, Z⟩ :: L)
      (Rect.unit (s := S64x128) ![n, 0] S1x128.size inb).toLoadRect) h1 (ix3 0 0 l) = Z (ix2 ⟨n, hn⟩ l) := by
  rw [View.readCov_fill _ _ _ _ _ (by intro a; fin_cases a <;> rfl)]
  pointwise

end

end Cert.Proof
-- ==== Proof.TripValue.lean ====
/-
  The contents a trip leaves, read back: the two staging buffers hold the rows of the two groups, and the table has those
  rows overwritten.
-/
module

public import proofs.«01_k».proof.Proof.Trip
public import proofs.«01_k».proof.Proof.Rows
public import proofs.«01_k».proof.Proof.RoundValue
import all proofs.«01_k».proof.Proof.Trip

@[expose] public section

noncomputable section

namespace Cert.Proof

open Cert.KernelIdeal Cert.KernelIdeal.Gen
open Idealize.ShloMosaic Idealize.ShloMosaic.TcCoe Idealize.ShloMosaic.Tactic Idealize.SL.Sem

section
variable (c : Dev nD) (arg7 : Memref sig .tc .vmem S784x64x128 .f32) (arg9 arg10 : Memref sig .tc .vmem S64x128 .f32)
  (v6625 : IVec S64x896 32) (v6626 : IVec S64x128 32) (mb : Vec Ideal S64x896 .f32) (f7 : Bf c arg7)
  (hw1 : ∀ j, (k0_pay7 v6625 mb j).toNat < 784) (hw2 : ∀ j, (k0_pay10 v6625 mb j).toNat < 784)

/-- The whole staging buffer, loaded after its 64 rows are stored. -/
theorem rows_whole {sp : Space} (m : View sig .tc sp S64x128 .f32) {G : S64x128.Idx → EReal} {L : List (View.Piece (Elt Ideal) S64x128 .f32)}
    (h : RowsUpTo G 64 L) (inb : ∀ a, (![0, 0] : Fin 2 → ℕ) a + S64x128.size a ≤ S64x128.size a) :
    m.readCov L (Rect.unit (s := S64x128) ![0, 0] S64x128.size inb).toLoadRect = G := by
  rw [View.readCov_eq_canon']
  funext j
  have e : (Rect.unit (s := S64x128) ![0, 0] S64x128.size inb).toLoadRect.idx j = j := by
    funext a; refine Fin.ext ?_
    fin_cases a
    · show 0 + 1 * (j 0).val = (j 0).val; omega
    · show 0 + 1 * (j 1).val = (j 1).val; omega
  rw [e]
  exact h j (j 0).isLt

set_option maxRecDepth 20000 in
/-- The first staging buffer, loaded: of every query its row of the first group. -/
theorem rows1 : trip.sl.v8062 c arg7 arg9 v6625 mb f7 hw1 = rowAt (k0_pay7 v6625 mb) hw1 (arg7.view.read (Elt Ideal) f7) := by
  unfold trip.sl.v8062
  refine rows_whole _ ?_ _
  iterate 64 refine rowsUpTo_cons (Nat.lt_of_sub_eq_succ rfl) _ _ (row_load c arg7 f7 _ rfl (word_eq _ _ _ _ _ _ rfl _ _)) ?_
  exact rowsUpTo_nil _

set_option maxRecDepth 20000 in
/-- The second staging buffer, loaded: of every query its row of the second group. -/
theorem rows2 : trip.sl.v8063 c arg7 arg10 v6625 mb f7 hw2 = rowAt (k0_pay10 v6625 mb) hw2 (arg7.view.read (Elt Ideal) f7) := by
  unfold trip.sl.v8063
  refine rows_whole _ ?_ _
  iterate 64 refine rowsUpTo_cons (Nat.lt_of_sub_eq_succ rfl) _ _ (row_load c arg7 f7 _ rfl (word_eq _ _ _ _ _ _ rfl _ _)) ?_
  exact rowsUpTo_nil _

end

/-- The block stored in a staging buffer is the one computed. -/
theorem pay311_eq (v6626 : IVec S64x128 32) (a : FVec Ideal S64x128 .f32) (b : IVec S64x1 32) (e : IVec S64x1 1) :
    k0_pay311 (F := Ideal) v6626 a b e = k0_pay309 (F := Ideal) v6626 a b e :=
  funext fun y => by unfold k0_pay311; rw [shapeCast_id]

/-- The same of the second staging buffer. -/
theorem pay312_eq (v6626 : IVec S64x128 32) (a : FVec Ideal S64x128 .f32) (b : IVec S64x1 32) (e : IVec S64x1 1) :
    k0_pay312 (F := Ideal) v6626 a b e = k0_pay310 (F := Ideal) v6626 a b e :=
  funext fun y => by unfold k0_pay312; rw [shapeCast_id]

set_option maxRecDepth 20000 in
/-- The table after a trip: the rows of the first groups are overwritten, then those of the second. -/
theorem trip_table (c : Dev nD) (i : grid0.Coords) (arg1 : Memref sig .tc .vmem S64x16 .f32) (harg1 : arg1.IsWhole) (arg2 : Memref sig .tc .vmem S16x100352 .f32) (harg2 : arg2.IsWhole) (arg3 : Memref sig .tc .vmem S16x16 .f32) (harg3 : arg3.IsWhole) (arg4 : Memref sig .tc .vmem S1x16 .f32) (harg4 : arg4.IsWhole) (arg5 : Memref sig .tc .vmem S64x64 .f32) (harg5 : arg5.IsWhole) (arg6 : Memref sig .tc .vmem S64x64 .i32) (harg6 : arg6.IsWhole) (arg7 : Memref sig .tc .vmem S784x64x128 .f32) (harg7 : arg7.IsWhole) (arg8 : Memref sig .tc .vmem S64x896 .f32) (harg8 : arg8.IsWhole) (arg9 : Memref sig .tc .vmem S64x128 .f32) (harg9 : arg9.IsWhole) (arg10 : Memref sig .tc .vmem S64x128 .f32) (harg10 : arg10.IsWhole) (v6624 : IVec S64x64 32) (v6625 : IVec S64x896 32) (v6626 : IVec S64x128 32)
    (k : Fin k0_t1_loop.trips) (od : FVec Ideal S64x64 .f32) (oi : IVec S64x64 32) (mb : Vec Ideal S64x896 .f32)
    (f7 : Bf c arg7)
    (hw1 : ∀ j, (k0_pay7 v6625 mb j).toNat < 784) (hw2 : ∀ j, (k0_pay10 v6625 mb j).toNat < 784) :
    ∃ L, (trip c i arg1 harg1 arg2 harg2 arg3 harg3 arg4 harg4 arg5 harg5 arg6 harg6 arg7 harg7 arg8 harg8 arg9 harg9 arg10 harg10 v6624 v6625 v6626 k od oi mb f7 hw1 hw2).1.1 = arg7.view.writes (Elt Ideal) f7 L ∧
    RowsPut c arg7 f7 (k0_pay10 v6625 mb) (trip.sl.r_14 c arg7 arg9 arg10 v6625 v6626 mb f7 hw1 hw2)
      (fun y => if (y 0).val = (k0_pay7 v6625 mb (ix2 (y 1) 0)).toNat then
        trip.sl.r_13 c arg7 arg9 arg10 v6625 v6626 mb f7 hw1 hw2 (ix2 (y 1) (y 2)) else arg7.view.read (Elt Ideal) f7 y) 64 L := by
  refine ⟨_, rfl, ?_⟩
  iterate 64 refine rowsPut_cons c arg7 f7 (Nat.lt_of_sub_eq_succ rfl) rfl (word_eq _ _ _ _ _ _ rfl _ _) _ _ (fun l => (row_store _ (Nat.lt_of_sub_eq_succ rfl) _ _ l).trans (congrFun (pay312_eq _ _ _ _) _)) ?_
  refine rowsPut_next c arg7 f7 ?_
  iterate 64 refine rowsPut_cons c arg7 f7 (Nat.lt_of_sub_eq_succ rfl) rfl (word_eq _ _ _ _ _ _ rfl _ _) _ _ (fun l => (row_store _ (Nat.lt_of_sub_eq_succ rfl) _ _ l).trans (congrFun (pay311_eq _ _ _ _) _)) ?_
  exact rowsPut_nil c arg7 f7 _ _

end Cert.Proof
-- ==== Proof.TripStep.lean ====
/-
  A trip on tables that hold distances with the first picks marked: it makes the next two picks of every row, records them,
  marks them in the table, and brings the group minima up to date.
-/
module

public import proofs.«01_k».proof.Proof.TripValue
import all proofs.«01_k».proof.Proof.Trip

@[expose] public section

noncomputable section

namespace Cert.Proof

open Cert.KernelIdeal Cert.KernelIdeal.Gen
open Idealize.ShloMosaic Idealize.ShloMosaic.TcCoe Idealize.ShloMosaic.Tactic Idealize.SL.Sem

/-- The lane numbers of the accumulators. -/
noncomputable abbrev lanesO : IVec S64x64 32 := iota .tc S64x64 32 [1] iota_S64x64_d1_w32

/-- Row `q` after `k` trips, for distances `D`: the table has the first `2 k` picks marked, the minima are its groups', and
    the accumulators' first `2 k` lanes hold the picks and their distances, the others nothing. -/
structure RowDone (D : ℕ → EReal) (k : ℕ) (q : Fin 64) (tb : S784x64x128.Idx → EReal) (od : S64x64.Idx → EReal)
    (oi : S64x64.Idx → BitVec 32) (mb : S64x896.Idx → EReal) : Prop where
  tab : ∀ (g : Fin 784) (l : Fin 128), tb (ix3 g q l) = tab 100352 Big D (2 * k) (g.val * 128 + l.val)
  grp : ∃ M, Groups Big (Cert.Proof.tab 100352 Big D (2 * k)) M ∧ ∀ l : Fin 896, mb (ix2 q l) = M l
  od_rest : ∀ l : Fin 64, 2 * k ≤ l.val → od (ix2 q l) = 0
  oi_rest : ∀ l : Fin 64, 2 * k ≤ l.val → oi (ix2 q l) = 0#32
  od : ∀ l : Fin 64, l.val < 2 * k → od (ix2 q l) = Cert.Proof.tab 100352 Big D l.val (pick 100352 Big D l.val)
  oi : ∀ l : Fin 64, l.val < 2 * k → oi (ix2 q l) = BitVec.ofNat 32 (pick 100352 Big D l.val)

/-- Twice the loop's counter, as a word. -/
theorem iv_mul_two {k : ℕ} (hk : k < 25) : Scalar.muli 2#32 (Scf.iv 0#32 1#32 k) = BitVec.ofNat 32 (2 * k) := by
  unfold Scalar.muli Scf.iv
  refine BitVec.eq_of_toNat_eq ?_
  simp [IntOp.muli, BitVec.toNat_mul]

/-- One more than that. -/
theorem two_mul_add {k : ℕ} (hk : k < 25) : Scalar.addi (BitVec.ofNat 32 (2 * k)) 1#32 = BitVec.ofNat 32 (2 * k + 1) := by
  unfold Scalar.addi
  refine BitVec.eq_of_toNat_eq ?_
  simp [IntOp.addi, BitVec.toNat_add]

/-- The accumulator of the distances after a trip. -/
theorem acc_od {k : ℕ} (hk : k < 25) (od : FVec Ideal S64x64 .f32) (a b : FVec Ideal S64x1 .f32) (q : Fin 64) (l : Fin 64) :
    k0_pay307 od a (k0_pay304 lanesO (Scf.iv 0#32 1#32 k)) (k0_pay305 lanesO (Scf.iv 0#32 1#32 k)) b (ix2 q l)
      = if l.val = 2 * k then a (ix2 q 0) else if l.val = 2 * k + 1 then b (ix2 q 0) else od (ix2 q l) := by
  unfold k0_pay307 k0_pay304 k0_pay305
  simp only [iv_mul_two hk, two_mul_add hk]
  pointwise
  rw [select_eq_ofNat (by omega) (by omega), select_eq_ofNat (by omega) (by omega)]

/-- The accumulator of the positions after a trip. -/
theorem acc_oi {k : ℕ} (hk : k < 25) (oi : IVec S64x64 32) (a b : IVec S64x1 32) (q : Fin 64) (l : Fin 64) :
    k0_pay308 lanesO oi (Scf.iv 0#32 1#32 k) a b (ix2 q l)
      = if l.val = 2 * k then a (ix2 q 0) else if l.val = 2 * k + 1 then b (ix2 q 0) else oi (ix2 q l) := by
  unfold k0_pay308
  simp only [iv_mul_two hk, two_mul_add hk]
  pointwise
  rw [select_eq_ofNat (by omega) (by omega), select_eq_ofNat (by omega) (by omega)]

section
variable {D : ℕ → EReal} {k : ℕ} {q : Fin 64} {tb : S784x64x128.Idx → EReal} {od : S64x64.Idx → EReal}
  {oi : S64x64.Idx → BitVec 32} {mb : S64x896.Idx → EReal}

/-- In a row that is so far as it should be, the next trip finds its two picks. -/
theorem RowDone.round (h : RowDone D k q tb od oi mb) (hk : k < 25) (hB : ∀ n < 100352, D n < Big) :
    ∃ M, Groups Big (Cert.Proof.tab 100352 Big D (2 * k)) M ∧ (∀ l : Fin 896, mb (ix2 q l) = M l)
      ∧ RoundOk Big (Cert.Proof.tab 100352 Big D (2 * k)) M := by
  obtain ⟨M, hG, hM⟩ := h.grp
  exact ⟨M, hG, hM, round_ok hG (fun n hn => tab_le hB _ n hn) (exists_other (by omega) hB)⟩

/-- The first group's number, as the body computes it, is one of the 784 groups. -/
theorem RowDone.word1 (h : RowDone D k q tb od oi mb) (hk : k < 25) (hB : ∀ n < 100352, D n < Big) :
    (k0_pay7 (F := Ideal) lanesM mb (ix2 q 0)).toNat < 784 := by
  obtain ⟨M, -, hM, hR⟩ := h.round hk hB
  have := hR.g1_lt
  rw [pay7_eq hM, BitVec.toNat_ofNat]
  omega

/-- The second group's number is one of the 784 groups. -/
theorem RowDone.word2 (h : RowDone D k q tb od oi mb) (hk : k < 25) (hB : ∀ n < 100352, D n < Big) :
    (k0_pay10 (F := Ideal) lanesM mb (ix2 q 0)).toNat < 784 := by
  obtain ⟨M, -, hM, hR⟩ := h.round hk hB
  have := hR.g2_lt
  rw [pay10_eq hM, BitVec.toNat_ofNat]
  omega
end

/-- A position in a column is its row and the only lane. -/
theorem ix2_col (j : S64x1.Idx) : j = ix2 (j 0) 0 := by
  funext a; fin_cases a
  · rfl
  · exact Subsingleton.elim (α := Fin 1) _ _

section
variable (c : Dev nD)  (i : grid0.Coords) (arg1 : Memref sig .tc .vmem S64x16 .f32) (harg1 : arg1.IsWhole) (arg2 : Memref sig .tc .vmem S16x100352 .f32) (harg2 : arg2.IsWhole) (arg3 : Memref sig .tc .vmem S16x16 .f32) (harg3 : arg3.IsWhole) (arg4 : Memref sig .tc .vmem S1x16 .f32) (harg4 : arg4.IsWhole) (arg5 : Memref sig .tc .vmem S64x64 .f32) (harg5 : arg5.IsWhole) (arg6 : Memref sig .tc .vmem S64x64 .i32) (harg6 : arg6.IsWhole) (arg7 : Memref sig .tc .vmem S784x64x128 .f32) (harg7 : arg7.IsWhole) (arg8 : Memref sig .tc .vmem S64x896 .f32) (harg8 : arg8.IsWhole) (arg9 : Memref sig .tc .vmem S64x128 .f32) (harg9 : arg9.IsWhole) (arg10 : Memref sig .tc .vmem S64x128 .f32) (harg10 : arg10.IsWhole)
    (k : Fin k0_t1_loop.trips) (od : FVec Ideal S64x64 .f32) (oi : IVec S64x64 32) (mb : Vec Ideal S64x896 .f32)
    (f7 : Bf c arg7)

/-- The group minima a trip leaves. -/
theorem trip_mb (v6624 : IVec S64x64 32) (v6625 : IVec S64x896 32) (v6626 : IVec S64x128 32)
    (hw1 : ∀ j, (k0_pay7 v6625 mb j).toNat < 784) (hw2 : ∀ j, (k0_pay10 v6625 mb j).toNat < 784) :
    (trip c i arg1 harg1 arg2 harg2 arg3 harg3 arg4 harg4 arg5 harg5 arg6 harg6 arg7 harg7 arg8 harg8 arg9 harg9 arg10 harg10 v6624 v6625 v6626 k od oi mb f7 hw1 hw2).1.2.2.2
      = k0_pay5 mb (k0_pay7 v6625 mb) (k0_pay10 v6625 mb) (trip.sl.r_13 c arg7 arg9 arg10 v6625 v6626 mb f7 hw1 hw2)
        (trip.sl.r_14 c arg7 arg9 arg10 v6625 v6626 mb f7 hw1 hw2) := by
  unfold trip
  dsimp only

set_option maxRecDepth 20000 in
/-- A trip takes every row from `k` trips done to `k + 1`. -/
theorem trip_row {D : ℕ → EReal} {q : Fin 64} (hk : k.val < 25) (hB : ∀ n < 100352, D n < Big)
    (h : RowDone D k.val q (arg7.view.read (Elt Ideal) f7) od oi mb)
    (hw1 : ∀ j, (k0_pay7 lanesM mb j).toNat < 784) (hw2 : ∀ j, (k0_pay10 lanesM mb j).toNat < 784) :
    RowDone D (k.val + 1) q (arg7.view.read (Elt Ideal) (trip c i arg1 harg1 arg2 harg2 arg3 harg3 arg4 harg4 arg5 harg5 arg6 harg6 arg7 harg7 arg8 harg8 arg9 harg9 arg10 harg10 lanesO lanesM lanes k od oi mb f7 hw1 hw2).1.1)
      (trip c i arg1 harg1 arg2 harg2 arg3 harg3 arg4 harg4 arg5 harg5 arg6 harg6 arg7 harg7 arg8 harg8 arg9 harg9 arg10 harg10 lanesO lanesM lanes k od oi mb f7 hw1 hw2).1.2.1
      (trip c i arg1 harg1 arg2 harg2 arg3 harg3 arg4 harg4 arg5 harg5 arg6 harg6 arg7 harg7 arg8 harg8 arg9 harg9 arg10 harg10 lanesO lanesM lanes k od oi mb f7 hw1 hw2).1.2.2.1
      (trip c i arg1 harg1 arg2 harg2 arg3 harg3 arg4 harg4 arg5 harg5 arg6 harg6 arg7 harg7 arg8 harg8 arg9 harg9 arg10 harg10 lanesO lanesM lanes k od oi mb f7 hw1 hw2).1.2.2.2 := by
  obtain ⟨M, hG, hM, hR⟩ := h.round hk hB
  obtain ⟨L, eL, hL⟩ := trip_table c i arg1 harg1 arg2 harg2 arg3 harg3 arg4 harg4 arg5 harg5 arg6 harg6 arg7 harg7 arg8 harg8 arg9 harg9 arg10 harg10 lanesO lanesM lanes k od oi mb f7 hw1 hw2
  have n1 := hR.g1_lt
  have n2 := hR.g2_lt
  have key : ∀ (l : Fin 128) {m : ℕ} (n : ℕ) (hn : n < 784), n = m → arg7.view.read (Elt Ideal) f7 (ix3 ⟨n, hn⟩ q l)
      = Cert.Proof.tab 100352 Big D (2 * k.val) (m * 128 + l) := fun l m n hn e => by
    subst e; exact h.tab ⟨n, hn⟩ l
  have h1 : ∀ l : Fin 128, trip.sl.v8062 c arg7 arg9 lanesM mb f7 hw1 (ix2 q l)
      = Cert.Proof.tab 100352 Big D (2 * k.val) (g1 M * 128 + l) := fun l => by
    rw [rows1]
    have e : (k0_pay7 lanesM mb (ix2 q 0)).toNat = g1 M := by
      rw [pay7_eq hM, BitVec.toNat_ofNat, Nat.mod_eq_of_lt (by omega)]
    unfold rowAt
    exact key l _ (hw1 (ix2 q 0)) e
  have h2 : ∀ l : Fin 128, trip.sl.v8063 c arg7 arg10 lanesM mb f7 hw2 (ix2 q l)
      = Cert.Proof.tab 100352 Big D (2 * k.val) (g2 Big M * 128 + l) := fun l => by
    rw [rows2]
    have e : (k0_pay10 lanesM mb (ix2 q 0)).toNat = g2 Big M := by
      rw [pay10_eq hM, BitVec.toNat_ofNat, Nat.mod_eq_of_lt (by omega)]
    unfold rowAt
    exact key l _ (hw2 (ix2 q 0)) e
  obtain ⟨p1, p2', e2'⟩ := round_picks hR
  have r13 := pay309_eq hM hR.val h1 hR.val_l2 h2
  have r14 := pay310_eq hM hR.val h1 hR.val_l2 h2
  refine ⟨fun g l => ?_, ⟨M2 Big (Cert.Proof.tab 100352 Big D (2 * k.val)) M, ?_, fun l => ?_⟩, fun l hl => ?_, fun l hl => ?_, fun l hl => ?_, fun l hl => ?_⟩
  · rw [eL, hL g q l, show 2 * (k.val + 1) = 2 * k.val + 2 by ring, e2', T2_eq hR _ _ l.isLt]
    show ite (q.val < 64 ∧ g.val = (k0_pay10 lanesM mb (ix2 q 0)).toNat) _ (ite (g.val = (k0_pay7 lanesM mb (ix2 q 0)).toNat) _ _) = _
    rw [pay7_eq hM, pay10_eq hM, BitVec.toNat_ofNat, BitVec.toNat_ofNat, Nat.mod_eq_of_lt (by omega), Nat.mod_eq_of_lt (by omega)]
    refine if_congr (and_iff_right q.isLt) (r14 l) (if_congr Iff.rfl (r13 l) (h.tab g l))
  · rw [show 2 * (k.val + 1) = 2 * k.val + 2 by ring, e2']
    exact groups_round hG hR
  · have e := pay5_eq hM hR.val h1 hR.val_l2 h2 (trip.sl.r_13 c arg7 arg9 arg10 lanesM lanes mb f7 hw1 hw2)
      (trip.sl.r_14 c arg7 arg9 arg10 lanesM lanes mb f7 hw1 hw2) r13 r14 l
    exact (congrFun (trip_mb c i arg1 harg1 arg2 harg2 arg3 harg3 arg4 harg4 arg5 harg5 arg6 harg6 arg7 harg7 arg8 harg8 arg9 harg9 arg10 harg10 k od oi mb f7 lanesO lanesM lanes hw1 hw2) (ix2 q l)).trans e
  · refine (acc_od hk od (k0_pay6 mb) _ q l).trans ?_
    rw [if_neg (by omega), if_neg (by omega)]
    exact h.od_rest l (by omega)
  · refine (acc_oi hk oi _ _ q l).trans ?_
    rw [if_neg (by omega), if_neg (by omega)]
    exact h.oi_rest l (by omega)
  · refine (acc_od hk od (k0_pay6 mb) _ q l).trans ?_
    by_cases c1 : l.val = 2 * k.val
    · rw [if_pos c1, pay6_eq hM, c1, p1, hR.val]
    · rw [if_neg c1]
      by_cases c2 : l.val = 2 * k.val + 1
      · rw [if_pos c2, c2, p2', tab_succ, p1, ← hR.val2]
        exact pay306_eq hM hR.val h1 hR.val_l2 h2
      · rw [if_neg c2]
        exact h.od l (by omega)
  · refine (acc_oi hk oi _ _ q l).trans ?_
    by_cases c1 : l.val = 2 * k.val
    · rw [if_pos c1, c1, p1]
      exact pay295_eq hM hR.val h1
    · rw [if_neg c1]
      by_cases c2 : l.val = 2 * k.val + 1
      · rw [if_pos c2, c2, p2']
        exact pay303_eq hM hR.val h1 hR.val_l2 h2
      · rw [if_neg c2]
        exact h.oi l (by omega)

end

end Cert.Proof
-- ==== Proof.Phase1.lean ====
module

public import proofs.«01_k».proof.Proof.Gen.KernelIdeal.Skeleton
public import proofs.«01_k».proof.Proof.Gen.KernelIdeal.Loops
public import Idealize.ShloMosaic.Lib.Tactic
public import Idealize.ShloMosaic.PureOps.Ideal
public import proofs.«01_k».proof.Proof.Base

@[expose] public section

noncomputable section

namespace Cert.Proof

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

/-
  The first half of the body: the distances of the block's 64 queries to all contexts, laid into the table group by group,
  and the least of every group beside it.
-/
local notation "𝕄" => MT nD τ sig Unit (Elt Ideal) ℕ (UR sig nD τ) ℕ

/-- What the body does once the distances and the group minima `v6629` are there: 25 trips, and the two accumulators stored. -/
noncomputable def tail (i : grid0.Coords) (arg1 : Memref sig .tc .vmem S64x16 .f32) (harg1 : arg1.IsWhole) (arg2 : Memref sig .tc .vmem S16x100352 .f32) (harg2 : arg2.IsWhole) (arg3 : Memref sig .tc .vmem S16x16 .f32) (harg3 : arg3.IsWhole) (arg4 : Memref sig .tc .vmem S1x16 .f32) (harg4 : arg4.IsWhole) (arg5 : Memref sig .tc .vmem S64x64 .f32) (harg5 : arg5.IsWhole) (arg6 : Memref sig .tc .vmem S64x64 .i32) (harg6 : arg6.IsWhole) (arg7 : Memref sig .tc .vmem S784x64x128 .f32) (harg7 : arg7.IsWhole) (arg8 : Memref sig .tc .vmem S64x896 .f32) (harg8 : arg8.IsWhole) (arg9 : Memref sig .tc .vmem S64x128 .f32) (harg9 : arg9.IsWhole) (arg10 : Memref sig .tc .vmem S64x128 .f32) (harg10 : arg10.IsWhole)
    (v6624 : IVec S64x64 32) (v6625 : IVec S64x896 32) (v6626 : IVec S64x128 32) (v6629 : Vec Ideal S64x896 .f32) :
    Prog (TpuEff nD τ sig (Elt Ideal) Λ₀ .tc) PUnit := do
  let (v6631_0, v6631_1, v6631_2) ← Scf.Loop.for k0_t1_loop k0_t1_ok (k0_pay2 (F := Ideal), k0_pay3, v6629) (k0_t1_body i arg1 harg1 arg2 harg2 arg3 harg3 arg4 harg4 arg5 harg5 arg6 harg6 arg7 harg7 arg8 harg8 arg9 harg9 arg10 harg10 v6624 v6625 v6626)
  let v6632 : Vec Ideal S64x64 .f32 ← Prog.lift (.load arg5 (Rect.unit (s := S64x64) ![0, 0] S64x64.size inb_S64x64_S64x64_0_0).toLoadRect (View.loadsAt_vmem h_S64x64))
  Prog.lift (.store arg5 (Rect.unit (s := S64x64) ![0, 0] S64x64.size inb_S64x64_S64x64_0_0) v6631_0 Finset.univ (View.stores_vmem_bits_univ h_S64x64 rfl) (.inl rfl))
  let v6633 : Vec Ideal S64x64 .i32 ← Prog.lift (.load arg6 (Rect.unit (s := S64x64) ![0, 0] S64x64.size inb_S64x64_S64x64_0_0).toLoadRect (View.loadsAt_vmem h_S64x64))
  Prog.lift (.store arg6 (Rect.unit (s := S64x64) ![0, 0] S64x64.size inb_S64x64_S64x64_0_0) v6631_1 Finset.univ (View.stores_vmem_bits_univ h_S64x64 rfl) (.inl rfl))
  pure ⟨⟩

set_option maxHeartbeats 0 in
/-- The table and the group minima that the first half leaves, and the minima as they are loaded. -/
noncomputable def phase1 (c : Dev nD) (i : grid0.Coords) (arg1 : Memref sig .tc .vmem S64x16 .f32) (harg1 : arg1.IsWhole) (arg2 : Memref sig .tc .vmem S16x100352 .f32) (harg2 : arg2.IsWhole) (arg3 : Memref sig .tc .vmem S16x16 .f32) (harg3 : arg3.IsWhole) (arg4 : Memref sig .tc .vmem S1x16 .f32) (harg4 : arg4.IsWhole) (arg5 : Memref sig .tc .vmem S64x64 .f32) (harg5 : arg5.IsWhole) (arg6 : Memref sig .tc .vmem S64x64 .i32) (harg6 : arg6.IsWhole) (arg7 : Memref sig .tc .vmem S784x64x128 .f32) (harg7 : arg7.IsWhole) (arg8 : Memref sig .tc .vmem S64x896 .f32) (harg8 : arg8.IsWhole) (arg9 : Memref sig .tc .vmem S64x128 .f32) (harg9 : arg9.IsWhole) (arg10 : Memref sig .tc .vmem S64x128 .f32) (harg10 : arg10.IsWhole)
    (f1 : Bf c arg1) (f2 : Bf c arg2) (f3 : Bf c arg3) (f4 : Bf c arg4) (f7 : Bf c arg7) (f8 : Bf c arg8) :
    { W : Bf c arg7 × Bf c arg8 × Vec Ideal S64x896 .f32 //
      ∀ (Q : PUnit → sProp 𝕄),
        iprop(pt c arg1 f1 ∗ pt c arg2 f2 ∗ pt c arg3 f3 ∗ pt c arg4 f4 ∗ pt c arg7 f7 ∗ pt c arg8 f8
          ∗ (iprop(pt c arg1 f1 ∗ pt c arg2 f2 ∗ pt c arg3 f3 ∗ pt c arg4 f4 ∗ pt c arg7 W.1 ∗ pt c arg8 W.2.1) -∗
            wp Idealize.ShloMosaic.frame (wpE (defs₀ (F := Ideal)) Variants.none c none) Set.univ
              (tail i arg1 harg1 arg2 harg2 arg3 harg3 arg4 harg4 arg5 harg5 arg6 harg6 arg7 harg7 arg8 harg8 arg9 harg9 arg10 harg10 (iota .tc S64x64 32 [1] iota_S64x64_d1_w32) (iota .tc S64x896 32 [1] iota_S64x896_d1_w32)
                (iota .tc S64x128 32 [1] iota_S64x128_d1_w32) W.2.2) Q))
        ⊢ wp Idealize.ShloMosaic.frame (wpE (defs₀ (F := Ideal)) Variants.none c none) Set.univ (cc0_body i arg1 harg1 arg2 harg2 arg3 harg3 arg4 harg4 arg5 harg5 arg6 harg6 arg7 harg7 arg8 harg8 arg9 harg9 arg10 harg10) Q } := by
  refine ⟨⟨?_, ?_, ?_⟩, fun Q => ?run⟩
  case run =>
    rw [cc0_body_eq_skeleton]; unfold cc0_body_skel tail
    dsimp only
    iintro ⟨H1, H2, H3, H4, H7, H8, Hk⟩
    sl_exec_parts
    iapply Hk
    isplitl [H1]; · iexact H1
    isplitl [H2]; · iexact H2
    isplitl [H3]; · iexact H3
    isplitl [H4]; · iexact H4
    isplitl [H7]; · iexact H7
    iexact H8

end Cert.Proof
-- ==== Proof.Phase1Value.lean ====
/-
  What the first half of the body leaves: the distances, laid out group by group, and the least of every group.
-/
module

public import proofs.«01_k».proof.Proof.Pieces
public import proofs.«01_k».proof.Proof.TripStep
public import proofs.«01_k».proof.Proof.Phase1
import all proofs.«01_k».proof.Proof.Phase1

@[expose] public section

noncomputable section

namespace Cert.Proof

open Cert.KernelIdeal Cert.KernelIdeal.Gen
open Idealize.ShloMosaic Idealize.ShloMosaic.TcCoe Idealize.SL.Sem

section
variable (c : Dev nD) (arg1 : Memref sig .tc .vmem S64x16 .f32) (arg2 : Memref sig .tc .vmem S16x100352 .f32) (arg3 : Memref sig .tc .vmem S16x16 .f32)
  (arg4 : Memref sig .tc .vmem S1x16 .f32) (arg7 : Memref sig .tc .vmem S784x64x128 .f32) (arg8 : Memref sig .tc .vmem S64x896 .f32)
  (f1 : Bf c arg1) (f2 : Bf c arg2) (f3 : Bf c arg3) (f4 : Bf c arg4)

/-- The distances of the block whose inputs the four buffers hold. -/
abbrev blockDist : Fin 64 → ℕ → EReal :=
  distN (arg1.view.read (Elt Ideal) f1) (arg2.view.read (Elt Ideal) f2) (arg3.view.read (Elt Ideal) f3) (arg4.view.read (Elt Ideal) f4)

/-- A load of a whole buffer reads its contents. -/
theorem whole_read {S : Shape} {e : EltTy} (v : View sig .tc .vmem S e) (f : v.ty.Contents (Elt Ideal)) (o : Fin S.rank → ℕ) (ho : ∀ a, o a = 0)
    (inb : ∀ a, o a + S.size a ≤ S.size a) :
    View.readAt (Elt Ideal) v (Rect.unit o S.size inb).toLoadRect f = v.read (Elt Ideal) f := by
  funext y
  rw [View.readAt_apply]
  congr 1
  funext a
  refine Fin.ext ?_
  show o a + 1 * (y a).val = (y a).val
  rw [ho]; omega

/-- What the body computes first of the loaded blocks: the projected queries. -/
theorem qp_ok (q : Fin 64) (e : Fin 16) : phase1.sl.r c arg1 arg3 arg4 f1 f3 f4 (ix2 q e)
    = proj (arg1.view.read (Elt Ideal) f1) (arg3.view.read (Elt Ideal) f3) (arg4.view.read (Elt Ideal) f4) q e := by
  unfold phase1.sl.r
  rw [whole_read _ _ _ (by intro a; fin_cases a <;> rfl), whole_read _ _ _ (by intro a; fin_cases a <;> rfl), whole_read _ _ _ (by intro a; fin_cases a <;> rfl)]
  exact proj_apply _ _ _ q e

/-- What it computes next: their squared norms. -/
theorem qsq_ok (q : Fin 64) : phase1.sl.r_1 c arg1 arg3 arg4 f1 f3 f4 (ix2 q 0)
    = ∑ e : Fin 16, proj (arg1.view.read (Elt Ideal) f1) (arg3.view.read (Elt Ideal) f3) (arg4.view.read (Elt Ideal) f4) q e
        * proj (arg1.view.read (Elt Ideal) f1) (arg3.view.read (Elt Ideal) f3) (arg4.view.read (Elt Ideal) f4) q e := by
  unfold phase1.sl.r_1
  rw [whole_read _ _ _ (by intro a; fin_cases a <;> rfl), whole_read _ _ _ (by intro a; fin_cases a <;> rfl), whole_read _ _ _ (by intro a; fin_cases a <;> rfl)]
  exact norm_apply _ _ _ q

set_option maxRecDepth 100000 in
set_option maxHeartbeats 0 in
/-- The table's stores lay the distances of every group. -/
theorem table_groups : GroupsUpTo (blockDist c arg1 arg2 arg3 arg4 f1 f2 f3 f4) 784 (phase1.sl.H7_784 c arg1 arg2 arg3 arg4 f1 f2 f3 f4) := by
  iterate 784 refine groupsUpTo_cons (qp_ok c arg1 arg3 arg4 f1 f3 f4) (qsq_ok c arg1 arg3 arg4 f1 f3 f4) rfl (by first | exact shut_zero | exact shut_mul _ _) (hsl := by decide) (by decide) rfl ?_
  exact groupsUpTo_nil _

set_option maxRecDepth 100000 in
set_option maxHeartbeats 0 in
/-- The stores beside it lay the least of every group. -/
theorem table_minima : MinimaUpTo (blockDist c arg1 arg2 arg3 arg4 f1 f2 f3 f4) 49 (phase1.sl.H8_50 c arg1 arg2 arg3 arg4 f1 f2 f3 f4) := by
  iterate 49 refine minimaUpTo_cons (qp_ok c arg1 arg3 arg4 f1 f3 f4) (qsq_ok c arg1 arg3 arg4 f1 f3 f4) rfl (by first | exact shut_zero | exact shut_mul _ _) rfl rfl (by decide) ?_
  exact minimaUpTo_mark _ _

/-- The table's entries. -/
theorem phase1_table (i : grid0.Coords) (harg1 : arg1.IsWhole) (harg2 : arg2.IsWhole) (harg3 : arg3.IsWhole) (harg4 : arg4.IsWhole)
    (arg5 : Memref sig .tc .vmem S64x64 .f32) (harg5 : arg5.IsWhole) (arg6 : Memref sig .tc .vmem S64x64 .i32) (harg6 : arg6.IsWhole)
    (harg7 : arg7.IsWhole) (harg8 : arg8.IsWhole) (arg9 : Memref sig .tc .vmem S64x128 .f32) (harg9 : arg9.IsWhole)
    (arg10 : Memref sig .tc .vmem S64x128 .f32) (harg10 : arg10.IsWhole) (f7 : Bf c arg7) (f8 : Bf c arg8)
    (g : Fin 784) (q : Fin 64) (l : Fin 128) :
    arg7.view.read (Elt Ideal) (phase1 c i arg1 harg1 arg2 harg2 arg3 harg3 arg4 harg4 arg5 harg5 arg6 harg6 arg7 harg7 arg8 harg8 arg9 harg9 arg10 harg10 f1 f2 f3 f4 f7 f8).1.1 (ix3 g q l)
      = blockDist c arg1 arg2 arg3 arg4 f1 f2 f3 f4 q (g.val * 128 + l.val) := by
  rw [← table_groups c arg1 arg2 arg3 arg4 f1 f2 f3 f4 g q l g.isLt]
  exact View.read_writes_junk_apply_eq_canon arg7.view _ _

/-- The minima as they are loaded. -/
theorem phase1_minima (i : grid0.Coords) (harg1 : arg1.IsWhole) (harg2 : arg2.IsWhole) (harg3 : arg3.IsWhole) (harg4 : arg4.IsWhole)
    (arg5 : Memref sig .tc .vmem S64x64 .f32) (harg5 : arg5.IsWhole) (arg6 : Memref sig .tc .vmem S64x64 .i32) (harg6 : arg6.IsWhole)
    (harg7 : arg7.IsWhole) (harg8 : arg8.IsWhole) (arg9 : Memref sig .tc .vmem S64x128 .f32) (harg9 : arg9.IsWhole)
    (arg10 : Memref sig .tc .vmem S64x128 .f32) (harg10 : arg10.IsWhole) (f7 : Bf c arg7) (f8 : Bf c arg8)
    (q : Fin 64) (l : Fin 896) :
    (phase1 c i arg1 harg1 arg2 harg2 arg3 harg3 arg4 harg4 arg5 harg5 arg6 harg6 arg7 harg7 arg8 harg8 arg9 harg9 arg10 harg10 f1 f2 f3 f4 f7 f8).1.2.2 (ix2 q l)
      = if l.val < 784 then leastOf (blockDist c arg1 arg2 arg3 arg4 f1 f2 f3 f4) q l.val else Big := by
  have h := table_minima c arg1 arg2 arg3 arg4 f1 f2 f3 f4 q l
  have e : (phase1 c i arg1 harg1 arg2 harg2 arg3 harg3 arg4 harg4 arg5 harg5 arg6 harg6 arg7 harg7 arg8 harg8 arg9 harg9 arg10 harg10 f1 f2 f3 f4 f7 f8).1.2.2 (ix2 q l)
      = View.canon (phase1.sl.H8_50 c arg1 arg2 arg3 arg4 f1 f2 f3 f4) (ix2 q l) := by
    show phase1.sl.v6629 c arg1 arg2 arg3 arg4 arg8 f1 f2 f3 f4 (ix2 q l) = _
    unfold phase1.sl.v6629
    rw [View.readCov_eq_canon']
    show View.canon _ _ = _
    congr 1
    funext a
    refine Fin.ext ?_
    fin_cases a
    · show 0 + 1 * q.val = q.val; omega
    · show 0 + 1 * l.val = l.val; omega
  rw [e]
  split
  · exact h.1 (by omega)
  · exact h.2 (by omega)

/-- After the first half every row is as it should be before the first trip. -/
theorem phase1_rowDone (i : grid0.Coords) (harg1 : arg1.IsWhole) (harg2 : arg2.IsWhole) (harg3 : arg3.IsWhole) (harg4 : arg4.IsWhole)
    (arg5 : Memref sig .tc .vmem S64x64 .f32) (harg5 : arg5.IsWhole) (arg6 : Memref sig .tc .vmem S64x64 .i32) (harg6 : arg6.IsWhole)
    (harg7 : arg7.IsWhole) (harg8 : arg8.IsWhole) (arg9 : Memref sig .tc .vmem S64x128 .f32) (harg9 : arg9.IsWhole)
    (arg10 : Memref sig .tc .vmem S64x128 .f32) (harg10 : arg10.IsWhole) (f7 : Bf c arg7) (f8 : Bf c arg8)
    (q : Fin 64) :
    RowDone (blockDist c arg1 arg2 arg3 arg4 f1 f2 f3 f4 q) 0 q
      (arg7.view.read (Elt Ideal) (phase1 c i arg1 harg1 arg2 harg2 arg3 harg3 arg4 harg4 arg5 harg5 arg6 harg6 arg7 harg7 arg8 harg8 arg9 harg9 arg10 harg10 f1 f2 f3 f4 f7 f8).1.1)
      (k0_pay2 (F := Ideal)) k0_pay3 (phase1 c i arg1 harg1 arg2 harg2 arg3 harg3 arg4 harg4 arg5 harg5 arg6 harg6 arg7 harg7 arg8 harg8 arg9 harg9 arg10 harg10 f1 f2 f3 f4 f7 f8).1.2.2 := by
  set D := blockDist c arg1 arg2 arg3 arg4 f1 f2 f3 f4 q with hD
  have least : ∀ g, ∃ p, IsMin 128 (fun l => D (g * 128 + l)) p ∧ leastOf (blockDist c arg1 arg2 arg3 arg4 f1 f2 f3 f4) q g = D (g * 128 + p) :=
    fun g => ⟨_, amin_spec (by decide : 0 < 128) _, fold_min_eq (F := fun l => D (g * 128 + l)) (amin_spec (by decide : 0 < 128) _) fun l => rfl⟩
  refine ⟨fun g l => phase1_table c arg1 arg2 arg3 arg4 arg7 arg8 f1 f2 f3 f4 i harg1 harg2 harg3 harg4 arg5 harg5 arg6 harg6 harg7 harg8 arg9 harg9 arg10 harg10 f7 f8 g q l,
    ⟨fun g => if g < 784 then leastOf (blockDist c arg1 arg2 arg3 arg4 f1 f2 f3 f4) q g else Big, ⟨?_, ?_, ?_⟩,
      fun l => phase1_minima c arg1 arg2 arg3 arg4 arg7 arg8 f1 f2 f3 f4 i harg1 harg2 harg3 harg4 arg5 harg5 arg6 harg6 harg7 harg8 arg9 harg9 arg10 harg10 f7 f8 q l⟩,
    fun l _ => ?_, fun l _ => rfl, fun l hl => absurd hl (Nat.not_lt_zero _), fun l hl => absurd hl (Nat.not_lt_zero _)⟩
  · intro g hg
    obtain ⟨p, hp, e⟩ := least g
    exact ⟨p, hp.lt, by simp only [if_pos hg, e]; rfl⟩
  · intro g hg l hl
    obtain ⟨p, hp, e⟩ := least g
    simp only [if_pos hg, e]
    exact hp.le l hl
  · intro g hg _
    simp only [if_neg (by omega : ¬ g < 784)]
  · unfold k0_pay2
    pointwise
end

end Cert.Proof
-- ==== Proof.Body.lean ====
/-
  The body of the kernel on one block: the 25 trips carry every row from its distances to its 50 nearest contexts, and the
  two accumulators are stored.
-/
module

public import proofs.«01_k».proof.Proof.Phase1Value
public import proofs.«01_k».proof.Proof.Gen.KernelIdeal.Loops
public import Idealize.ShloMosaic.Lib.Tactic

@[expose] public section

noncomputable section

namespace Cert.Proof

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig Unit (Elt Ideal) ℕ (UR sig nD τ) ℕ

/-- The distances a block's accumulator ends with. -/
def outD (D : Fin 64 → ℕ → EReal) : S64x64.Idx → EReal := fun j =>
  if (j 1).val < 50 then tab 100352 Big (D (j 0)) (j 1).val (pick 100352 Big (D (j 0)) (j 1).val) else 0

/-- The positions it ends with. -/
def outI (D : Fin 64 → ℕ → EReal) : S64x64.Idx → BitVec 32 := fun j =>
  if (j 1).val < 50 then BitVec.ofNat 32 (pick 100352 Big (D (j 0)) (j 1).val) else 0#32

/-- A store that covers a buffer is what the buffer then reads. -/
theorem whole_write {S : Shape} {e : EltTy} (v : View sig .tc .vmem S e) (f : v.ty.Contents (Elt Ideal)) (o : Fin S.rank → ℕ) (ho : o = fun _ => 0)
    (inb : ∀ a, o a + S.size a ≤ S.size a) (x : S.Idx → Elt Ideal e) :
    v.read (Elt Ideal) (v.writes (Elt Ideal) f [⟨Rect.unit o S.size inb, x⟩]) = x := by
  subst ho
  exact View.read_writes_whole v f x

section
variable (c : Dev nD) (i : grid0.Coords) (arg1 : Memref sig .tc .vmem S64x16 .f32) (harg1 : arg1.IsWhole) (arg2 : Memref sig .tc .vmem S16x100352 .f32) (harg2 : arg2.IsWhole) (arg3 : Memref sig .tc .vmem S16x16 .f32) (harg3 : arg3.IsWhole) (arg4 : Memref sig .tc .vmem S1x16 .f32) (harg4 : arg4.IsWhole) (arg5 : Memref sig .tc .vmem S64x64 .f32) (harg5 : arg5.IsWhole) (arg6 : Memref sig .tc .vmem S64x64 .i32) (harg6 : arg6.IsWhole) (arg7 : Memref sig .tc .vmem S784x64x128 .f32) (harg7 : arg7.IsWhole) (arg8 : Memref sig .tc .vmem S64x896 .f32) (harg8 : arg8.IsWhole) (arg9 : Memref sig .tc .vmem S64x128 .f32) (harg9 : arg9.IsWhole) (arg10 : Memref sig .tc .vmem S64x128 .f32) (harg10 : arg10.IsWhole)

/-- Before trip `k` every row is as it should be after `k` trips. -/
def tripInv (D : Fin 64 → ℕ → EReal) (k : ℕ) (acc : FVec Ideal S64x64 .f32 × IVec S64x64 32 × Vec Ideal S64x896 .f32) : sProp 𝕄 :=
  iprop(∃ f7, pt c arg7 f7 ∗ (∃ f, pt c arg9 f) ∗ (∃ f, pt c arg10 f)
    ∗ ⌜∀ q, RowDone (D q) k q (arg7.view.read (Elt Ideal) f7) acc.1 acc.2.1 acc.2.2⌝)

/-- There are 25 trips. -/
theorem trips_eq : k0_t1_loop.trips = 25 := by decide

set_option warn.classDefReducibility false in
/-- The loop with its invariant. -/
def tripLoop (D : Fin 64 → ℕ → EReal) (hB : ∀ q, ∀ n < 100352, D q n < Big)
    (init : FVec Ideal S64x64 .f32 × IVec S64x64 32 × Vec Ideal S64x896 .f32) :
    LoopInvTy_k0_t1 (F := Ideal) Unit ℕ (UR sig nD τ) ℕ Variants.none c none Set.univ i arg1 harg1 arg2 harg2 arg3 harg3 arg4 harg4 arg5 harg5 arg6 harg6 arg7 harg7 arg8 harg8 arg9 harg9 arg10 harg10 lanesO lanesM lanes init where
  inv k acc := tripInv c arg7 arg9 arg10 D k acc
  step k acc := by
    obtain ⟨od, oi, mb⟩ := acc
    unfold tripInv
    iintro ⟨%f7, H7, ⟨%f9, H9⟩, ⟨%f10, H10⟩, %h⟩
    have hk : k.val < 25 := Nat.lt_of_lt_of_eq k.isLt trips_eq
    have hw1 : ∀ j, (k0_pay7 lanesM mb j).toNat < 784 := fun j => by rw [ix2_col j]; exact (h _).word1 hk (hB _)
    have hw2 : ∀ j, (k0_pay10 lanesM mb j).toNat < 784 := fun j => by rw [ix2_col j]; exact (h _).word2 hk (hB _)
    iapply ((trip c i arg1 harg1 arg2 harg2 arg3 harg3 arg4 harg4 arg5 harg5 arg6 harg6 arg7 harg7 arg8 harg8 arg9 harg9 arg10 harg10 lanesO lanesM lanes k od oi mb f7 hw1 hw2).2 f9 f10 _)
    isplitl [H7]; · iexact H7
    isplitl [H9]; · iexact H9
    isplitl [H10]; · iexact H10
    iintro ⟨H7, H9, H10⟩
    iexists _
    isplitl [H7]; · iexact H7
    isplitl [H9]; · iexact H9
    isplitl [H10]; · iexact H10
    ipureintro
    exact fun q => trip_row c i arg1 harg1 arg2 harg2 arg3 harg3 arg4 harg4 arg5 harg5 arg6 harg6 arg7 harg7 arg8 harg8 arg9 harg9 arg10 harg10 k od oi mb f7 hk (hB q) (h q) hw1 hw2

/-- The loop from the invariant, whatever comes after it. -/
theorem loop_run (D : Fin 64 → ℕ → EReal) (hB : ∀ q, ∀ n < 100352, D q n < Big)
    (init : FVec Ideal S64x64 .f32 × IVec S64x64 32 × Vec Ideal S64x896 .f32)
    (kk : FVec Ideal S64x64 .f32 × IVec S64x64 32 × Vec Ideal S64x896 .f32 → Prog (TpuEff nD τ sig (Elt Ideal) Λ₀ .tc) PUnit) (Q : PUnit → sProp 𝕄) :
    iprop(tripInv c arg7 arg9 arg10 D 0 init
        ∗ (∀ acc, tripInv c arg7 arg9 arg10 D k0_t1_loop.trips acc -∗
          wp Idealize.ShloMosaic.frame (wpE (defs₀ (F := Ideal)) Variants.none c none) Set.univ (kk acc) Q))
      ⊢ wp Idealize.ShloMosaic.frame (wpE (defs₀ (F := Ideal)) Variants.none c none) Set.univ
          (Scf.Loop.for k0_t1_loop k0_t1_ok init (k0_t1_body i arg1 harg1 arg2 harg2 arg3 harg3 arg4 harg4 arg5 harg5 arg6 harg6 arg7 harg7 arg8 harg8 arg9 harg9 arg10 harg10 lanesO lanesM lanes) >>= kk) Q :=
  BIClass.wand_elim (exec_loop _ _ _ _ _ _ _ _ _ (tripLoop c i arg1 harg1 arg2 harg2 arg3 harg3 arg4 harg4 arg5 harg5 arg6 harg6 arg7 harg7 arg8 harg8 arg9 harg9 arg10 harg10 D hB init))

/-- What the accumulators hold after the last trip. -/
theorem out_of_done {D : Fin 64 → ℕ → EReal} {tb : S784x64x128.Idx → EReal} {od : S64x64.Idx → EReal}
    {oi : S64x64.Idx → BitVec 32} {mb : S64x896.Idx → EReal} (h : ∀ q, RowDone (D q) 25 q tb od oi mb) :
    od = outD D ∧ oi = outI D := by
  refine ⟨funext fun j => ?_, funext fun j => ?_⟩
  · obtain ⟨q, l, rfl⟩ : ∃ q l, j = ix2 q l := ⟨j 0, j 1, by funext a; fin_cases a <;> rfl⟩
    show _ = ite (l.val < 50) _ _
    split
    · exact (h q).od l (by omega)
    · exact (h q).od_rest l (by omega)
  · obtain ⟨q, l, rfl⟩ : ∃ q l, j = ix2 q l := ⟨j 0, j 1, by funext a; fin_cases a <;> rfl⟩
    show _ = ite (l.val < 50) _ _
    split
    · exact (h q).oi l (by omega)
    · exact (h q).oi_rest l (by omega)

/-- The trips and the two stores, run from the invariant. -/
theorem tail_run (D : Fin 64 → ℕ → EReal) (hB : ∀ q, ∀ n < 100352, D q n < Big) (mb : Vec Ideal S64x896 .f32) (f5 : Bf c arg5)
    (f6 : Bf c arg6) (Q : PUnit → sProp 𝕄) :
    iprop(tripInv c arg7 arg9 arg10 D 0 (k0_pay2 (F := Ideal), k0_pay3, mb) ∗ pt c arg5 f5 ∗ pt c arg6 f6
        ∗ (iprop((∃ f, ⌜arg5.view.read (Elt Ideal) f = outD D⌝ ∗ pt c arg5 f)
            ∗ (∃ f, ⌜arg6.view.read (Elt Ideal) f = outI D⌝ ∗ pt c arg6 f)
            ∗ (∃ f, pt c arg7 f) ∗ (∃ f, pt c arg9 f) ∗ (∃ f, pt c arg10 f)) -∗ Q ⟨⟩))
      ⊢ wp Idealize.ShloMosaic.frame (wpE (defs₀ (F := Ideal)) Variants.none c none) Set.univ
          (tail i arg1 harg1 arg2 harg2 arg3 harg3 arg4 harg4 arg5 harg5 arg6 harg6 arg7 harg7 arg8 harg8 arg9 harg9 arg10 harg10 lanesO lanesM lanes mb) Q := by
  unfold tail
  iintro ⟨HI, H5, H6, Hk⟩
  iapply (loop_run c i arg1 harg1 arg2 harg2 arg3 harg3 arg4 harg4 arg5 harg5 arg6 harg6 arg7 harg7 arg8 harg8 arg9 harg9 arg10 harg10 D hB _ _ Q)
  isplitl [HI]; · iexact HI
  iintro %acc HI
  obtain ⟨od, oi, mb'⟩ := acc
  unfold tripInv
  icases HI with ⟨%f7, H7, H9, H10, %h⟩
  obtain ⟨rfl, rfl⟩ := out_of_done (trips_eq ▸ h)
  dsimp only
  sl_exec
  rw [wp_ret]
  imodintro
  iapply Hk
  isplitl [H5]
  · iexists _; isplitr; swap; (· iexact H5); ipureintro
    exact whole_write _ _ _ (by funext a; fin_cases a <;> rfl) _ _
  isplitl [H6]
  · iexists _; isplitr; swap; (· iexact H6); ipureintro
    exact whole_write _ _ _ (by funext a; fin_cases a <;> rfl) _ _
  isplitl [H7]; · iexists _; iexact H7
  isplitl [H9]; · iexact H9
  iexact H10

/-- The body, run on whole buffers: where all the block's distances are below the mark, it leaves its inputs and stores
    the 50 nearest. -/
theorem body_run (f1 : Bf c arg1) (f2 : Bf c arg2) (f3 : Bf c arg3) (f4 : Bf c arg4) (f5 : Bf c arg5) (f6 : Bf c arg6) (f7 : Bf c arg7)
    (f8 : Bf c arg8) (f9 : Bf c arg9) (f10 : Bf c arg10)
    (hB : ∀ q, ∀ n < 100352, blockDist c arg1 arg2 arg3 arg4 f1 f2 f3 f4 q n < Big) (Q : PUnit → sProp 𝕄) :
    iprop(pt c arg1 f1 ∗ pt c arg2 f2 ∗ pt c arg3 f3 ∗ pt c arg4 f4 ∗ pt c arg5 f5 ∗ pt c arg6 f6 ∗ pt c arg7 f7 ∗ pt c arg8 f8
        ∗ pt c arg9 f9 ∗ pt c arg10 f10
        ∗ (iprop(pt c arg1 f1 ∗ pt c arg2 f2 ∗ pt c arg3 f3 ∗ pt c arg4 f4
            ∗ (∃ f, ⌜arg5.view.read (Elt Ideal) f = outD (blockDist c arg1 arg2 arg3 arg4 f1 f2 f3 f4)⌝ ∗ pt c arg5 f)
            ∗ (∃ f, ⌜arg6.view.read (Elt Ideal) f = outI (blockDist c arg1 arg2 arg3 arg4 f1 f2 f3 f4)⌝ ∗ pt c arg6 f)
            ∗ (∃ f, pt c arg7 f) ∗ (∃ f, pt c arg8 f) ∗ (∃ f, pt c arg9 f) ∗ (∃ f, pt c arg10 f)) -∗ Q ⟨⟩))
      ⊢ wp Idealize.ShloMosaic.frame (wpE (defs₀ (F := Ideal)) Variants.none c none) Set.univ
          (cc0_body i arg1 harg1 arg2 harg2 arg3 harg3 arg4 harg4 arg5 harg5 arg6 harg6 arg7 harg7 arg8 harg8 arg9 harg9 arg10 harg10) Q := by
  have h0 := fun q => phase1_rowDone c arg1 arg2 arg3 arg4 arg7 arg8 f1 f2 f3 f4 i harg1 harg2 harg3 harg4 arg5 harg5 arg6 harg6 harg7 harg8 arg9 harg9 arg10 harg10 f7 f8 q
  have run := (phase1 c i arg1 harg1 arg2 harg2 arg3 harg3 arg4 harg4 arg5 harg5 arg6 harg6 arg7 harg7 arg8 harg8 arg9 harg9 arg10 harg10 f1 f2 f3 f4 f7 f8).2 Q
  iintro ⟨H1, H2, H3, H4, H5, H6, H7, H8, H9, H10, Hk⟩
  iapply run
  isplitl [H1]; · iexact H1
  isplitl [H2]; · iexact H2
  isplitl [H3]; · iexact H3
  isplitl [H4]; · iexact H4
  isplitl [H7]; · iexact H7
  isplitl [H8]; · iexact H8
  iintro ⟨H1, H2, H3, H4, H7, H8⟩
  iapply (tail_run c i arg1 harg1 arg2 harg2 arg3 harg3 arg4 harg4 arg5 harg5 arg6 harg6 arg7 harg7 arg8 harg8 arg9 harg9 arg10 harg10 _ hB _ f5 f6 Q)
  isplitl [H7 H9 H10]
  · unfold tripInv
    iexists _
    isplitl [H7]; · iexact H7
    isplitl [H9]; · iexists _; iexact H9
    isplitl [H10]; · iexists _; iexact H10
    ipureintro
    exact h0
  isplitl [H5]; · iexact H5
  isplitl [H6]; · iexact H6
  iintro ⟨H5, H6, H7, H9, H10⟩
  iapply Hk
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexact H9
  iexact H10

end

end Cert.Proof
-- ==== Proof.Run.lean ====
/-
  The run of the kernel: the pipeline's proof data, the body obligation at every point of the grid, and the launch. What
  every block ends with is named; what it means is for other modules.
-/
module

public import proofs.«01_k».proof.Proof.Body
public import proofs.«01_k».proof.Proof.Gen.KernelIdeal.Frame
public import Idealize.ShloMosaic.Lib.Quiescent

@[expose] public section

noncomputable section

namespace Cert.Proof

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- The distances of the 64 queries of block `t`. -/
def blockD (c : Dev nD) (t : Fin cfg0.N) : Fin 64 → ℕ → EReal :=
  distN (iblk m c 0 t) (iblk m c 1 t) (iblk m c 2 t) (iblk m c 3 t)

/-- The pipeline's proof data: the arrays as the region finds them; after the body the inputs' buffers at their blocks and
    the results' at the block's nearest; nothing kept between points but the scratch at some contents. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outD (blockD m c t)
    | ⟨5, _⟩ => outI (blockD m c t)
  Φ _ := Pipeline.ΦA spec0 c
  q _ := fullShare
  owed _ := 0

/-- The proof data's arrays are those that the region finds. -/
theorem A_eq (c : Dev nD) (w : Fin cfg0.W) : (dats m 0 c).A w = V m c (Pipeline.arrRef spec0 w) := rfl
/-- After the body the first input's buffer holds its block. -/
theorem after0 (c : Dev nD) (t : Fin cfg0.N) : (dats m 0 c).after 0 t = iblk m c 0 t := by dsimp only [dats]
/-- The same of the second input. -/
theorem after1 (c : Dev nD) (t : Fin cfg0.N) : (dats m 0 c).after 1 t = iblk m c 1 t := by dsimp only [dats]
/-- The same of the third input. -/
theorem after2 (c : Dev nD) (t : Fin cfg0.N) : (dats m 0 c).after 2 t = iblk m c 2 t := by dsimp only [dats]
/-- The same of the fourth input. -/
theorem after3 (c : Dev nD) (t : Fin cfg0.N) : (dats m 0 c).after 3 t = iblk m c 3 t := by dsimp only [dats]
/-- After the body the first result's buffer holds the distances of the block's nearest. -/
theorem after4 (c : Dev nD) (t : Fin cfg0.N) : (dats m 0 c).after 4 t = outD (blockD m c t) := by dsimp only [dats]
/-- After the body the second result's buffer holds their numbers. -/
theorem after5 (c : Dev nD) (t : Fin cfg0.N) : (dats m 0 c).after 5 t = outI (blockD m c t) := by dsimp only [dats]

/-- An input's staging buffer holds its block when the body runs. -/
theorem before0 (c : Dev nD) (t : Fin cfg0.N) (d) : (dats m 0 c).before 0 t d = iblk m c 0 t :=
  before0_0_of m (dats m 0 c) (A_eq m c 0) (after0 m c) t d
/-- The same of the second input. -/
theorem before1 (c : Dev nD) (t : Fin cfg0.N) (d) : (dats m 0 c).before 1 t d = iblk m c 1 t :=
  before0_1_of m (dats m 0 c) (A_eq m c 1) (after1 m c) t d
/-- The same of the third input. -/
theorem before2 (c : Dev nD) (t : Fin cfg0.N) (d) : (dats m 0 c).before 2 t d = iblk m c 2 t :=
  before0_2_of m (dats m 0 c) (A_eq m c 2) (after2 m c) t d
/-- The same of the fourth input. -/
theorem before3 (c : Dev nD) (t : Fin cfg0.N) (d) : (dats m 0 c).before 3 t d = iblk m c 3 t :=
  before0_3_of m (dats m 0 c) (A_eq m c 3) (after3 m c) t d

/-- What a whole buffer owns. -/
theorem owns_eq (c : Dev nD) {sp : Space} {S : Shape} {e : EltTy} (M : Memref sig .tc sp S e) (h : M.IsWhole) (x : S.Idx → Elt Ideal e) :
    (owns (c : Thread nD τ) M fullShare x : sProp 𝕄) = iprop(∃ f : Bf c M, ⌜M.view.read (Elt Ideal) f = x⌝ ∗ pt c M f) := by
  unfold owns
  rw [h.set_eq_univ]

section
variable (c : Dev nD) (i : grid0.Coords) (arg1 : Memref sig .tc .vmem S64x16 .f32) (harg1 : arg1.IsWhole) (arg2 : Memref sig .tc .vmem S16x100352 .f32) (harg2 : arg2.IsWhole) (arg3 : Memref sig .tc .vmem S16x16 .f32) (harg3 : arg3.IsWhole) (arg4 : Memref sig .tc .vmem S1x16 .f32) (harg4 : arg4.IsWhole) (arg5 : Memref sig .tc .vmem S64x64 .f32) (harg5 : arg5.IsWhole) (arg6 : Memref sig .tc .vmem S64x64 .i32) (harg6 : arg6.IsWhole) (arg7 : Memref sig .tc .vmem S784x64x128 .f32) (harg7 : arg7.IsWhole) (arg8 : Memref sig .tc .vmem S64x896 .f32) (harg8 : arg8.IsWhole) (arg9 : Memref sig .tc .vmem S64x128 .f32) (harg9 : arg9.IsWhole) (arg10 : Memref sig .tc .vmem S64x128 .f32) (harg10 : arg10.IsWhole)

/-- The body's run, by what its windows hold. -/
theorem body_owns (x1 : S64x16.Idx → EReal) (x2 : S16x100352.Idx → EReal) (x3 : S16x16.Idx → EReal) (x4 : S1x16.Idx → EReal)
    (hB : ∀ q, ∀ n < 100352, distN x1 x2 x3 x4 q n < Big) (Q : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4
        ∗ (∃ d, owns (c : Thread nD τ) arg5 fullShare d) ∗ (∃ d, owns (c : Thread nD τ) arg6 fullShare d)
        ∗ (∃ f, pt c arg7 f) ∗ (∃ f, pt c arg8 f) ∗ (∃ f, pt c arg9 f) ∗ (∃ f, pt c arg10 f)
        ∗ (iprop(owns (c : Thread nD τ) arg1 fullShare x1 ∗ owns (c : Thread nD τ) arg2 fullShare x2 ∗ owns (c : Thread nD τ) arg3 fullShare x3 ∗ owns (c : Thread nD τ) arg4 fullShare x4
            ∗ owns (c : Thread nD τ) arg5 fullShare (outD (distN x1 x2 x3 x4)) ∗ owns (c : Thread nD τ) arg6 fullShare (outI (distN x1 x2 x3 x4))
            ∗ (∃ f, pt c arg7 f) ∗ (∃ f, pt c arg8 f) ∗ (∃ f, pt c arg9 f) ∗ (∃ f, pt c arg10 f)) -∗ Q ⟨⟩))
      ⊢ wp Idealize.ShloMosaic.frame (wpE (defs₀ (F := Ideal)) Variants.none c none) Set.univ
          (cc0_body i arg1 harg1 arg2 harg2 arg3 harg3 arg4 harg4 arg5 harg5 arg6 harg6 arg7 harg7 arg8 harg8 arg9 harg9 arg10 harg10) Q := by
  simp only [owns_eq c arg1 harg1, owns_eq c arg2 harg2, owns_eq c arg3 harg3, owns_eq c arg4 harg4, owns_eq c arg5 harg5, owns_eq c arg6 harg6]
  iintro ⟨⟨%f1, %h1, H1⟩, ⟨%f2, %h2, H2⟩, ⟨%f3, %h3, H3⟩, ⟨%f4, %h4, H4⟩, ⟨%d5, %f5, -, H5⟩, ⟨%d6, %f6, -, H6⟩, ⟨%f7, H7⟩, ⟨%f8, H8⟩, ⟨%f9, H9⟩, ⟨%f10, H10⟩, Hk⟩
  subst h1 h2 h3 h4
  iapply (body_run c i arg1 harg1 arg2 harg2 arg3 harg3 arg4 harg4 arg5 harg5 arg6 harg6 arg7 harg7 arg8 harg8 arg9 harg9 arg10 harg10 f1 f2 f3 f4 f5 f6 f7 f8 f9 f10 hB Q)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iintro ⟨H1, H2, H3, H4, H5, H6, H7, H8, H9, H10⟩
  iapply Hk
  isplitl [H1]; · iexists _; isplitr; swap; (· iexact H1); ipureintro; rfl
  isplitl [H2]; · iexists _; isplitr; swap; (· iexact H2); ipureintro; rfl
  isplitl [H3]; · iexists _; isplitr; swap; (· iexact H3); ipureintro; rfl
  isplitl [H4]; · iexists _; isplitr; swap; (· iexact H4); ipureintro; rfl
  isplitl [H5]; · iexact H5
  isplitl [H6]; · iexact H6
  isplitl [H7]; · iexact H7
  isplitl [H8]; · iexact H8
  isplitl [H9]; · iexact H9
  iexact H10

end

/-- The body obligation, where every distance is below the mark. -/
theorem body_obligation (c : Dev nD) (hB : ∀ t q, ∀ n < 100352, blockD m c t q n < Big) :
    BodyObligation (dats m 0 c) (defs₀ (F := Ideal)) Variants.none () Set.univ := fun t => by
  rw [bigSep_W0, bigSep_W0]
  sl_whnfR [defs₀, Defs.onTc]
  simp only [before0, before1, before2, before3]
  rw [show (dats m 0 c).Φ t.succ = (dats m 0 c).Φ t.castSucc from rfl,
    show (dats m 0 c).owesAt () t.succ = (dats m 0 c).owesAt () t.castSucc from rfl, after0, after1, after2, after3, after4, after5]
  rw [show (dats m 0 c).Φ t.castSucc = Pipeline.ΦA spec0 c from rfl]
  unfold Pipeline.ΦA
  rw [scopedRest0_eq]
  iintro ⟨⟨⟨H7, H8, H9, H10⟩, Hg⟩, Ho, ⟨%d0, H0⟩, ⟨%d1, H1⟩, ⟨%d2, H2⟩, ⟨%d3, H3⟩, ⟨%d4, H4⟩, ⟨%d5, H5⟩⟩
  iapply (body_owns c _ _ _ _ _ _ _ _ _ _ _ _ _ _ _ _ _ _ _ _ _ (iblk m c 0 t) (iblk m c 1 t) (iblk m c 2 t) (iblk m c 3 t) (hB t) _)
  isplitl [H0]; · iexact H0
  isplitl [H1]; · iexact H1
  isplitl [H2]; · iexact H2
  isplitl [H3]; · iexact H3
  isplitl [H4]; · iexists _; iexact H4
  isplitl [H5]; · iexists _; iexact H5
  isplitl [H7]; · iexact H7
  isplitl [H8]; · iexact H8
  isplitl [H9]; · iexact H9
  isplitl [H10]; · iexact H10
  iintro ⟨H0, H1, H2, H3, H4, H5, H7, H8, H9, H10⟩
  isplitl [H7 H8 H9 H10 Hg]
  · isplitr [Hg]
    · isplitl [H7]; · iexact H7
      isplitl [H8]; · iexact H8
      isplitl [H9]; · iexact H9
      iexact H10
    · iexact Hg
  isplitl [Ho]; · iexact Ho
  isplitl [H0]; · iexact H0
  isplitl [H1]; · iexact H1
  isplitl [H2]; · iexact H2
  isplitl [H3]; · iexact H3
  isplitl [H4]; · iexact H4
  iexact H5

set_option backward.isDefEq.respectTransparency.types false in
/-- The run: it terminates, the arrays end as the proof data says, every other buffer as the host lines leave it, and every
    semaphore at zero. -/
theorem run_main (hB : ∀ c t q, ∀ n < 100352, blockD m c t q n < Big) :
    θ_run defs (onTc (τ := τ) (main (F := Ideal))) (s₀ m ρ)
      (fun r => Pipeline.FramePost cfgs (dats m) 0 (Pipeline.afterTail₀ cfgs (dats m) 0 (V0 m) [hostOps1]) r ∧ r.2.sem = fun _ => 0) :=
  Pipeline.θ_run_frame_around (Q' := _) cfgs (dats m) (0 : Fin 1) launch0 defs₀ Variants.none m ρ main
    (hbody := fun c => (body_obligation m c (hB c)).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := fun _ _ => rfl) (hΦ := fun _ _ => rfl)

/-- The arguments end as launched and every semaphore at zero. -/
theorem frame_kernel (hB : ∀ c t q, ∀ n < 100352, blockD m c t q n < Big) :
    θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_with_sems (frame_of m ρ (dats m) fun _ _ => rfl) (run_main m ρ hB)

end Cert.Proof

end
-- ==== Proof.Bounds.lean ====
/-
  What bounded inputs say of a block's distances: every one is the root of a sum of sixteen squares of real numbers, the
  352 contexts that fill up the last chunk are farther from every query than each of the 100000 contexts given, and every
  distance lies below the value that marks a context as taken.
-/
module

public import proofs.«01_k».proof.Proof.Chunk
public import Mathlib.Tactic.Linarith
public import Mathlib.Tactic.Positivity
public import Mathlib.Tactic.NormNum
public import Mathlib.Tactic.Ring

@[expose] public section

noncomputable section

namespace Cert.Proof

open Cert.KernelIdeal Cert.KernelIdeal.Gen
open Idealize.ShloMosaic

/-- An input entry: a real number of at most a million in size. -/
def Small (x : EReal) : Prop := ∃ r : ℝ, x = (r : EReal) ∧ |r| ≤ 1000000

/-- The coordinate of a context that fills up the last chunk. -/
def far : EReal := Ideal.ofBits .f32 0x58635FA9#32

/-- The padding entry is a real number, just below 1e15. -/
theorem far_eq : far = ((999999986991104 : ℝ) : EReal) := by
  simp [far, Ideal.ofBits, Ideal.ieee, ← EReal.coe_mul]
  norm_num

/-- The word of two denotes two. -/
theorem two_eq : Ideal.ofBits .f32 0x40000000#32 = ((2 : ℝ) : EReal) := by
  simp [Ideal.ofBits, Ideal.ieee, ← EReal.coe_mul]
  norm_num

/-- The mark is above 1e37. -/
theorem big_gt : ((10 ^ 37 : ℝ) : EReal) < Big := by
  have h : Big = ((14791142 * 2 ^ 104 : ℝ) : EReal) := by
    simp [Big, Ideal.ofBits, Ideal.ieee, ← EReal.coe_mul]
  rw [h, EReal.coe_lt_coe_iff]
  norm_num

/-- The word of the precondition's bound denotes a million. -/
theorem million_eq : Ideal.ofBits .f32 0x49742400#32 = ((1000000 : ℝ) : EReal) := by
  simp [Ideal.ofBits, Ideal.ieee, ← EReal.coe_mul]
  norm_num

/-- An entry whose size compares at most a million is small. -/
theorem small_of_le {x : EReal} (h : max x (-x) ≤ ((1000000 : ℝ) : EReal)) : Small x := by
  induction x with
  | bot => simp at h
  | top => simp at h
  | coe r =>
    refine ⟨r, rfl, ?_⟩
    have h1 := le_trans (le_max_left _ _) h
    have h2 := le_trans (le_max_right _ _) h
    rw [← EReal.coe_neg] at h2
    exact abs_le.mpr ⟨by have := EReal.coe_le_coe_iff.mp h2; linarith, EReal.coe_le_coe_iff.mp h1⟩

/-- A sum of reals is the same sum among the extended reals. -/
theorem coe_sum {n : ℕ} (f : Fin n → ℝ) : ((∑ e, f e : ℝ) : EReal) = ∑ e, (f e : EReal) := by
  induction n with
  | zero => simp
  | succ n ih => rw [Fin.sum_univ_castSucc, Fin.sum_univ_castSucc, EReal.coe_add, ih]

/-- The root of a real at least zero is its real root. -/
theorem sqrt_coe {r : ℝ} (h : 0 ≤ r) : Ideal.sqrt (r : EReal) = ((Real.sqrt r : ℝ) : EReal) := by
  show (if r < 0 then (⊥ : EReal) else (Real.sqrt r : EReal)) = _
  rw [if_neg (not_lt.mpr h)]

/-- A block's operands under the precondition: small queries, weights and offsets, small contexts below 100000 and far ones
    from there on. -/
structure Bounded (x1 : S64x16.Idx → EReal) (x2 : S16x100352.Idx → EReal) (x3 : S16x16.Idx → EReal) (x4 : S1x16.Idx → EReal) : Prop where
  queries : ∀ q d, Small (x1 (ix2 q d))
  near : ∀ e (n : Fin 100352), n.val < 100000 → Small (x2 (ix2 e n))
  fill : ∀ e (n : Fin 100352), 100000 ≤ n.val → x2 (ix2 e n) = far
  weights : ∀ e d, Small (x3 (ix2 e d))
  offsets : ∀ e, Small (x4 (ix2 0 e))

variable {x1 : S64x16.Idx → EReal} {x2 : S16x100352.Idx → EReal} {x3 : S16x16.Idx → EReal} {x4 : S1x16.Idx → EReal}

/-- A projected query has real coordinates of at most 1.7e13 in size. -/
theorem Bounded.proj (h : Bounded x1 x2 x3 x4) (q : Fin 64) (e : Fin 16) :
    ∃ r : ℝ, Proof.proj x1 x3 x4 q e = (r : EReal) ∧ |r| ≤ 17000000000000 := by
  choose a ha ba using fun d => h.queries q d
  choose w hw bw using fun d => h.weights e d
  obtain ⟨b, hb, bb⟩ := h.offsets e
  refine ⟨(∑ d, a d * w d) + b, ?_, ?_⟩
  · unfold Proof.proj
    simp only [ha, hw, hb, EReal.coe_add, coe_sum, EReal.coe_mul]
  · have hs : |∑ d, a d * w d| ≤ ∑ _d : Fin 16, (1000000000000 : ℝ) := by
      refine (Finset.abs_sum_le_sum_abs _ _).trans (Finset.sum_le_sum fun d _ => ?_)
      rw [abs_mul]
      have := mul_le_mul (ba d) (bw d) (abs_nonneg _) (by norm_num)
      linarith
    simp at hs
    have := abs_add_le (∑ d, a d * w d) b
    norm_num at hs ⊢
    linarith

/-- A distance is the root of a sum of sixteen real squares, of the differences of the coordinates. -/
theorem dist_coe {q : Fin 64} {n : Fin 100352} {p c : Fin 16 → ℝ} (hp : ∀ e, proj x1 x3 x4 q e = (p e : EReal))
    (hc : ∀ e, x2 (ix2 e n) = (c e : EReal)) :
    dist x1 x2 x3 x4 q n = ((Real.sqrt (∑ e, (p e - c e) ^ 2) : ℝ) : EReal) := by
  have hs : sqd x1 x2 x3 x4 q n = ((∑ e, (p e - c e) ^ 2 : ℝ) : EReal) := by
    unfold sqd
    simp only [hp, hc, two_eq, ← EReal.coe_mul, ← coe_sum, ← EReal.coe_add, ← EReal.coe_sub]
    congr 1
    rw [Finset.mul_sum, ← Finset.sum_add_distrib, ← Finset.sum_sub_distrib]
    exact Finset.sum_congr rfl fun e _ => by ring
  have h0 : (0 : ℝ) ≤ ∑ e, (p e - c e) ^ 2 := Finset.sum_nonneg fun e _ => sq_nonneg _
  rw [dist, hs, max_eq_left (by exact_mod_cast h0), sqrt_coe h0]

/-- A context given lies within 7.2e13 of every query. -/
theorem Bounded.dist_near (h : Bounded x1 x2 x3 x4) (q : Fin 64) (n : Fin 100352) (hn : n.val < 100000) :
    dist x1 x2 x3 x4 q n ≤ ((72000000000000 : ℝ) : EReal) := by
  choose p hp bp using fun e => h.proj q e
  choose c hc bc using fun e => h.near e n hn
  rw [dist_coe hp hc, EReal.coe_le_coe_iff]
  refine Real.sqrt_le_iff.mpr ⟨by norm_num, ?_⟩
  have : ∑ e, (p e - c e) ^ 2 ≤ ∑ _e : Fin 16, (18000000000000 : ℝ) ^ 2 :=
    Finset.sum_le_sum fun e _ => sq_le_sq' (by have := abs_le.mp (bp e); have := abs_le.mp (bc e); linarith)
      (by have := abs_le.mp (bp e); have := abs_le.mp (bc e); linarith)
  refine this.trans ?_
  simp
  norm_num

/-- A filled-up context lies between 3.6e15 and 4.4e15 away from every query. -/
theorem Bounded.dist_fill (h : Bounded x1 x2 x3 x4) (q : Fin 64) (n : Fin 100352) (hn : 100000 ≤ n.val) :
    ((3600000000000000 : ℝ) : EReal) ≤ dist x1 x2 x3 x4 q n ∧ dist x1 x2 x3 x4 q n ≤ ((4400000000000000 : ℝ) : EReal) := by
  choose p hp bp using fun e => h.proj q e
  rw [dist_coe hp (c := fun _ => 999999986991104) fun e => (h.fill e n hn).trans far_eq, EReal.coe_le_coe_iff, EReal.coe_le_coe_iff]
  constructor
  · refine Real.le_sqrt_of_sq_le (le_trans ?_ (Finset.sum_le_sum (f := fun _ : Fin 16 => (900000000000000 : ℝ) ^ 2) fun e _ => ?_))
    · simp
      norm_num
    · have := abs_le.mp (bp e)
      rw [← neg_sq (p e - _)]
      exact pow_le_pow_left₀ (by norm_num) (by linarith) 2
  · refine Real.sqrt_le_iff.mpr ⟨by norm_num, (Finset.sum_le_sum (g := fun _ : Fin 16 => (1100000000000000 : ℝ) ^ 2) fun e _ => ?_).trans ?_⟩
    · have := abs_le.mp (bp e)
      exact sq_le_sq' (by linarith) (by linarith)
    · simp
      norm_num

/-- Every distance lies below the value that marks a context as taken. -/
theorem Bounded.lt_big (h : Bounded x1 x2 x3 x4) (q : Fin 64) (n : ℕ) (hn : n < 100352) : distN x1 x2 x3 x4 q n < Big := by
  rw [distN, dif_pos hn]
  by_cases hr : n < 100000
  · refine ((h.dist_near q ⟨n, hn⟩ hr).trans ?_).trans_lt big_gt
    exact_mod_cast (by norm_num : (72000000000000 : ℝ) ≤ 10 ^ 37)
  · refine ((h.dist_fill q ⟨n, hn⟩ (by simpa using hr)).2.trans ?_).trans_lt big_gt
    exact_mod_cast (by norm_num : (4400000000000000 : ℝ) ≤ 10 ^ 37)

/-- A filled-up context is farther away than each context given. -/
theorem Bounded.lt_fill (h : Bounded x1 x2 x3 x4) (q : Fin 64) (n : ℕ) (hn : n < 100000) (n' : ℕ) (h1 : 100000 ≤ n') (h2 : n' < 100352) :
    distN x1 x2 x3 x4 q n < distN x1 x2 x3 x4 q n' := by
  rw [distN, dif_pos (by omega), distN, dif_pos h2]
  refine ((h.dist_near q ⟨n, by omega⟩ hn).trans_lt ?_).trans_le (h.dist_fill q ⟨n', h2⟩ h1).1
  exact EReal.coe_lt_coe_iff.mpr (by norm_num)

end Cert.Proof

end
-- ==== Proof.Inputs.lean ====
/-
  What the kernel's blocks hold of the arguments: block `t` the queries from `64 t` on, the contexts transposed with 352 far
  ones after them, the weights and the offsets; and that the precondition bounds them.
-/
module

public import proofs.«01_k».proof.Proof.Bounds
public import proofs.«01_k».proof.Proof.Gen.KernelIdeal.Frame
public import proofs.«01_k».proof.Proof.Gen.Pre_bounded
public import Idealize.ShloMosaic.Lib.Pointwise
public import Idealize.ShloMosaic.Lib.ReduceAll
public import Idealize.ShloMosaic.Lib.StableHlo.Run
public import Idealize.ShloMosaic.Lib.Pipeline.Value

@[expose] public section

noncomputable section

namespace Cert.Proof

open Cert.KernelIdeal Cert.KernelIdeal.Gen
open Idealize.ShloMosaic Idealize.ShloMosaic.TcCoe Idealize.SL.Sem

variable (m : (ℓ : Loc nD τ sig) → Buf (Elt Ideal) ℓ) (c : Dev nD)

/-- The four arguments, as arrays of extended reals. -/
def arg0 : S1024x16.Idx → EReal := m ((c : Thread nD τ).loc main_arg0)
/-- The contexts of device `c` as launched. -/
def arg1 : S100000x16.Idx → EReal := m ((c : Thread nD τ).loc main_arg1)
/-- The weights. -/
def arg2 : S16x16.Idx → EReal := m ((c : Thread nD τ).loc main_arg2)
/-- The bias. -/
def arg3 : S16.Idx → EReal := m ((c : Thread nD τ).loc main_arg3)

/-- The contexts as the kernel is given them. -/
theorem V_ctx : V m c main_v2 = transpose S16x100352 [1, 0] (concatenate S100352x16 0
      [⟨S100000x16, arg1 m c⟩, ⟨S352x16, broadcastInDim S352x16 ![] bcast_S_S352x16 (constant (F := Ideal) S_ .f32 0x58635FA9#32)⟩]
      concatenates_S100000x16_S352x16_S100352x16_d0) transposes_S100352x16_S16x100352_1_0 := by
  show StableHlo.after (List.flatten [hostOps0]) (fun b => m (c, b)) (Proc.devRef .tc main_v2) = _
  simp only [List.flatten_cons, List.flatten_nil, List.append_nil]
  after_results
  rfl

/-- The offsets as the kernel is given them. -/
theorem V_off : V m c main_v3 = shapeCast (s := S16) S1x16 (arg3 m c) shapeCasts_S16_S1x16 := by
  show StableHlo.after (List.flatten [hostOps0]) (fun b => m (c, b)) (Proc.devRef .tc main_v3) = _
  simp only [List.flatten_cons, List.flatten_nil, List.append_nil]
  after_results
  rfl

/-- A block of queries. -/
theorem blk_q (t : Fin cfg0.N) (q : Fin 64) (d : Fin 16) (h : 64 * t.val + q.val < 1024) :
    (iblk m c 0 t : S64x16.Idx → EReal) (ix2 q d) = arg0 m c (ix2 ⟨64 * t.val + q.val, h⟩ d) := by
  unfold iblk
  rw [View.read_apply]
  show V m c main_arg0 _ = _
  rw [V_main_arg0]
  unfold arg0
  congr 1
  funext a
  apply Fin.ext
  match a with
  | ⟨0, _⟩ =>
    show win0_0.index t 0 * 64 + 1 * q.val = 64 * t.val + q.val
    rw [(by decide +kernel : ∀ t : Fin grid0.N, win0_0.index t 0 = t.val) t]
    omega
  | ⟨1, _⟩ =>
    show win0_0.index t 1 * 16 + 1 * d.val = d.val
    rw [(by decide +kernel : ∀ t : Fin grid0.N, win0_0.index t 1 = 0) t]
    omega

/-- The contexts, whole at every point. -/
theorem blk_ctx (t : Fin cfg0.N) : (iblk m c 1 t : S16x100352.Idx → EReal) = V m c main_v2 := by
  funext j
  unfold iblk
  rw [View.read_apply]
  show V m c main_v2 _ = V m c main_v2 _
  congr 1
  funext a
  apply Fin.ext
  match a with
  | ⟨0, _⟩ =>
    show win0_1.index t 0 * 16 + 1 * (j 0).val = (j 0).val
    rw [(by decide +kernel : ∀ t : Fin grid0.N, win0_1.index t 0 = 0) t]
    omega
  | ⟨1, _⟩ =>
    show win0_1.index t 1 * 100352 + 1 * (j 1).val = (j 1).val
    rw [(by decide +kernel : ∀ t : Fin grid0.N, win0_1.index t 1 = 0) t]
    omega

/-- The weights, whole at every point. -/
theorem blk_w (t : Fin cfg0.N) : (iblk m c 2 t : S16x16.Idx → EReal) = arg2 m c := by
  funext j
  unfold iblk
  rw [View.read_apply]
  show V m c main_arg2 _ = _
  rw [V_main_arg2]
  unfold arg2
  congr 1
  funext a
  apply Fin.ext
  match a with
  | ⟨0, _⟩ =>
    show win0_2.index t 0 * 16 + 1 * (j 0).val = (j 0).val
    rw [(by decide +kernel : ∀ t : Fin grid0.N, win0_2.index t 0 = 0) t]
    omega
  | ⟨1, _⟩ =>
    show win0_2.index t 1 * 16 + 1 * (j 1).val = (j 1).val
    rw [(by decide +kernel : ∀ t : Fin grid0.N, win0_2.index t 1 = 0) t]
    omega

/-- The offsets, whole at every point. -/
theorem blk_off (t : Fin cfg0.N) : (iblk m c 3 t : S1x16.Idx → EReal) = V m c main_v3 := by
  funext j
  unfold iblk
  rw [View.read_apply]
  show V m c main_v3 _ = V m c main_v3 _
  congr 1
  funext a
  apply Fin.ext
  match a with
  | ⟨0, _⟩ =>
    show win0_3.index t 0 * 1 + 1 * (j 0).val = (j 0).val
    rw [(by decide +kernel : ∀ t : Fin grid0.N, win0_3.index t 0 = 0) t]
    omega
  | ⟨1, _⟩ =>
    show win0_3.index t 1 * 16 + 1 * (j 1).val = (j 1).val
    rw [(by decide +kernel : ∀ t : Fin grid0.N, win0_3.index t 1 = 0) t]
    omega

/-- A context given, in the kernel's transposed array. -/
theorem ctx_near (t : Fin cfg0.N) (e : Fin 16) (n : Fin 100352) (h : n.val < 100000) :
    (iblk m c 1 t : S16x100352.Idx → EReal) (ix2 e n) = arg1 m c (ix2 ⟨n.val, h⟩ e) := by
  rw [blk_ctx, V_ctx]
  pointwise
  simp [h]

/-- A context that fills up the array. -/
theorem ctx_fill (t : Fin cfg0.N) (e : Fin 16) (n : Fin 100352) (h : 100000 ≤ n.val) :
    (iblk m c 1 t : S16x100352.Idx → EReal) (ix2 e n) = far := by
  rw [blk_ctx, V_ctx]
  pointwise
  simp [h, far]

/-- An offset. -/
theorem off_at (t : Fin cfg0.N) (e : Fin 16) : (iblk m c 3 t : S1x16.Idx → EReal) (ix2 0 e) = arg3 m c (ix1 e) := by
  rw [blk_off, V_off]
  pointwise

/-- An entry compared to a million, read back. -/
theorem small_of_cmp {s : Shape} {hb : Cert.Pre_bounded.S_.BroadcastsInDim s ![]} {x : FVec Ideal s .f32} {i : s.Idx}
    (h : cmpf .ole (Host.absf x) (broadcastInDim s ![] hb (constant (F := Ideal) Cert.Pre_bounded.S_ .f32 0x49742400#32)) i = 1#1) :
    Small (x i) := by
  refine small_of_le ?_
  rw [← million_eq]
  by_contra hn
  have : cmpf .ole (Host.absf x) (broadcastInDim s ![] hb (constant (F := Ideal) Cert.Pre_bounded.S_ .f32 0x49742400#32)) i
      = BitVec.ofBool (decide (max (x i) (-(x i)) ≤ Ideal.ofBits .f32 0x49742400#32)) := rfl
  rw [this, decide_eq_false hn] at h
  exact absurd h (by decide)

/-- The precondition, read back: every entry of the four arguments is small. -/
theorem small_args {x0 : S1024x16.Idx → EReal} {x1 : S100000x16.Idx → EReal} {x2 : S16x16.Idx → EReal} {x3 : S16.Idx → EReal}
    [Cert.Pre_bounded.Facts] (h : Cert.Pre_bounded.fn (F := Ideal) x0 x1 x2 x3 = fun _ => 1#1) :
    (∀ i, Small (x0 i)) ∧ (∀ i, Small (x1 i)) ∧ (∀ i, Small (x2 i)) ∧ ∀ i, Small (x3 i) := by
  have h' := congrFun h ix0
  unfold Cert.Pre_bounded.fn Cert.Pre_bounded.fn_part1 at h'
  dsimp only at h'
  obtain ⟨h012, h3⟩ := IntOp.andi_eq_one.mp h'
  obtain ⟨h01, h2⟩ := IntOp.andi_eq_one.mp h012
  obtain ⟨h0, h1⟩ := IntOp.andi_eq_one.mp h01
  haveI : Subsingleton Cert.Pre_bounded.S_.Idx := ⟨fun a b => funext fun i => i.elim0⟩
  exact ⟨fun i => small_of_cmp (Host.reduce_andi_all _ _ _ _ _ h0 i), fun i => small_of_cmp (Host.reduce_andi_all _ _ _ _ _ h1 i),
    fun i => small_of_cmp (Host.reduce_andi_all _ _ _ _ _ h2 i), fun i => small_of_cmp (Host.reduce_andi_all _ _ _ _ _ h3 i)⟩

/-- Under the precondition every block's operands are bounded. -/
theorem bounded_blk [Cert.Pre_bounded.Facts] (h : Cert.Pre_bounded.fn (F := Ideal) (arg0 m c) (arg1 m c) (arg2 m c) (arg3 m c) = fun _ => 1#1)
    (t : Fin cfg0.N) : Bounded (iblk m c 0 t) (iblk m c 1 t) (iblk m c 2 t) (iblk m c 3 t) := by
  obtain ⟨h0, h1, h2, h3⟩ := small_args h
  have ht : t.val < 16 := lt_of_lt_of_eq t.isLt (show cfg0.N = 16 from N_0)
  exact {
    queries := fun q d => by rw [blk_q m c t q d (by omega)]; exact h0 _
    near := fun e n hn => by rw [ctx_near m c t e n hn]; exact h1 _
    fill := fun e n hn => ctx_fill m c t e n hn
    weights := fun e d => by rw [blk_w m c t]; exact h2 _
    offsets := fun e => by rw [off_at m c t]; exact h3 _ }

end Cert.Proof

end
-- ==== Proof.Value.lean ====
/-
  What the kernel returns: at a row and a rank below fifty, the distance of the row's pick of that rank and its number.
-/
module

public import proofs.«01_k».proof.Proof.Run
public import proofs.«01_k».proof.Proof.Inputs

@[expose] public section

noncomputable section

namespace Cert.Proof

open Cert.KernelIdeal Cert.KernelIdeal.Gen
open Idealize.ShloMosaic Idealize.ShloMosaic.TcCoe Idealize.SL.Sem
open Idealize.ShloMosaic.Pipeline (Dat)

variable (m : (ℓ : Loc nD τ sig) → Buf (Elt Ideal) ℓ) (ρ : Dev nD → PrngReg) (c : Dev nD)

/-- The block of 64 queries that holds query `r`. -/
def blockOf (r : Fin 1024) : Fin cfg0.N := ⟨r.val / 64, lt_of_lt_of_eq (by omega : r.val / 64 < 16) (show 16 = cfg0.N from N_0.symm)⟩

/-- The distances of query `r`. -/
def rowD (r : Fin 1024) : ℕ → EReal := blockD m c (blockOf r) ⟨r.val % 64, by omega⟩

/-- The first result's array after the run, block by block. -/
def finD : S1024x64.Idx → EReal := fun i => outD (blockD m c (blockOf (i 0))) (ix2 ⟨(i 0).val % 64, by omega⟩ (i 1))

/-- The second result's array after the run. -/
def finI : S1024x64.Idx → BitVec 32 := fun i => outI (blockD m c (blockOf (i 0))) (ix2 ⟨(i 0).val % 64, by omega⟩ (i 1))

/-- There are sixteen blocks. -/
theorem lt16 (t : Fin cfg0.N) : t.val < 16 := lt_of_lt_of_eq t.isLt (show cfg0.N = 16 from N_0)

/-- Position `j` of block `t` in a whole array of results. -/
def at64 (t : Fin cfg0.N) (j : S64x64.Idx) : S1024x64.Idx :=
  ix2 ⟨64 * t.val + (j 0).val, by have := lt16 t; have : (j 0).val < 64 := (j 0).isLt; omega⟩ (j 1)

/-- A block of the first result's array holds the distances of the block's nearest. -/
theorem finD_at (t : Fin cfg0.N) (j : S64x64.Idx) : finD m c (at64 t j) = outD (blockD m c t) j := by
  have hj : (j 0).val < 64 := (j 0).isLt
  have hb : blockOf (at64 t j 0) = t := Fin.ext (show (64 * t.val + (j 0).val) / 64 = t.val by omega)
  unfold finD
  rw [hb]
  congr 1
  funext a
  apply Fin.ext
  match a with
  | ⟨0, _⟩ => show (64 * t.val + (j 0).val) % 64 = (j 0).val; omega
  | ⟨1, _⟩ => rfl

/-- A block of the second result's array holds their numbers. -/
theorem finI_at (t : Fin cfg0.N) (j : S64x64.Idx) : finI m c (at64 t j) = outI (blockD m c t) j := by
  have hj : (j 0).val < 64 := (j 0).isLt
  have hb : blockOf (at64 t j 0) = t := Fin.ext (show (64 * t.val + (j 0).val) / 64 = t.val by omega)
  unfold finI
  rw [hb]
  congr 1
  funext a
  apply Fin.ext
  match a with
  | ⟨0, _⟩ => show (64 * t.val + (j 0).val) % 64 = (j 0).val; omega
  | ⟨1, _⟩ => rfl

/-- The first result's block at a point: the point's number along the queries. -/
theorem idx4_0 : ∀ t : Fin grid0.N, win0_4.index t 0 = t.val := by decide +kernel
/-- The same along the lanes: all of them. -/
theorem idx4_1 : ∀ t : Fin grid0.N, win0_4.index t 1 = 0 := by decide +kernel
/-- The second result's block at a point: the point's number along the queries. -/
theorem idx5_0 : ∀ t : Fin grid0.N, win0_5.index t 0 = t.val := by decide +kernel
/-- The same along the lanes: all of them. -/
theorem idx5_1 : ∀ t : Fin grid0.N, win0_5.index t 1 = 0 := by decide +kernel
/-- The first result's blocks have 64 rows each. -/
theorem ext4_0 : ∀ t : Fin grid0.N, win0_4.xsize (grid0.coords t) 0 = 64 := by decide +kernel
/-- They have 64 lanes. -/
theorem ext4_1 : ∀ t : Fin grid0.N, win0_4.xsize (grid0.coords t) 1 = 64 := by decide +kernel
/-- The second result's blocks have 64 rows each. -/
theorem ext5_0 : ∀ t : Fin grid0.N, win0_5.xsize (grid0.coords t) 0 = 64 := by decide +kernel
/-- They have 64 lanes. -/
theorem ext5_1 : ∀ t : Fin grid0.N, win0_5.xsize (grid0.coords t) 1 = 64 := by decide +kernel

/-- Every point writes back its block of the first result. -/
theorem flushed4 (t : Fin cfg0.N) : (dats m 0 c).flushed 4 t = ((cfg0.win 4).blk t).view.read (Elt Ideal) (finD m c) := by
  show (cfg0.win 4).cut (grid0.coords t) ((dats m 0 c).after 4 t) = _
  rw [after4]
  funext j
  rw [View.read_apply]
  refine (finD_at m c t j).symm.trans (congrArg (finD m c) ?_)
  funext a
  apply Fin.ext
  match a with
  | ⟨0, _⟩ =>
    show 64 * t.val + (j 0).val = win0_4.index t 0 * 64 + 1 * (j 0).val
    rw [idx4_0 t]
    omega
  | ⟨1, _⟩ =>
    show (j 1).val = win0_4.index t 1 * 64 + 1 * (j 1).val
    rw [idx4_1 t]
    omega

/-- Every point writes back its block of the second result. -/
theorem flushed5 (t : Fin cfg0.N) : (dats m 0 c).flushed 5 t = ((cfg0.win 5).blk t).view.read (Elt Ideal) (finI m c) := by
  show (cfg0.win 5).cut (grid0.coords t) ((dats m 0 c).after 5 t) = _
  rw [after5]
  funext j
  rw [View.read_apply]
  refine (finI_at m c t j).symm.trans (congrArg (finI m c) ?_)
  funext a
  apply Fin.ext
  match a with
  | ⟨0, _⟩ =>
    show 64 * t.val + (j 0).val = win0_5.index t 0 * 64 + 1 * (j 0).val
    rw [idx5_0 t]
    omega
  | ⟨1, _⟩ =>
    show (j 1).val = win0_5.index t 1 * 64 + 1 * (j 1).val
    rw [idx5_1 t]
    omega

/-- The first result's array after the run. -/
theorem final4 : (dats m 0 c).arrAt 4 cfg0.N = finD m c :=
  (dats m 0 c).arrAt_eq_of_cover 4 (finD m c) (fun t _ => flushed4 m c t) fun i =>
    ⟨blockOf (i 0), flush0_4 _, by
      show i ∈ ((View.whole main_v4_0).slice (win0_4.rect (blockOf (i 0)))).set
      rw [View.set_slice_whole, Rect.mem_set_unit]
      have h0 : (i 0 : Nat) < 1024 := (i 0).isLt
      have h1 : (i 1 : Nat) < 64 := (i 1).isLt
      have hb : (blockOf (i 0)).val = (i 0 : Nat) / 64 := rfl
      intro a
      match a with
      | ⟨0, _⟩ =>
        show win0_4.index (blockOf (i 0)) 0 * 64 ≤ (i 0 : Nat) ∧ (i 0 : Nat) < win0_4.index (blockOf (i 0)) 0 * 64 + win0_4.xsize (grid0.coords (blockOf (i 0))) 0
        rw [idx4_0 (blockOf (i 0)), ext4_0 (blockOf (i 0)), hb]
        omega
      | ⟨1, _⟩ =>
        show win0_4.index (blockOf (i 0)) 1 * 64 ≤ (i 1 : Nat) ∧ (i 1 : Nat) < win0_4.index (blockOf (i 0)) 1 * 64 + win0_4.xsize (grid0.coords (blockOf (i 0))) 1
        rw [idx4_1 (blockOf (i 0)), ext4_1 (blockOf (i 0))]
        omega⟩

/-- The second result's array after the run. -/
theorem final5 : (dats m 0 c).arrAt 5 cfg0.N = finI m c :=
  (dats m 0 c).arrAt_eq_of_cover 5 (finI m c) (fun t _ => flushed5 m c t) fun i =>
    ⟨blockOf (i 0), flush0_5 _, by
      show i ∈ ((View.whole main_v4_1).slice (win0_5.rect (blockOf (i 0)))).set
      rw [View.set_slice_whole, Rect.mem_set_unit]
      have h0 : (i 0 : Nat) < 1024 := (i 0).isLt
      have h1 : (i 1 : Nat) < 64 := (i 1).isLt
      have hb : (blockOf (i 0)).val = (i 0 : Nat) / 64 := rfl
      intro a
      match a with
      | ⟨0, _⟩ =>
        show win0_5.index (blockOf (i 0)) 0 * 64 ≤ (i 0 : Nat) ∧ (i 0 : Nat) < win0_5.index (blockOf (i 0)) 0 * 64 + win0_5.xsize (grid0.coords (blockOf (i 0))) 0
        rw [idx5_0 (blockOf (i 0)), ext5_0 (blockOf (i 0)), hb]
        omega
      | ⟨1, _⟩ =>
        show win0_5.index (blockOf (i 0)) 1 * 64 ≤ (i 1 : Nat) ∧ (i 1 : Nat) < win0_5.index (blockOf (i 0)) 1 * 64 + win0_5.xsize (grid0.coords (blockOf (i 0))) 1
        rw [idx5_1 (blockOf (i 0)), ext5_1 (blockOf (i 0))]
        omega⟩

/-- The first result: the first fifty columns of its array. -/
theorem tail_v5 : Pipeline.afterTail₀ cfgs (dats m) 0 (V0 m) [hostOps1] c main_v5
    = extractStridedSlice S1024x50 ![0, 0] (finD m c) slices_S1024x64_S1024x50_0_0 := by
  have h : Pipeline.withArrays spec0 c (V0 m c) (fun w => (dats m 0 c).arrAt w cfg0.N) (Proc.devRef .tc main_v4_0) = finD m c :=
    (Pipeline.withArrays_arr spec0 launch0.win.arr_inj c (V0 m c) _ 4).trans (final4 m c)
  unfold Pipeline.afterTail₀
  simp only [List.flatten_cons, List.flatten_nil, List.append_nil]
  after_results
  exact congrArg (extractStridedSlice S1024x50 ![0, 0] · slices_S1024x64_S1024x50_0_0) h

/-- The second result. -/
theorem tail_v6 : Pipeline.afterTail₀ cfgs (dats m) 0 (V0 m) [hostOps1] c main_v6
    = extractStridedSlice S1024x50 ![0, 0] (finI m c) slices_S1024x64_S1024x50_0_0 := by
  have h : Pipeline.withArrays spec0 c (V0 m c) (fun w => (dats m 0 c).arrAt w cfg0.N) (Proc.devRef .tc main_v4_1) = finI m c :=
    (Pipeline.withArrays_arr spec0 launch0.win.arr_inj c (V0 m c) _ 5).trans (final5 m c)
  unfold Pipeline.afterTail₀
  simp only [List.flatten_cons, List.flatten_nil, List.append_nil]
  after_results
  exact congrArg (extractStridedSlice S1024x50 ![0, 0] · slices_S1024x64_S1024x50_0_0) h

/-- The results as arrays: the distances of the picks and their numbers. -/
def outV : S1024x50.Idx → EReal := fun i => rowD m c (i 0) (pick 100352 Big (rowD m c (i 0)) (i 1).val)
/-- The numbers of the picks. -/
def outN : S1024x50.Idx → BitVec 32 := fun i => BitVec.ofNat 32 (pick 100352 Big (rowD m c (i 0)) (i 1).val)

variable [Cert.Pre_bounded.Facts]

/-- The precondition on device `c`. -/
def PreAt : Prop := Cert.Pre_bounded.fn (F := Ideal) (arg0 m c) (arg1 m c) (arg2 m c) (arg3 m c) = fun _ => 1#1

variable {m c} in
/-- Under the precondition every distance is below the mark. -/
theorem PreAt.lt_big (h : PreAt m c) (r : Fin 1024) (n : ℕ) (hn : n < 100352) : rowD m c r n < Big :=
  (bounded_blk m c h (blockOf r)).lt_big _ n hn

variable {m c} in
/-- Under the precondition every context is nearer than every padding row. -/
theorem PreAt.lt_fill (h : PreAt m c) (r : Fin 1024) (n : ℕ) (hn : n < 100000) (n' : ℕ) (h1 : 100000 ≤ n') (h2 : n' < 100352) :
    rowD m c r n < rowD m c r n' :=
  (bounded_blk m c h (blockOf r)).lt_fill _ n hn n' h1 h2

/-- The first fifty columns of the first result's array are the distances of the picks. -/
theorem slice_v5 (h : PreAt m c) : extractStridedSlice S1024x50 ![0, 0] (finD m c) slices_S1024x64_S1024x50_0_0 = outV m c := by
  funext i
  have hl : (i 1).val < 50 := (i 1).isLt
  refine (extractStridedSlice_apply (s := S1024x64) ![0, 0] (finD m c) slices_S1024x64_S1024x50_0_0 i (ix2 (i 0) ⟨(i 1).val, by omega⟩) (fun a => by
    match a with
    | ⟨0, _⟩ => exact (Nat.zero_add _).symm
    | ⟨1, _⟩ => exact (Nat.zero_add _).symm)).trans ?_
  show (if (i 1).val < 50 then tab 100352 Big (rowD m c (i 0)) (i 1).val (pick 100352 Big (rowD m c (i 0)) (i 1).val) else 0) = _
  rw [if_pos hl, tab_pick (R := 100000) (by omega) (h.lt_big (i 0)) (h.lt_fill (i 0)) (by omega)]
  rfl

/-- The first fifty columns of the second result's array are the numbers of the picks. -/
theorem slice_v6 : extractStridedSlice S1024x50 ![0, 0] (finI m c) slices_S1024x64_S1024x50_0_0 = outN m c := by
  funext i
  have hl : (i 1).val < 50 := (i 1).isLt
  refine (extractStridedSlice_apply (s := S1024x64) ![0, 0] (finI m c) slices_S1024x64_S1024x50_0_0 i (ix2 (i 0) ⟨(i 1).val, by omega⟩) (fun a => by
    match a with
    | ⟨0, _⟩ => exact (Nat.zero_add _).symm
    | ⟨1, _⟩ => exact (Nat.zero_add _).symm)).trans ?_
  show (if (i 1).val < 50 then BitVec.ofNat 32 (pick 100352 Big (rowD m c (i 0)) (i 1).val) else 0#32) = _
  rw [if_pos hl]
  rfl

/-- The same of every block and query. -/
theorem lt_big_all (h : ∀ c, PreAt m c) (c : Dev nD) (t : Fin cfg0.N) (q : Fin 64) (n : ℕ) (hn : n < 100352) : blockD m c t q n < Big :=
  (bounded_blk m c (h c) t).lt_big q n hn

/-- The kernel's run, read: the picks' distances and numbers, the arguments as launched. -/
theorem kernel_run (h : ∀ c, PreAt m c) :
    θ_run defs (onTc (τ := τ) (main (F := Ideal))) ⟨m, fun _ => 0, ρ⟩ fun r => ∀ c : Dev nD,
      r.2.mem ((c.tc : Thread nD τ).loc main_v5) = outV m c
      ∧ r.2.mem ((c.tc : Thread nD τ).loc main_v6) = outN m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r hr c =>
    ⟨((hr.1 c).2 main_v5 (Pipeline.mem_restRefs_of main_v5 (by decide) (by decide))).trans ((tail_v5 m c).trans (slice_v5 m c (h c))),
      ((hr.1 c).2 main_v6 (Pipeline.mem_restRefs_of main_v6 (by decide) (by decide))).trans ((tail_v6 m c).trans (slice_v6 m c)),
      ((hr.1 c).1 0).trans (((dats m 0 c).arrAt_in 0 rfl _).trans (V_main_arg0 m c)),
      ((hr.1 c).2 main_arg1 (Pipeline.mem_restRefs_of main_arg1 (by decide) (by decide))).trans (W_main_arg1 m (dats m) c),
      ((hr.1 c).1 2).trans (((dats m 0 c).arrAt_in 2 rfl _).trans (V_main_arg2 m c)),
      ((hr.1 c).2 main_arg3 (Pipeline.mem_restRefs_of main_arg3 (by decide) (by decide))).trans (W_main_arg3 m (dats m) c)⟩)
    (run_main m ρ (lt_big_all m h))

end Cert.Proof

end
-- ==== Proof.Reference.lean ====
/-
  What the reference returns: of every query the distances to the 100000 contexts, each query's row sorted stably, the
  first fifty positions and their distances.
-/
module

public import proofs.«01_k».proof.Proof.Picks
public import proofs.«01_k».proof.Proof.Gen.ReferenceIdeal.Read
public import Idealize.ShloMosaic.Lib.Pointwise

@[expose] public section

noncomputable section

namespace Cert.Proof.Ref

open Cert.ReferenceIdeal Cert.ReferenceIdeal.Gen Cert.ReferenceIdeal.Read
open Idealize.ShloMosaic

variable (x0 : S1024x16.Idx → EReal) (x1 : S100000x16.Idx → EReal) (x2 : S16x16.Idx → EReal) (x3 : S16.Idx → EReal)

/-- The projected query. -/
def proj (r : Fin 1024) (e : Fin 16) : EReal := (∑ k : Fin 16, x0 (ix2 r k) * x2 (ix2 e k)) + x3 (ix1 e)

/-- The distance of query `r` to context `n`. -/
def dist (r : Fin 1024) (n : Fin 100000) : EReal :=
  Ideal.sqrt (max (((∑ e : Fin 16, proj x0 x2 x3 r e * proj x0 x2 x3 r e) + ∑ e : Fin 16, x1 (ix2 n e) * x1 (ix2 n e))
    - Ideal.ofBits .f32 0x40000000#32 * ∑ e : Fin 16, proj x0 x2 x3 r e * x1 (ix2 n e)) 0)

/-- The reference's first product and addition give the projected queries. -/
theorem proj_at (i : S1024x16.Idx) : val_main_v4 (F := Ideal) x0 x2 x3 i = proj x0 x2 x3 (i 0) (i 1) := by
  have h0 : ∀ k, lidx_main_v1 i k = ix2 (i 0) k := fun k => funext fun a => by match a with | ⟨0, _⟩ => rfl | ⟨1, _⟩ => rfl
  have h1 : ∀ k, idx_main_v0 (ridx_main_v1 i k) = ix2 (i 1) k := fun k => funext fun a => by match a with | ⟨0, _⟩ => rfl | ⟨1, _⟩ => rfl
  have h2 : idx_main_v2 (idx_main_v3 i) = ix1 (i 1) := funext fun a => by match a with | ⟨0, _⟩ => rfl
  rw [val_main_v4_apply, val_main_v1_apply, val_main_v3_apply, val_main_v2_apply, h2]
  simp only [val_main_v0_apply, h0, h1]
  rfl

/-- The zero word denotes zero. -/
theorem zero_word : Ideal.ofBits .f32 0x00000000#32 = 0 := by simp [Ideal.ofBits, Ideal.ieee]

/-- The reference's table of distances. -/
theorem dist_at (r : Fin 1024) (n : Fin 100000) : val_main_v21 (F := Ideal) x0 x1 x2 x3 (ix2 r n) = dist x0 x1 x2 x3 r n := by
  rw [val_main_v21_apply, val_main_v20_apply, val_main_v18_apply, val_main_v13_apply, val_main_v17_apply, val_main_v19_apply,
    val_main_v16_apply, val_main_v11_apply, val_main_v12_apply, val_main_v10_apply, val_main_v7_apply, val_main_v6_apply,
    val_main_v9_apply, val_main_v15_apply]
  simp only [val_main_v5_apply, val_main_v8_apply, val_main_v14_apply, val_main_cst_apply, val_main_cst_0_apply, val_main_cst_1_apply,
    val_main_cst_2_apply, proj_at]
  have h9 : ∀ k, idx_main_v9 (idx_main_v10 (idx_main_v12 (ix2 r n))) k = ix2 n k :=
    fun k => funext fun a => by match a with | ⟨0, _⟩ => rfl | ⟨1, _⟩ => rfl
  have h14 : ∀ k, idx_main_v14 (ridx_main_v15 (ix2 r n) k) = ix2 n k :=
    fun k => funext fun a => by match a with | ⟨0, _⟩ => rfl | ⟨1, _⟩ => rfl
  simp only [h9, h14]
  show Ideal.sqrt (max ((Ideal.ofBits .f32 0x00000000#32 + ∑ e : Fin 16, proj x0 x2 x3 r e * proj x0 x2 x3 r e)
    + (Ideal.ofBits .f32 0x00000000#32 + ∑ e : Fin 16, x1 (ix2 n e) * x1 (ix2 n e))
    - Ideal.ofBits .f32 0x40000000#32 * ∑ e : Fin 16, proj x0 x2 x3 r e * x1 (ix2 n e)) (Ideal.ofBits .f32 0x00000000#32)) = _
  rw [zero_word, zero_add, zero_add]
  rfl

/-- The order in which the reference sorts the row of query `r`. -/
def before (x : S1024x100000.Idx → EReal) (r : Fin 1024) : Fin 100000 → Fin 100000 → Bool :=
  fun k k' => Ideal.cmpTotal .gt (x (ix2 r k)) (x (ix2 r k')) == 1#1

/-- The greatest fifty of each row, read at a row and a rank. -/
theorem topK_at (x : S1024x100000.Idx → EReal) (h : S1024x100000.Slices (fun _ => 0) S1024x50) (r : Fin 1024) (l : Fin 50) :
    (Host.topK S1024x50 1 (Ideal.cmpTotal .gt) x h).1 (ix2 r l) = x (ix2 r (sortedFrom (before x r) (l.castLE (by omega))))
    ∧ (Host.topK S1024x50 1 (Ideal.cmpTotal .gt) x h).2 (ix2 r l) = BitVec.ofNat 32 (sortedFrom (before x r) (l.castLE (by omega))).val := by
  have ha : ∀ k, (ix2 r (l.castLE (by omega)) : S1024x100000.Idx).along 1 k = ix2 r k :=
    fun k => funext fun a => by match a with | ⟨0, _⟩ => rfl | ⟨1, _⟩ => rfl
  have hb : ∀ k : Fin 100000, ((ix2 r (l.castLE (by omega)) : S1024x100000.Idx).along 1 k 1).val = k.val := fun k => by
    rw [show (ix2 r (l.castLE (by omega)) : S1024x100000.Idx).along 1 k = ix2 r k from ha k]
    rfl
  have hj : ∀ a, ((ix2 r (l.castLE (by omega)) : S1024x100000.Idx) a).val = 0 + ((ix2 r l : S1024x50.Idx) (a.cast h.1.symm)).val := by
    intro a
    match a with
    | ⟨0, _⟩ => exact (Nat.zero_add _).symm
    | ⟨1, _⟩ => exact (Nat.zero_add _).symm
  unfold Host.topK Host.sort2
  dsimp only
  rw [dif_pos (show 1 < S1024x100000.rank by decide)]
  have hs : (sortedFrom (fun k k' => Ideal.cmpTotal .gt (x ((ix2 r (l.castLE (by omega)) : S1024x100000.Idx).along 1 k))
      (x ((ix2 r (l.castLE (by omega)) : S1024x100000.Idx).along 1 k')) == 1#1) (l.castLE (by omega) : Fin 100000))
      = sortedFrom (before x r) (l.castLE (by omega)) := by
    simp only [ha]
    rfl
  constructor
  · rw [extractStridedSlice_apply _ _ h _ (ix2 r (l.castLE (by omega))) hj]
    show x ((ix2 r (l.castLE (by omega)) : S1024x100000.Idx).along 1 (sortedFrom (fun k k' =>
      Ideal.cmpTotal .gt (x ((ix2 r (l.castLE (by omega)) : S1024x100000.Idx).along 1 k))
      (x ((ix2 r (l.castLE (by omega)) : S1024x100000.Idx).along 1 k')) == 1#1) (l.castLE (by omega) : Fin 100000))) = _
    rw [hs]
    exact congrArg x (ha _)
  · rw [extractStridedSlice_apply _ _ h _ (ix2 r (l.castLE (by omega))) hj]
    show BitVec.ofNat 32 (((ix2 r (l.castLE (by omega)) : S1024x100000.Idx).along 1 (sortedFrom (fun k k' =>
      Ideal.cmpTotal .gt (x ((ix2 r (l.castLE (by omega)) : S1024x100000.Idx).along 1 k))
      (x ((ix2 r (l.castLE (by omega)) : S1024x100000.Idx).along 1 k')) == 1#1) (l.castLE (by omega) : Fin 100000))) 1).val = _
    rw [hs]
    exact congrArg (BitVec.ofNat 32) (hb _)

/-- What the reference returns at a row and a rank, when the row's distances are the head of a table whose further entries
    lie beyond all of them. -/
theorem result_at {N : ℕ} {B : EReal} {D : ℕ → EReal} {r : Fin 1024} (hN : 100000 ≤ N) (hB : ∀ n < N, D n < B)
    (hfar : ∀ n < 100000, ∀ n', 100000 ≤ n' → n' < N → D n < D n') (hD : ∀ n : Fin 100000, dist x0 x1 x2 x3 r n = D n) (l : Fin 50) :
    val_main_v23 (F := Ideal) x0 x1 x2 x3 (ix2 r l) = D (pick N B D l)
    ∧ val_main_indices (F := Ideal) x0 x1 x2 x3 (ix2 r l) = BitVec.ofNat 32 (pick N B D l) := by
  have hx : ∀ n : Fin 100000, val_main_v22 (F := Ideal) x0 x1 x2 x3 (ix2 r n) = -D n := fun n => by
    rw [val_main_v22_apply, dist_at, hD]
    rfl
  have hp := sortedFrom_eq_pick hN hB hfar (show 50 ≤ 100000 by omega) (before (val_main_v22 (F := Ideal) x0 x1 x2 x3) r) (fun a b => by
    unfold before
    rw [hx, hx]
    show (BitVec.ofBool (decide (-D b < -D a)) == 1#1) = true ↔ _
    have hn : (-D b < -D a) ↔ D a < D b := EReal.neg_lt_neg_iff
    by_cases hab : D a < D b
    · rw [decide_eq_true (hn.mpr hab)]
      simp [hab]
    · rw [decide_eq_false (fun h => hab (hn.mp h))]
      simp [hab]) l
  obtain ⟨hv, hi⟩ := topK_at (val_main_v22 (F := Ideal) x0 x1 x2 x3) sliceFits_S1024x100000_S1024x50 r l
  constructor
  · rw [val_main_v23_apply]
    show -(Host.topK S1024x50 1 (Ideal.cmpTotal .gt) (val_main_v22 (F := Ideal) x0 x1 x2 x3) sliceFits_S1024x100000_S1024x50).1 (ix2 r l) = _
    rw [hv, hx, hp, neg_neg]
  · show (Host.topK S1024x50 1 (Ideal.cmpTotal .gt) (val_main_v22 (F := Ideal) x0 x1 x2 x3) sliceFits_S1024x100000_S1024x50).2 (ix2 r l) = _
    rw [hi, hp]

end Cert.Proof.Ref

end
-- ==== Proof.lean ====
/-
  The proof of the claim: the kernel runs under the precondition and the reference always, both leave their arguments and
  every semaphore as they were, and from the same arguments both return, of every query, the distances of the fifty nearest
  contexts and their numbers, in the same order.
-/
module

public import proofs.«01_k».proof.Defs
public import proofs.«01_k».proof.Proof.Value
public import proofs.«01_k».proof.Proof.Reference
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_bounded
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

section
open Cert.KernelIdeal Cert.KernelIdeal.Gen

variable (m : (ℓ : Loc nD τ sig) → Buf (Elt Ideal) ℓ) (c : Dev nD)

/-- A row's distances in the kernel are the reference's. -/
theorem rowD_eq (r : Fin 1024) (n : Fin 100000) : Ref.dist (arg0 m c) (arg1 m c) (arg2 m c) (arg3 m c) r n = rowD m c r n := by
  have hn : n.val < 100352 := by omega
  have hr : (⟨64 * (blockOf r).val + (⟨r.val % 64, by omega⟩ : Fin 64).val, by
      show 64 * (r.val / 64) + r.val % 64 < 1024
      omega⟩ : Fin 1024) = r := Fin.ext (show 64 * (r.val / 64) + r.val % 64 = r.val by omega)
  have hp : ∀ e, proj (iblk m c 0 (blockOf r)) (iblk m c 2 (blockOf r)) (iblk m c 3 (blockOf r)) ⟨r.val % 64, by omega⟩ e
      = Ref.proj (arg0 m c) (arg2 m c) (arg3 m c) r e := fun e => by
    unfold proj Ref.proj
    simp only [blk_q m c (blockOf r) ⟨r.val % 64, by omega⟩ _ (by show 64 * (r.val / 64) + r.val % 64 < 1024; omega), hr, off_at m c (blockOf r), blk_w m c (blockOf r)]
  unfold rowD blockD distN
  rw [dif_pos hn]
  unfold dist sqd Ref.dist
  simp only [hp, ctx_near m c (blockOf r) _ ⟨n.val, hn⟩ n.isLt]

end

/-- The precondition, read as the bound on each device's four arguments. -/
theorem pre_at {m : (ℓ : Loc Cert.KernelIdeal.nD Cert.KernelIdeal.τ Cert.KernelIdeal.sig) → Buf (Elt Ideal) ℓ} (h : Cert.Pre_KernelIdeal m)
    (c : Dev Cert.KernelIdeal.nD) : PreAt m c := h c

/-- Under the precondition the kernel runs to its end, with its arguments unchanged and every semaphore at zero. -/
theorem kernel_frame : Cert.quiescent_KernelIdeal := fun m g h => frame_kernel m g (lt_big_all m (pre_at h))

open Cert.ReferenceIdeal in
/-- The reference's run: its arguments as launched and every semaphore at zero, from any memory. -/
theorem reference_run (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run _ _ _).mono (fun r hr => ⟨fun c => (hr c).2.2, sem_eq_zero_of_no_sems (by decide) r.2⟩)
    (Cert.ReferenceIdeal.Value.run m g)

/-- The reference runs to its end, with its arguments unchanged and every semaphore at zero. -/
theorem reference_frame : Cert.quiescent_ReferenceIdeal := fun m g _ => reference_run m g

/-- The same of the reference from arguments that the precondition allows. -/
theorem reference_frame_bounded : Cert.quiescent_ReferenceIdeal_pre_bounded := fun m g _ => reference_run m g

/-- From the same arguments, within the precondition, kernel and reference return the same distances and the same numbers. -/
theorem same_results : Cert.algebraic_KernelIdeal_ReferenceIdeal := by
  intro m g m' g' h hag
  refine ⟨outV m, outN m, kernel_run m g (pre_at h), (θ_run _ _ _).mono (fun r hr c => ?_) (Cert.ReferenceIdeal.Value.run m' g')⟩
  obtain ⟨hv, hi, ha⟩ := hr c
  obtain ⟨e0, e1, e2, e3⟩ := hag c
  have hres := fun (r : Fin 1024) (l : Fin 50) =>
    Ref.result_at (arg0 m c) (arg1 m c) (arg2 m c) (arg3 m c) (show 100000 ≤ 100352 by omega) ((pre_at h c).lt_big r) ((pre_at h c).lt_fill r)
      (rowD_eq m c r) l
  refine ⟨hv.trans ((Cert.ReferenceIdeal.Read.val_main_v23_eq _ _ _ _).trans ?_),
    hi.trans ((Cert.ReferenceIdeal.Read.val_main_indices_eq _ _ _ _).trans ?_), ha⟩
  · rw [e0, e1, e2, e3]
    funext i
    rw [eq_ix2 i]
    exact (hres (i 0) (i 1)).1
  · rw [e0, e1, e2, e3]
    funext i
    rw [eq_ix2 i]
    exact (hres (i 0) (i 1)).2

/-- The whole claim. -/
theorem claim : Cert.Claim :=
  ⟨Cert.KernelIdeal.Gen.facts, Cert.ReferenceIdeal.Gen.facts, Cert.Pre_bounded.Gen.facts, kernel_frame, reference_frame,
    reference_frame_bounded, same_results⟩

end Cert.Proof

end
